-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v474) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x8 : Shape := ⟨3, ![8, 1024, 8]⟩
abbrev S8x1024x4 : Shape := ⟨3, ![8, 1024, 4]⟩
abbrev S8x96x8 : Shape := ⟨3, ![8, 96, 8]⟩
abbrev S8x96x4 : Shape := ⟨3, ![8, 96, 4]⟩
abbrev S16x128 : Shape := ⟨2, ![16, 128]⟩
abbrev S128 : Shape := ⟨1, ![128]⟩
abbrev S2x128x128 : Shape := ⟨3, ![2, 128, 128]⟩
abbrev S2x128x3 : Shape := ⟨3, ![2, 128, 3]⟩
abbrev S2x3 : Shape := ⟨2, ![2, 3]⟩
abbrev S2x128 : Shape := ⟨2, ![2, 128]⟩
abbrev S2x128x256 : Shape := ⟨3, ![2, 128, 256]⟩
abbrev S2x256 : Shape := ⟨2, ![2, 256]⟩
abbrev S2x256x128 : Shape := ⟨3, ![2, 256, 128]⟩
abbrev S8192x96 : Shape := ⟨2, ![8192, 96]⟩
abbrev S96 : Shape := ⟨1, ![96]⟩
abbrev S_ : Shape := ⟨0, ![]⟩

class Facts : Prop where
  bcast_S_S8x1024x8 : S_.BroadcastsInDim S8x1024x8 (![] : Fin 0 → Fin S8x1024x8.rank)
  bcast_S_S16x128 : S_.BroadcastsInDim S16x128 (![] : Fin 0 → Fin S16x128.rank)
  bcast_S_S128 : S_.BroadcastsInDim S128 (![] : Fin 0 → Fin S128.rank)
  bcast_S_S2x128x128 : S_.BroadcastsInDim S2x128x128 (![] : Fin 0 → Fin S2x128x128.rank)
  bcast_S_S2x128x3 : S_.BroadcastsInDim S2x128x3 (![] : Fin 0 → Fin S2x128x3.rank)
  bcast_S_S2x3 : S_.BroadcastsInDim S2x3 (![] : Fin 0 → Fin S2x3.rank)
  bcast_S_S2x128 : S_.BroadcastsInDim S2x128 (![] : Fin 0 → Fin S2x128.rank)
  bcast_S_S2x128x256 : S_.BroadcastsInDim S2x128x256 (![] : Fin 0 → Fin S2x128x256.rank)
  bcast_S_S2x256 : S_.BroadcastsInDim S2x256 (![] : Fin 0 → Fin S2x256.rank)
  bcast_S_S2x256x128 : S_.BroadcastsInDim S2x256x128 (![] : Fin 0 → Fin S2x256x128.rank)

variable [Facts]

def fn_part2 {F : FTy → Type} [FloatOps F] (main_arg15 : FVec F S2x256 .f32) (main_arg16 : FVec F S2x256x128 .f32) (main_arg17 : FVec F S2x128 .f32) (main_arg18 : FVec F S2x128 .f32) (main_arg19 : FVec F S2x128 .f32) (main_v2 : IVec S8x1024x8 1) (main_v5 : IVec S16x128 1) (main_v8 : IVec S128 1) (main_v11 : IVec S2x128x128 1) (main_v14 : IVec S2x128x128 1) (main_v17 : IVec S2x128x128 1) (main_v20 : IVec S2x128x128 1) (main_v23 : IVec S2x128x3 1) (main_v26 : IVec S2x3 1) (main_v29 : IVec S2x128 1) (main_v32 : IVec S2x128 1) (main_v35 : IVec S2x128x256 1) : IVec S8x1024x8 1 × IVec S16x128 1 × IVec S128 1 × IVec S2x128x128 1 × IVec S2x128x128 1 × IVec S2x128x128 1 × IVec S2x128x128 1 × IVec S2x128x3 1 × IVec S2x3 1 × IVec S2x128 1 × IVec S2x128 1 × IVec S2x128x256 1 × IVec S2x256 1 × IVec S2x256x128 1 × IVec S2x128 1 × IVec S2x128 1 × IVec S2x128 1 :=
  let main_v36 : FVec F S2x256 .f32 := Host.absf main_arg15
  let main_cst_11 : FVec F S_ .f32 := constant S_ .f32 0x7F800000#32
  let main_v37 : FVec F S2x256 .f32 := broadcastInDim S2x256 ![] bcast_S_S2x256 main_cst_11
  let main_v38 : IVec S2x256 1 := cmpf .olt main_v36 main_v37
  let main_v39 : FVec F S2x256x128 .f32 := Host.absf main_arg16
  let main_cst_12 : FVec F S_ .f32 := constant S_ .f32 0x7F800000#32
  let main_v40 : FVec F S2x256x128 .f32 := broadcastInDim S2x256x128 ![] bcast_S_S2x256x128 main_cst_12
  let main_v41 : IVec S2x256x128 1 := cmpf .olt main_v39 main_v40
  let main_v42 : FVec F S2x128 .f32 := Host.absf main_arg17
  let main_cst_13 : FVec F S_ .f32 := constant S_ .f32 0x7F800000#32
  let main_v43 : FVec F S2x128 .f32 := broadcastInDim S2x128 ![] bcast_S_S2x128 main_cst_13
  let main_v44 : IVec S2x128 1 := cmpf .olt main_v42 main_v43
  let main_v45 : FVec F S2x128 .f32 := Host.absf main_arg18
  let main_cst_14 : FVec F S_ .f32 := constant S_ .f32 0x7F800000#32
  let main_v46 : FVec F S2x128 .f32 := broadcastInDim S2x128 ![] bcast_S_S2x128 main_cst_14
  let main_v47 : IVec S2x128 1 := cmpf .olt main_v45 main_v46
  let main_v48 : FVec F S2x128 .f32 := Host.absf main_arg19
  let main_cst_15 : FVec F S_ .f32 := constant S_ .f32 0x7F800000#32
  let main_v49 : FVec F S2x128 .f32 := broadcastInDim S2x128 ![] bcast_S_S2x128 main_cst_15
  let main_v50 : IVec S2x128 1 := cmpf .olt main_v48 main_v49
  (main_v2, main_v5, main_v8, main_v11, main_v14, main_v17, main_v20, main_v23, main_v26, main_v29, main_v32, main_v35, main_v38, main_v41, main_v44, main_v47, main_v50)

def fn_part1 {F : FTy → Type} [FloatOps F] (main_arg9 : FVec F S2x128x128 .f32) (main_arg10 : FVec F S2x128x3 .f32) (main_arg11 : FVec F S2x3 .f32) (main_arg12 : FVec F S2x128 .f32) (main_arg13 : FVec F S2x128 .f32) (main_arg14 : FVec F S2x128x256 .f32) (main_arg15 : FVec F S2x256 .f32) (main_arg16 : FVec F S2x256x128 .f32) (main_arg17 : FVec F S2x128 .f32) (main_arg18 : FVec F S2x128 .f32) (main_arg19 : FVec F S2x128 .f32) (main_v2 : IVec S8x1024x8 1) (main_v5 : IVec S16x128 1) (main_v8 : IVec S128 1) (main_v11 : IVec S2x128x128 1) (main_v14 : IVec S2x128x128 1) (main_v17 : IVec S2x128x128 1) : IVec S8x1024x8 1 × IVec S16x128 1 × IVec S128 1 × IVec S2x128x128 1 × IVec S2x128x128 1 × IVec S2x128x128 1 × IVec S2x128x128 1 × IVec S2x128x3 1 × IVec S2x3 1 × IVec S2x128 1 × IVec S2x128 1 × IVec S2x128x256 1 × IVec S2x256 1 × IVec S2x256x128 1 × IVec S2x128 1 × IVec S2x128 1 × IVec S2x128 1 :=
  let main_v18 : FVec F S2x128x128 .f32 := Host.absf main_arg9
  let main_cst_5 : FVec F S_ .f32 := constant S_ .f32 0x7F800000#32
  let main_v19 : FVec F S2x128x128 .f32 := broadcastInDim S2x128x128 ![] bcast_S_S2x128x128 main_cst_5
  let main_v20 : IVec S2x128x128 1 := cmpf .olt main_v18 main_v19
  let main_v21 : FVec F S2x128x3 .f32 := Host.absf main_arg10
  let main_cst_6 : FVec F S_ .f32 := constant S_ .f32 0x7F800000#32
  let main_v22 : FVec F S2x128x3 .f32 := broadcastInDim S2x128x3 ![] bcast_S_S2x128x3 main_cst_6
  let main_v23 : IVec S2x128x3 1 := cmpf .olt main_v21 main_v22
  let main_v24 : FVec F S2x3 .f32 := Host.absf main_arg11
  let main_cst_7 : FVec F S_ .f32 := constant S_ .f32 0x7F800000#32
  let main_v25 : FVec F S2x3 .f32 := broadcastInDim S2x3 ![] bcast_S_S2x3 main_cst_7
  let main_v26 : IVec S2x3 1 := cmpf .olt main_v24 main_v25
  let main_v27 : FVec F S2x128 .f32 := Host.absf main_arg12
  let main_cst_8 : FVec F S_ .f32 := constant S_ .f32 0x7F800000#32
  let main_v28 : FVec F S2x128 .f32 := broadcastInDim S2x128 ![] bcast_S_S2x128 main_cst_8
  let main_v29 : IVec S2x128 1 := cmpf .olt main_v27 main_v28
  let main_v30 : FVec F S2x128 .f32 := Host.absf main_arg13
  let main_cst_9 : FVec F S_ .f32 := constant S_ .f32 0x7F800000#32
  let main_v31 : FVec F S2x128 .f32 := broadcastInDim S2x128 ![] bcast_S_S2x128 main_cst_9
  let main_v32 : IVec S2x128 1 := cmpf .olt main_v30 main_v31
  let main_v33 : FVec F S2x128x256 .f32 := Host.absf main_arg14
  let main_cst_10 : FVec F S_ .f32 := constant S_ .f32 0x7F800000#32
  let main_v34 : FVec F S2x128x256 .f32 := broadcastInDim S2x128x256 ![] bcast_S_S2x128x256 main_cst_10
  let main_v35 : IVec S2x128x256 1 := cmpf .olt main_v33 main_v34
  fn_part2 (F := F) main_arg15 main_arg16 main_arg17 main_arg18 main_arg19 main_v2 main_v5 main_v8 main_v11 main_v14 main_v17 main_v20 main_v23 main_v26 main_v29 main_v32 main_v35

def fn {F : FTy → Type} [FloatOps F] (main_arg0 : FVec F S8x1024x8 .f32) (main_arg1 : FVec F S8x1024x4 .f32) (main_arg2 : FVec F S8x96x8 .f32) (main_arg3 : FVec F S8x96x4 .f32) (main_arg4 : FVec F S16x128 .f32) (main_arg5 : FVec F S128 .f32) (main_arg6 : FVec F S2x128x128 .f32) (main_arg7 : FVec F S2x128x128 .f32) (main_arg8 : FVec F S2x128x128 .f32) (main_arg9 : FVec F S2x128x128 .f32) (main_arg10 : FVec F S2x128x3 .f32) (main_arg11 : FVec F S2x3 .f32) (main_arg12 : FVec F S2x128 .f32) (main_arg13 : FVec F S2x128 .f32) (main_arg14 : FVec F S2x128x256 .f32) (main_arg15 : FVec F S2x256 .f32) (main_arg16 : FVec F S2x256x128 .f32) (main_arg17 : FVec F S2x128 .f32) (main_arg18 : FVec F S2x128 .f32) (main_arg19 : FVec F S2x128 .f32) (main_arg20 : FVec F S8192x96 .f32) (main_arg21 : FVec F S96 .f32) : IVec S8x1024x8 1 × IVec S16x128 1 × IVec S128 1 × IVec S2x128x128 1 × IVec S2x128x128 1 × IVec S2x128x128 1 × IVec S2x128x128 1 × IVec S2x128x3 1 × IVec S2x3 1 × IVec S2x128 1 × IVec S2x128 1 × IVec S2x128x256 1 × IVec S2x256 1 × IVec S2x256x128 1 × IVec S2x128 1 × IVec S2x128 1 × IVec S2x128 1 :=
  let main_v0 : FVec F S8x1024x8 .f32 := Host.absf main_arg0
  let main_cst : FVec F S_ .f32 := constant S_ .f32 0x7F800000#32
  let main_v1 : FVec F S8x1024x8 .f32 := broadcastInDim S8x1024x8 ![] bcast_S_S8x1024x8 main_cst
  let main_v2 : IVec S8x1024x8 1 := cmpf .olt main_v0 main_v1
  let main_v3 : FVec F S16x128 .f32 := Host.absf main_arg4
  let main_cst_0 : FVec F S_ .f32 := constant S_ .f32 0x7F800000#32
  let main_v4 : FVec F S16x128 .f32 := broadcastInDim S16x128 ![] bcast_S_S16x128 main_cst_0
  let main_v5 : IVec S16x128 1 := cmpf .olt main_v3 main_v4
  let main_v6 : FVec F S128 .f32 := Host.absf main_arg5
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S2x128x128 .f32 := Host.absf main_arg6
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_v12 : FVec F S2x128x128 .f32 := Host.absf main_arg7
  let main_cst_3 : FVec F S_ .f32 := constant S_ .f32 0x7F800000#32
  let main_v13 : FVec F S2x128x128 .f32 := broadcastInDim S2x128x128 ![] bcast_S_S2x128x128 main_cst_3
  let main_v14 : IVec S2x128x128 1 := cmpf .olt main_v12 main_v13
  let main_v15 : FVec F S2x128x128 .f32 := Host.absf main_arg8
  let main_cst_4 : FVec F S_ .f32 := constant S_ .f32 0x7F800000#32
  let main_v16 : FVec F S2x128x128 .f32 := broadcastInDim S2x128x128 ![] bcast_S_S2x128x128 main_cst_4
  let main_v17 : IVec S2x128x128 1 := cmpf .olt main_v15 main_v16
  fn_part1 (F := F) main_arg9 main_arg10 main_arg11 main_arg12 main_arg13 main_arg14 main_arg15 main_arg16 main_arg17 main_arg18 main_arg19 main_v2 main_v5 main_v8 main_v11 main_v14 main_v17
-- ==== Kernel.lean ====
abbrev S8x1024x8 : Shape := ⟨3, ![8, 1024, 8]⟩
abbrev S8x1024x4 : Shape := ⟨3, ![8, 1024, 4]⟩
abbrev S8x96x8 : Shape := ⟨3, ![8, 96, 8]⟩
abbrev S8x96x4 : Shape := ⟨3, ![8, 96, 4]⟩
abbrev S16x128 : Shape := ⟨2, ![16, 128]⟩
abbrev S128 : Shape := ⟨1, ![128]⟩
abbrev S2x128x128 : Shape := ⟨3, ![2, 128, 128]⟩
abbrev S2x128x3 : Shape := ⟨3, ![2, 128, 3]⟩
abbrev S2x3 : Shape := ⟨2, ![2, 3]⟩
abbrev S2x128 : Shape := ⟨2, ![2, 128]⟩
abbrev S2x128x256 : Shape := ⟨3, ![2, 128, 256]⟩
abbrev S2x256 : Shape := ⟨2, ![2, 256]⟩
abbrev S2x256x128 : Shape := ⟨3, ![2, 256, 128]⟩
abbrev S8192x96 : Shape := ⟨2, ![8192, 96]⟩
abbrev S96 : Shape := ⟨1, ![96]⟩
abbrev S128x512 : Shape := ⟨2, ![128, 512]⟩
abbrev S8x64x16x8 : Shape := ⟨4, ![8, 64, 16, 8]⟩
abbrev S8x16x64x8 : Shape := ⟨4, ![8, 16, 64, 8]⟩
abbrev S8x16x512 : Shape := ⟨3, ![8, 16, 512]⟩
abbrev S128x1 : Shape := ⟨2, ![128, 1]⟩
abbrev S2x3x1 : Shape := ⟨3, ![2, 3, 1]⟩
abbrev S2x128x1 : Shape := ⟨3, ![2, 128, 1]⟩
abbrev S2x256x1 : Shape := ⟨3, ![2, 256, 1]⟩
abbrev S64x128x96 : Shape := ⟨3, ![64, 128, 96]⟩
abbrev S1x96 : Shape := ⟨2, ![1, 96]⟩
abbrev S8x8x96 : Shape := ⟨3, ![8, 8, 96]⟩
abbrev S2x16x512 : Shape := ⟨3, ![2, 16, 512]⟩
abbrev S2x8x96 : Shape := ⟨3, ![2, 8, 96]⟩
abbrev S8x512 : Shape := ⟨2, ![8, 512]⟩
abbrev S512x512 : Shape := ⟨2, ![512, 512]⟩
abbrev S1x16x512 : Shape := ⟨3, ![1, 16, 512]⟩
abbrev S16x512 : Shape := ⟨2, ![16, 512]⟩
abbrev S512 : Shape := ⟨1, ![512]⟩
abbrev S1x512 : Shape := ⟨2, ![1, 512]⟩
abbrev S2x512 : Shape := ⟨2, ![2, 512]⟩
abbrev S2x8 : Shape := ⟨2, ![2, 8]⟩
abbrev S1x8 : Shape := ⟨2, ![1, 8]⟩
abbrev S1x128x128 : Shape := ⟨3, ![1, 128, 128]⟩
abbrev S128x128 : Shape := ⟨2, ![128, 128]⟩
abbrev S1x128x3 : Shape := ⟨3, ![1, 128, 3]⟩
abbrev S128x3 : Shape := ⟨2, ![128, 3]⟩
abbrev S1x3x1 : Shape := ⟨3, ![1, 3, 1]⟩
abbrev S3x1 : Shape := ⟨2, ![3, 1]⟩
abbrev S1x128x1 : Shape := ⟨3, ![1, 128, 1]⟩
abbrev S1x128x256 : Shape := ⟨3, ![1, 128, 256]⟩
abbrev S128x256 : Shape := ⟨2, ![128, 256]⟩
abbrev S1x256x1 : Shape := ⟨3, ![1, 256, 1]⟩
abbrev S256x1 : Shape := ⟨2, ![256, 1]⟩
abbrev S1x256x128 : Shape := ⟨3, ![1, 256, 128]⟩
abbrev S256x128 : Shape := ⟨2, ![256, 128]⟩
abbrev S3x512 : Shape := ⟨2, ![3, 512]⟩
abbrev S17x512 : Shape := ⟨2, ![17, 512]⟩
abbrev S256x512 : Shape := ⟨2, ![256, 512]⟩
abbrev S8x96 : Shape := ⟨2, ![8, 96]⟩
abbrev S128x8 : Shape := ⟨2, ![128, 8]⟩
abbrev S1x128x96 : Shape := ⟨3, ![1, 128, 96]⟩
abbrev S128x96 : Shape := ⟨2, ![128, 96]⟩
abbrev S8x1 : Shape := ⟨2, ![8, 1]⟩
abbrev S1x8x96 : Shape := ⟨3, ![1, 8, 96]⟩

abbrev nBuf : Space → Nat
  | .hbm => 38
  | .vmem => 23
  | .smem => 0
  | _ => 0

abbrev bufTy : (tb : Table) → Fin (tcTables nBuf tb) → BufTy
  | .hbm, ⟨0, _⟩ => ⟨S8x1024x8, .f32⟩
  | .hbm, ⟨1, _⟩ => ⟨S8x1024x4, .f32⟩
  | .hbm, ⟨2, _⟩ => ⟨S8x96x8, .f32⟩
  | .hbm, ⟨3, _⟩ => ⟨S8x96x4, .f32⟩
  | .hbm, ⟨4, _⟩ => ⟨S16x128, .f32⟩
  | .hbm, ⟨5, _⟩ => ⟨S128, .f32⟩
  | .hbm, ⟨6, _⟩ => ⟨S2x128x128, .f32⟩
  | .hbm, ⟨7, _⟩ => ⟨S2x128x128, .f32⟩
  | .hbm, ⟨8, _⟩ => ⟨S2x128x128, .f32⟩
  | .hbm, ⟨9, _⟩ => ⟨S2x128x128, .f32⟩
  | .hbm, ⟨10, _⟩ => ⟨S2x128x3, .f32⟩
  | .hbm, ⟨11, _⟩ => ⟨S2x3, .f32⟩
  | .hbm, ⟨12, _⟩ => ⟨S2x128, .f32⟩
  | .hbm, ⟨13, _⟩ => ⟨S2x128, .f32⟩
  | .hbm, ⟨14, _⟩ => ⟨S2x128x256, .f32⟩
  | .hbm, ⟨15, _⟩ => ⟨S2x256, .f32⟩
  | .hbm, ⟨16, _⟩ => ⟨S2x256x128, .f32⟩
  | .hbm, ⟨17, _⟩ => ⟨S2x128, .f32⟩
  | .hbm, ⟨18, _⟩ => ⟨S2x128, .f32⟩
  | .hbm, ⟨19, _⟩ => ⟨S2x128, .f32⟩
  | .hbm, ⟨20, _⟩ => ⟨S8192x96, .f32⟩
  | .hbm, ⟨21, _⟩ => ⟨S96, .f32⟩
  | .hbm, ⟨22, _⟩ => ⟨S128x512, .f32⟩
  | .hbm, ⟨23, _⟩ => ⟨S8x64x16x8, .f32⟩
  | .hbm, ⟨24, _⟩ => ⟨S8x16x64x8, .f32⟩
  | .hbm, ⟨25, _⟩ => ⟨S8x16x512, .f32⟩
  | .hbm, ⟨26, _⟩ => ⟨S128x1, .f32⟩
  | .hbm, ⟨27, _⟩ => ⟨S2x3x1, .f32⟩
  | .hbm, ⟨28, _⟩ => ⟨S2x128x1, .f32⟩
  | .hbm, ⟨29, _⟩ => ⟨S2x128x1, .f32⟩
  | .hbm, ⟨30, _⟩ => ⟨S2x256x1, .f32⟩
  | .hbm, ⟨31, _⟩ => ⟨S2x128x1, .f32⟩
  | .hbm, ⟨32, _⟩ => ⟨S2x128x1, .f32⟩
  | .hbm, ⟨33, _⟩ => ⟨S2x128x1, .f32⟩
  | .hbm, ⟨34, _⟩ => ⟨S64x128x96, .f32⟩
  | .hbm, ⟨35, _⟩ => ⟨S1x96, .f32⟩
  | .hbm, ⟨36, _⟩ => ⟨S8x8x96, .f32⟩
  | .hbm, ⟨37, _⟩ => ⟨S8x96x8, .f32⟩
  | .local _ .vmem, ⟨0, _⟩ => ⟨S2x16x512, .f32⟩
  | .local _ .vmem, ⟨1, _⟩ => ⟨S2x16x512, .f32⟩
  | .local _ .vmem, ⟨2, _⟩ => ⟨S16x128, .f32⟩
  | .local _ .vmem, ⟨3, _⟩ => ⟨S128x1, .f32⟩
  | .local _ .vmem, ⟨4, _⟩ => ⟨S128x512, .f32⟩
  | .local _ .vmem, ⟨5, _⟩ => ⟨S2x128x128, .f32⟩
  | .local _ .vmem, ⟨6, _⟩ => ⟨S2x128x128, .f32⟩
  | .local _ .vmem, ⟨7, _⟩ => ⟨S2x128x128, .f32⟩
  | .local _ .vmem, ⟨8, _⟩ => ⟨S2x128x128, .f32⟩
  | .local _ .vmem, ⟨9, _⟩ => ⟨S2x128x3, .f32⟩
  | .local _ .vmem, ⟨10, _⟩ => ⟨S2x3x1, .f32⟩
  | .local _ .vmem, ⟨11, _⟩ => ⟨S2x128x1, .f32⟩
  | .local _ .vmem, ⟨12, _⟩ => ⟨S2x128x1, .f32⟩
  | .local _ .vmem, ⟨13, _⟩ => ⟨S2x128x256, .f32⟩
  | .local _ .vmem, ⟨14, _⟩ => ⟨S2x256x1, .f32⟩
  | .local _ .vmem, ⟨15, _⟩ => ⟨S2x256x128, .f32⟩
  | .local _ .vmem, ⟨16, _⟩ => ⟨S2x128x1, .f32⟩
  | .local _ .vmem, ⟨17, _⟩ => ⟨S2x128x1, .f32⟩
  | .local _ .vmem, ⟨18, _⟩ => ⟨S2x128x1, .f32⟩
  | .local _ .vmem, ⟨19, _⟩ => ⟨S64x128x96, .f32⟩
  | .local _ .vmem, ⟨20, _⟩ => ⟨S1x96, .f32⟩
  | .local _ .vmem, ⟨21, _⟩ => ⟨S2x8x96, .f32⟩
  | .local _ .vmem, ⟨22, _⟩ => ⟨S2x8x96, .f32⟩
  | _, _ => ⟨S8x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg20_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem20_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x128x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2x128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64x128x96 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x96 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2x8x96 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceIdeal.lean ====
abbrev S8x1024x8 : Shape := ⟨3, ![8, 1024, 8]⟩
abbrev S8x1024x4 : Shape := ⟨3, ![8, 1024, 4]⟩
abbrev S8x96x8 : Shape := ⟨3, ![8, 96, 8]⟩
abbrev S8x96x4 : Shape := ⟨3, ![8, 96, 4]⟩
abbrev S16x128 : Shape := ⟨2, ![16, 128]⟩
abbrev S128 : Shape := ⟨1, ![128]⟩
abbrev S2x128x128 : Shape := ⟨3, ![2, 128, 128]⟩
abbrev S2x128x3 : Shape := ⟨3, ![2, 128, 3]⟩
abbrev S2x3 : Shape := ⟨2, ![2, 3]⟩
abbrev S2x128 : Shape := ⟨2, ![2, 128]⟩
abbrev S2x128x256 : Shape := ⟨3, ![2, 128, 256]⟩
abbrev S2x256 : Shape := ⟨2, ![2, 256]⟩
abbrev S2x256x128 : Shape := ⟨3, ![2, 256, 128]⟩
abbrev S8192x96 : Shape := ⟨2, ![8192, 96]⟩
abbrev S96 : Shape := ⟨1, ![96]⟩
abbrev S512x128 : Shape := ⟨2, ![512, 128]⟩
abbrev S512x512 : Shape := ⟨2, ![512, 512]⟩
abbrev S_ : Shape := ⟨0, ![]⟩
abbrev S512x1x512 : Shape := ⟨3, ![512, 1, 512]⟩
abbrev S512x3x512 : Shape := ⟨3, ![512, 3, 512]⟩
abbrev S8x8 : Shape := ⟨2, ![8, 8]⟩
abbrev S8x1x8 : Shape := ⟨3, ![8, 1, 8]⟩
abbrev S8x8x1024 : Shape := ⟨3, ![8, 8, 1024]⟩
abbrev S8x8192 : Shape := ⟨2, ![8, 8192]⟩
abbrev S8x512x16 : Shape := ⟨3, ![8, 512, 16]⟩
abbrev S8x512x128 : Shape := ⟨3, ![8, 512, 128]⟩
abbrev S1x1x128 : Shape := ⟨3, ![1, 1, 128]⟩
abbrev S1x512x128 : Shape := ⟨3, ![1, 512, 128]⟩
abbrev S1x128x3 : Shape := ⟨3, ![1, 128, 3]⟩
abbrev S128x3 : Shape := ⟨2, ![128, 3]⟩
abbrev S8x512x3 : Shape := ⟨3, ![8, 512, 3]⟩
abbrev S1x3 : Shape := ⟨2, ![1, 3]⟩
abbrev S3 : Shape := ⟨1, ![3]⟩
abbrev S1x1x3 : Shape := ⟨3, ![1, 1, 3]⟩
abbrev S8x512 : Shape := ⟨2, ![8, 512]⟩
abbrev S8x512x1 : Shape := ⟨3, ![8, 512, 1]⟩
abbrev S8x512x3x1 : Shape := ⟨4, ![8, 512, 3, 1]⟩
abbrev S1x1x1x3 : Shape := ⟨4, ![1, 1, 1, 3]⟩
abbrev S8x512x3x3 : Shape := ⟨4, ![8, 512, 3, 3]⟩
abbrev S8x512x1x3 : Shape := ⟨4, ![8, 512, 1, 3]⟩
abbrev S3x3 : Shape := ⟨2, ![3, 3]⟩
abbrev S1x1x3x3 : Shape := ⟨4, ![1, 1, 3, 3]⟩
abbrev S512x8x512 : Shape := ⟨3, ![512, 8, 512]⟩
abbrev S8x512x512 : Shape := ⟨3, ![8, 512, 512]⟩
abbrev S1x512x512 : Shape := ⟨3, ![1, 512, 512]⟩
abbrev S1x128x128 : Shape := ⟨3, ![1, 128, 128]⟩
abbrev S128x128 : Shape := ⟨2, ![128, 128]⟩
abbrev S8x512x8x16 : Shape := ⟨4, ![8, 512, 8, 16]⟩
abbrev S8x8x512x16 : Shape := ⟨4, ![8, 8, 512, 16]⟩
abbrev S8x8x512x512 : Shape := ⟨4, ![8, 8, 512, 512]⟩
abbrev S8x1x512x512 : Shape := ⟨4, ![8, 1, 512, 512]⟩
abbrev S8x8x512 : Shape := ⟨3, ![8, 8, 512]⟩
abbrev S8x8x512x1 : Shape := ⟨4, ![8, 8, 512, 1]⟩
abbrev S1x128 : Shape := ⟨2, ![1, 128]⟩
abbrev S1x128x256 : Shape := ⟨3, ![1, 128, 256]⟩
abbrev S128x256 : Shape := ⟨2, ![128, 256]⟩
abbrev S8x512x256 : Shape := ⟨3, ![8, 512, 256]⟩
abbrev S1x256 : Shape := ⟨2, ![1, 256]⟩
abbrev S256 : Shape := ⟨1, ![256]⟩
abbrev S1x1x256 : Shape := ⟨3, ![1, 1, 256]⟩
abbrev S1x256x128 : Shape := ⟨3, ![1, 256, 128]⟩
abbrev S256x128 : Shape := ⟨2, ![256, 128]⟩
abbrev S8x8x64x128 : Shape := ⟨4, ![8, 8, 64, 128]⟩
abbrev S8x8x8192 : Shape := ⟨3, ![8, 8, 8192]⟩
abbrev S8x8x96 : Shape := ⟨3, ![8, 8, 96]⟩
abbrev S1x1x96 : Shape := ⟨3, ![1, 1, 96]⟩

abbrev nBuf : Space → Nat
  | .hbm => 582
  | .vmem => 0
  | .smem => 0
  | _ => 0

abbrev hbmTy0_0 (i : Nat) : BufTy := match i % 128 with
  | 0 => ⟨S8x1024x8, .f32⟩
  | 1 => ⟨S8x1024x4, .f32⟩
  | 2 => ⟨S8x96x8, .f32⟩
  | 3 => ⟨S8x96x4, .f32⟩
  | 4 => ⟨S16x128, .f32⟩
  | 5 => ⟨S128, .f32⟩
  | 6 => ⟨S2x128x128, .f32⟩
  | 7 => ⟨S2x128x128, .f32⟩
  | 8 => ⟨S2x128x128, .f32⟩
  | 9 => ⟨S2x128x128, .f32⟩
  | 10 => ⟨S2x128x3, .f32⟩
  | 11 => ⟨S2x3, .f32⟩
  | 12 => ⟨S2x128, .f32⟩
  | 13 => ⟨S2x128, .f32⟩
  | 14 => ⟨S2x128x256, .f32⟩
  | 15 => ⟨S2x256, .f32⟩
  | 16 => ⟨S2x256x128, .f32⟩
  | 17 => ⟨S2x128, .f32⟩
  | 18 => ⟨S2x128, .f32⟩
  | 19 => ⟨S2x128, .f32⟩
  | 20 => ⟨S8192x96, .f32⟩
  | 21 => ⟨S96, .f32⟩
  | 22 => ⟨S512x128, .f32⟩
  | 23 => ⟨S512x512, .i32⟩
  | 24 => ⟨S512x512, .i32⟩
  | 25 => ⟨S_, .i32⟩
  | 26 => ⟨S512x512, .i32⟩
  | 27 => ⟨S512x512, .i32⟩
  | 28 => ⟨S_, .i32⟩
  | 29 => ⟨S512x512, .i32⟩
  | 30 => ⟨S512x512, .i32⟩
  | 31 => ⟨S512x512, .i1⟩
  | 32 => ⟨S512x512, .i1⟩
  | 33 => ⟨S512x512, .i1⟩
  | 34 => ⟨S512x512, .f32⟩
  | 35 => ⟨S_, .i32⟩
  | 36 => ⟨S512x512, .i32⟩
  | 37 => ⟨S512x512, .i32⟩
  | 38 => ⟨S_, .i32⟩
  | 39 => ⟨S512x512, .i32⟩
  | 40 => ⟨S512x512, .i32⟩
  | 41 => ⟨S512x512, .i1⟩
  | 42 => ⟨S512x512, .i1⟩
  | 43 => ⟨S512x512, .i1⟩
  | 44 => ⟨S512x512, .f32⟩
  | 45 => ⟨S512x512, .i1⟩
  | 46 => ⟨S512x512, .f32⟩
  | 47 => ⟨S_, .f32⟩
  | 48 => ⟨S512x512, .f32⟩
  | 49 => ⟨S512x512, .f32⟩
  | 50 => ⟨S512x512, .f32⟩
  | 51 => ⟨S512x512, .f32⟩
  | 52 => ⟨S512x1x512, .f32⟩
  | 53 => ⟨S512x1x512, .f32⟩
  | 54 => ⟨S512x1x512, .f32⟩
  | 55 => ⟨S512x3x512, .f32⟩
  | 56 => ⟨S_, .f32⟩
  | 57 => ⟨S8x8, .f32⟩
  | 58 => ⟨S8x1x8, .f32⟩
  | 59 => ⟨S_, .f32⟩
  | 60 => ⟨S8x1x8, .f32⟩
  | 61 => ⟨S8x1x8, .f32⟩
  | 62 => ⟨S8x1024x8, .f32⟩
  | 63 => ⟨S8x1024x8, .f32⟩
  | 64 => ⟨S8x1024x8, .f32⟩
  | 65 => ⟨S8x1024x8, .f32⟩
  | 66 => ⟨S8x1024x8, .f32⟩
  | 67 => ⟨S_, .f32⟩
  | 68 => ⟨S8x8, .f32⟩
  | 69 => ⟨S8x1x8, .f32⟩
  | 70 => ⟨S_, .f32⟩
  | 71 => ⟨S8x1x8, .f32⟩
  | 72 => ⟨S8x1x8, .f32⟩
  | 73 => ⟨S_, .f32⟩
  | 74 => ⟨S8x1x8, .f32⟩
  | 75 => ⟨S8x1x8, .f32⟩
  | 76 => ⟨S8x1x8, .f32⟩
  | 77 => ⟨S8x1024x8, .f32⟩
  | 78 => ⟨S8x1024x8, .f32⟩
  | 79 => ⟨S8x1024x8, .f32⟩
  | 80 => ⟨S8x1024x8, .f32⟩
  | 81 => ⟨S8x8x1024, .f32⟩
  | 82 => ⟨S8x8192, .f32⟩
  | 83 => ⟨S8x512x16, .f32⟩
  | 84 => ⟨S8x512x128, .f32⟩
  | 85 => ⟨S1x1x128, .f32⟩
  | 86 => ⟨S8x512x128, .f32⟩
  | 87 => ⟨S8x512x128, .f32⟩
  | 88 => ⟨S1x512x128, .f32⟩
  | 89 => ⟨S8x512x128, .f32⟩
  | 90 => ⟨S8x512x128, .f32⟩
  | 91 => ⟨S1x128x3, .f32⟩
  | 92 => ⟨S128x3, .f32⟩
  | 93 => ⟨S8x512x3, .f32⟩
  | 94 => ⟨S1x3, .f32⟩
  | 95 => ⟨S3, .f32⟩
  | 96 => ⟨S1x1x3, .f32⟩
  | 97 => ⟨S8x512x3, .f32⟩
  | 98 => ⟨S8x512x3, .f32⟩
  | 99 => ⟨S_, .f32⟩
  | 100 => ⟨S8x512, .f32⟩
  | 101 => ⟨S_, .f32⟩
  | 102 => ⟨S8x512, .f32⟩
  | 103 => ⟨S8x512, .f32⟩
  | 104 => ⟨S8x512x1, .f32⟩
  | 105 => ⟨S8x512x3, .f32⟩
  | 106 => ⟨S8x512x3, .f32⟩
  | 107 => ⟨S8x512x3, .f32⟩
  | 108 => ⟨S_, .f32⟩
  | 109 => ⟨S8x512, .f32⟩
  | 110 => ⟨S8x512x1, .f32⟩
  | 111 => ⟨S8x512x3, .f32⟩
  | 112 => ⟨S8x512x3, .f32⟩
  | 113 => ⟨S8x512x3, .f32⟩
  | 114 => ⟨S8x512x3, .i32⟩
  | 115 => ⟨S8x512x3, .f32⟩
  | 116 => ⟨S8x512x3, .i32⟩
  | 117 => ⟨S8x512x3x1, .i32⟩
  | 118 => ⟨S3, .i32⟩
  | 119 => ⟨S1x1x1x3, .i32⟩
  | 120 => ⟨S8x512x3x3, .i32⟩
  | 121 => ⟨S8x512x3x3, .i32⟩
  | 122 => ⟨S8x512x3x3, .i1⟩
  | 123 => ⟨S8x512x3x3, .f32⟩
  | 124 => ⟨S8x512x1x3, .f32⟩
  | 125 => ⟨S8x512x3x3, .f32⟩
  | 126 => ⟨S8x512x3x3, .f32⟩
  | 127 => ⟨S_, .f32⟩
  | _ => ⟨S8x1024x8, .f32⟩

abbrev hbmTy0_1 (i : Nat) : BufTy := match i % 128 with
  | 0 => ⟨S8x512x3, .f32⟩
  | 1 => ⟨S3x3, .i32⟩
  | 2 => ⟨S3x3, .i32⟩
  | 3 => ⟨S3x3, .i1⟩
  | 4 => ⟨S8x512x1x3, .f32⟩
  | 5 => ⟨S3x3, .f32⟩
  | 6 => ⟨S1x1x3x3, .f32⟩
  | 7 => ⟨S8x512x3x3, .f32⟩
  | 8 => ⟨S8x512x3x3, .f32⟩
  | 9 => ⟨S8x512x3x3, .f32⟩
  | 10 => ⟨S_, .f32⟩
  | 11 => ⟨S8x512x3, .f32⟩
  | 12 => ⟨S_, .f32⟩
  | 13 => ⟨S8x512x3, .f32⟩
  | 14 => ⟨S8x512x3, .i1⟩
  | 15 => ⟨S8x512x3, .f32⟩
  | 16 => ⟨S8x512x3x1, .f32⟩
  | 17 => ⟨S8x512x3x3, .f32⟩
  | 18 => ⟨S8x512x3x3, .f32⟩
  | 19 => ⟨S_, .f32⟩
  | 20 => ⟨S8x512x3, .f32⟩
  | 21 => ⟨S8x512x3, .f32⟩
  | 22 => ⟨S_, .f32⟩
  | 23 => ⟨S8x512, .f32⟩
  | 24 => ⟨S8x512x1, .f32⟩
  | 25 => ⟨S_, .f32⟩
  | 26 => ⟨S8x512x1, .f32⟩
  | 27 => ⟨S8x512x1, .f32⟩
  | 28 => ⟨S8x512x3, .f32⟩
  | 29 => ⟨S8x512x3, .f32⟩
  | 30 => ⟨S512x8x512, .f32⟩
  | 31 => ⟨S8x512x512, .f32⟩
  | 32 => ⟨S1x512x512, .f32⟩
  | 33 => ⟨S8x512x512, .f32⟩
  | 34 => ⟨S8x512x512, .f32⟩
  | 35 => ⟨S1x128x128, .f32⟩
  | 36 => ⟨S128x128, .f32⟩
  | 37 => ⟨S8x512x128, .f32⟩
  | 38 => ⟨S8x512x8x16, .f32⟩
  | 39 => ⟨S8x8x512x16, .f32⟩
  | 40 => ⟨S1x128x128, .f32⟩
  | 41 => ⟨S128x128, .f32⟩
  | 42 => ⟨S8x512x128, .f32⟩
  | 43 => ⟨S8x512x8x16, .f32⟩
  | 44 => ⟨S8x8x512x16, .f32⟩
  | 45 => ⟨S1x128x128, .f32⟩
  | 46 => ⟨S128x128, .f32⟩
  | 47 => ⟨S8x512x128, .f32⟩
  | 48 => ⟨S8x512x8x16, .f32⟩
  | 49 => ⟨S8x8x512x16, .f32⟩
  | 50 => ⟨S8x8x512x512, .f32⟩
  | 51 => ⟨S_, .f32⟩
  | 52 => ⟨S8x8x512x512, .f32⟩
  | 53 => ⟨S8x8x512x512, .f32⟩
  | 54 => ⟨S8x1x512x512, .f32⟩
  | 55 => ⟨S_, .f32⟩
  | 56 => ⟨S8x1x512x512, .f32⟩
  | 57 => ⟨S8x1x512x512, .i1⟩
  | 58 => ⟨S_, .f32⟩
  | 59 => ⟨S_, .f32⟩
  | 60 => ⟨S8x8x512x512, .i1⟩
  | 61 => ⟨S8x8x512x512, .f32⟩
  | 62 => ⟨S8x8x512x512, .f32⟩
  | 63 => ⟨S_, .f32⟩
  | 64 => ⟨S8x8x512, .f32⟩
  | 65 => ⟨S_, .f32⟩
  | 66 => ⟨S8x8x512, .f32⟩
  | 67 => ⟨S8x8x512, .f32⟩
  | 68 => ⟨S8x8x512x1, .f32⟩
  | 69 => ⟨S8x8x512x512, .f32⟩
  | 70 => ⟨S8x8x512x512, .f32⟩
  | 71 => ⟨S8x8x512x512, .f32⟩
  | 72 => ⟨S_, .f32⟩
  | 73 => ⟨S8x8x512, .f32⟩
  | 74 => ⟨S8x8x512x1, .f32⟩
  | 75 => ⟨S8x8x512x512, .f32⟩
  | 76 => ⟨S8x8x512x512, .f32⟩
  | 77 => ⟨S8x1x512x512, .f32⟩
  | 78 => ⟨S8x8x512x512, .f32⟩
  | 79 => ⟨S8x8x512x512, .f32⟩
  | 80 => ⟨S_, .f32⟩
  | 81 => ⟨S8x8x512, .f32⟩
  | 82 => ⟨S8x8x512x1, .f32⟩
  | 83 => ⟨S_, .f32⟩
  | 84 => ⟨S8x8x512, .f32⟩
  | 85 => ⟨S8x8x512x1, .f32⟩
  | 86 => ⟨S_, .f32⟩
  | 87 => ⟨S8x8x512x1, .f32⟩
  | 88 => ⟨S8x8x512x1, .f32⟩
  | 89 => ⟨S8x8x512x1, .f32⟩
  | 90 => ⟨S8x8x512x512, .f32⟩
  | 91 => ⟨S8x8x512x512, .f32⟩
  | 92 => ⟨S8x8x512x16, .f32⟩
  | 93 => ⟨S8x512x8x16, .f32⟩
  | 94 => ⟨S8x512x128, .f32⟩
  | 95 => ⟨S1x128x128, .f32⟩
  | 96 => ⟨S128x128, .f32⟩
  | 97 => ⟨S8x512x128, .f32⟩
  | 98 => ⟨S8x512x128, .f32⟩
  | 99 => ⟨S1x128, .f32⟩
  | 100 => ⟨S128, .f32⟩
  | 101 => ⟨S1x128, .f32⟩
  | 102 => ⟨S128, .f32⟩
  | 103 => ⟨S_, .f32⟩
  | 104 => ⟨S8x512, .f32⟩
  | 105 => ⟨S8x512x1, .f32⟩
  | 106 => ⟨S_, .f32⟩
  | 107 => ⟨S8x512x1, .f32⟩
  | 108 => ⟨S8x512x1, .f32⟩
  | 109 => ⟨S8x512x128, .f32⟩
  | 110 => ⟨S8x512x128, .f32⟩
  | 111 => ⟨S8x512x128, .f32⟩
  | 112 => ⟨S8x512x128, .f32⟩
  | 113 => ⟨S8x512x128, .f32⟩
  | 114 => ⟨S_, .f32⟩
  | 115 => ⟨S8x512, .f32⟩
  | 116 => ⟨S8x512x1, .f32⟩
  | 117 => ⟨S_, .f32⟩
  | 118 => ⟨S8x512x1, .f32⟩
  | 119 => ⟨S8x512x1, .f32⟩
  | 120 => ⟨S8x512x128, .f32⟩
  | 121 => ⟨S8x512x128, .f32⟩
  | 122 => ⟨S_, .f32⟩
  | 123 => ⟨S8x512x1, .f32⟩
  | 124 => ⟨S8x512x1, .f32⟩
  | 125 => ⟨S8x512x1, .f32⟩
  | 126 => ⟨S8x512x128, .f32⟩
  | 127 => ⟨S8x512x128, .f32⟩
  | _ => ⟨S8x1024x8, .f32⟩

abbrev hbmTy0_2 (i : Nat) : BufTy := match i % 128 with
  | 0 => ⟨S1x1x128, .f32⟩
  | 1 => ⟨S8x512x128, .f32⟩
  | 2 => ⟨S8x512x128, .f32⟩
  | 3 => ⟨S1x1x128, .f32⟩
  | 4 => ⟨S8x512x128, .f32⟩
  | 5 => ⟨S8x512x128, .f32⟩
  | 6 => ⟨S1x128x256, .f32⟩
  | 7 => ⟨S128x256, .f32⟩
  | 8 => ⟨S8x512x256, .f32⟩
  | 9 => ⟨S1x256, .f32⟩
  | 10 => ⟨S256, .f32⟩
  | 11 => ⟨S1x1x256, .f32⟩
  | 12 => ⟨S8x512x256, .f32⟩
  | 13 => ⟨S8x512x256, .f32⟩
  | 14 => ⟨S8x512x256, .f32⟩
  | 15 => ⟨S8x512x256, .f32⟩
  | 16 => ⟨S_, .f32⟩
  | 17 => ⟨S8x512x256, .f32⟩
  | 18 => ⟨S8x512x256, .f32⟩
  | 19 => ⟨S8x512x256, .f32⟩
  | 20 => ⟨S_, .f32⟩
  | 21 => ⟨S8x512x256, .f32⟩
  | 22 => ⟨S8x512x256, .f32⟩
  | 23 => ⟨S8x512x256, .f32⟩
  | 24 => ⟨S_, .f32⟩
  | 25 => ⟨S8x512x256, .f32⟩
  | 26 => ⟨S8x512x256, .f32⟩
  | 27 => ⟨S_, .f32⟩
  | 28 => ⟨S8x512x256, .f32⟩
  | 29 => ⟨S8x512x256, .f32⟩
  | 30 => ⟨S8x512x256, .f32⟩
  | 31 => ⟨S1x256x128, .f32⟩
  | 32 => ⟨S256x128, .f32⟩
  | 33 => ⟨S8x512x128, .f32⟩
  | 34 => ⟨S1x128, .f32⟩
  | 35 => ⟨S128, .f32⟩
  | 36 => ⟨S1x1x128, .f32⟩
  | 37 => ⟨S8x512x128, .f32⟩
  | 38 => ⟨S8x512x128, .f32⟩
  | 39 => ⟨S8x512x128, .f32⟩
  | 40 => ⟨S1x128, .f32⟩
  | 41 => ⟨S128, .f32⟩
  | 42 => ⟨S1x128, .f32⟩
  | 43 => ⟨S128, .f32⟩
  | 44 => ⟨S_, .f32⟩
  | 45 => ⟨S8x512, .f32⟩
  | 46 => ⟨S8x512x1, .f32⟩
  | 47 => ⟨S_, .f32⟩
  | 48 => ⟨S8x512x1, .f32⟩
  | 49 => ⟨S8x512x1, .f32⟩
  | 50 => ⟨S8x512x128, .f32⟩
  | 51 => ⟨S8x512x128, .f32⟩
  | 52 => ⟨S8x512x128, .f32⟩
  | 53 => ⟨S8x512x128, .f32⟩
  | 54 => ⟨S8x512x128, .f32⟩
  | 55 => ⟨S_, .f32⟩
  | 56 => ⟨S8x512, .f32⟩
  | 57 => ⟨S8x512x1, .f32⟩
  | 58 => ⟨S_, .f32⟩
  | 59 => ⟨S8x512x1, .f32⟩
  | 60 => ⟨S8x512x1, .f32⟩
  | 61 => ⟨S8x512x128, .f32⟩
  | 62 => ⟨S8x512x128, .f32⟩
  | 63 => ⟨S_, .f32⟩
  | 64 => ⟨S8x512x1, .f32⟩
  | 65 => ⟨S8x512x1, .f32⟩
  | 66 => ⟨S8x512x1, .f32⟩
  | 67 => ⟨S8x512x128, .f32⟩
  | 68 => ⟨S8x512x128, .f32⟩
  | 69 => ⟨S1x1x128, .f32⟩
  | 70 => ⟨S8x512x128, .f32⟩
  | 71 => ⟨S8x512x128, .f32⟩
  | 72 => ⟨S1x1x128, .f32⟩
  | 73 => ⟨S8x512x128, .f32⟩
  | 74 => ⟨S8x512x128, .f32⟩
  | 75 => ⟨S1x128x3, .f32⟩
  | 76 => ⟨S128x3, .f32⟩
  | 77 => ⟨S8x512x3, .f32⟩
  | 78 => ⟨S1x3, .f32⟩
  | 79 => ⟨S3, .f32⟩
  | 80 => ⟨S1x1x3, .f32⟩
  | 81 => ⟨S8x512x3, .f32⟩
  | 82 => ⟨S8x512x3, .f32⟩
  | 83 => ⟨S_, .f32⟩
  | 84 => ⟨S8x512, .f32⟩
  | 85 => ⟨S_, .f32⟩
  | 86 => ⟨S8x512, .f32⟩
  | 87 => ⟨S8x512, .f32⟩
  | 88 => ⟨S8x512x1, .f32⟩
  | 89 => ⟨S8x512x3, .f32⟩
  | 90 => ⟨S8x512x3, .f32⟩
  | 91 => ⟨S8x512x3, .f32⟩
  | 92 => ⟨S_, .f32⟩
  | 93 => ⟨S8x512, .f32⟩
  | 94 => ⟨S8x512x1, .f32⟩
  | 95 => ⟨S8x512x3, .f32⟩
  | 96 => ⟨S8x512x3, .f32⟩
  | 97 => ⟨S8x512x3, .f32⟩
  | 98 => ⟨S8x512x3, .i32⟩
  | 99 => ⟨S8x512x3, .f32⟩
  | 100 => ⟨S8x512x3, .i32⟩
  | 101 => ⟨S8x512x3x1, .i32⟩
  | 102 => ⟨S3, .i32⟩
  | 103 => ⟨S1x1x1x3, .i32⟩
  | 104 => ⟨S8x512x3x3, .i32⟩
  | 105 => ⟨S8x512x3x3, .i32⟩
  | 106 => ⟨S8x512x3x3, .i1⟩
  | 107 => ⟨S8x512x3x3, .f32⟩
  | 108 => ⟨S8x512x1x3, .f32⟩
  | 109 => ⟨S8x512x3x3, .f32⟩
  | 110 => ⟨S8x512x3x3, .f32⟩
  | 111 => ⟨S_, .f32⟩
  | 112 => ⟨S8x512x3, .f32⟩
  | 113 => ⟨S3x3, .i32⟩
  | 114 => ⟨S3x3, .i32⟩
  | 115 => ⟨S3x3, .i1⟩
  | 116 => ⟨S8x512x1x3, .f32⟩
  | 117 => ⟨S3x3, .f32⟩
  | 118 => ⟨S1x1x3x3, .f32⟩
  | 119 => ⟨S8x512x3x3, .f32⟩
  | 120 => ⟨S8x512x3x3, .f32⟩
  | 121 => ⟨S8x512x3x3, .f32⟩
  | 122 => ⟨S_, .f32⟩
  | 123 => ⟨S8x512x3, .f32⟩
  | 124 => ⟨S_, .f32⟩
  | 125 => ⟨S8x512x3, .f32⟩
  | 126 => ⟨S8x512x3, .i1⟩
  | 127 => ⟨S8x512x3, .f32⟩
  | _ => ⟨S8x1024x8, .f32⟩

abbrev hbmTy0_3 (i : Nat) : BufTy := match i % 128 with
  | 0 => ⟨S8x512x3x1, .f32⟩
  | 1 => ⟨S8x512x3x3, .f32⟩
  | 2 => ⟨S8x512x3x3, .f32⟩
  | 3 => ⟨S_, .f32⟩
  | 4 => ⟨S8x512x3, .f32⟩
  | 5 => ⟨S8x512x3, .f32⟩
  | 6 => ⟨S_, .f32⟩
  | 7 => ⟨S8x512, .f32⟩
  | 8 => ⟨S8x512x1, .f32⟩
  | 9 => ⟨S_, .f32⟩
  | 10 => ⟨S8x512x1, .f32⟩
  | 11 => ⟨S8x512x1, .f32⟩
  | 12 => ⟨S8x512x3, .f32⟩
  | 13 => ⟨S8x512x3, .f32⟩
  | 14 => ⟨S512x8x512, .f32⟩
  | 15 => ⟨S8x512x512, .f32⟩
  | 16 => ⟨S1x512x512, .f32⟩
  | 17 => ⟨S8x512x512, .f32⟩
  | 18 => ⟨S8x512x512, .f32⟩
  | 19 => ⟨S1x128x128, .f32⟩
  | 20 => ⟨S128x128, .f32⟩
  | 21 => ⟨S8x512x128, .f32⟩
  | 22 => ⟨S8x512x8x16, .f32⟩
  | 23 => ⟨S8x8x512x16, .f32⟩
  | 24 => ⟨S1x128x128, .f32⟩
  | 25 => ⟨S128x128, .f32⟩
  | 26 => ⟨S8x512x128, .f32⟩
  | 27 => ⟨S8x512x8x16, .f32⟩
  | 28 => ⟨S8x8x512x16, .f32⟩
  | 29 => ⟨S1x128x128, .f32⟩
  | 30 => ⟨S128x128, .f32⟩
  | 31 => ⟨S8x512x128, .f32⟩
  | 32 => ⟨S8x512x8x16, .f32⟩
  | 33 => ⟨S8x8x512x16, .f32⟩
  | 34 => ⟨S8x8x512x512, .f32⟩
  | 35 => ⟨S_, .f32⟩
  | 36 => ⟨S8x8x512x512, .f32⟩
  | 37 => ⟨S8x8x512x512, .f32⟩
  | 38 => ⟨S8x1x512x512, .f32⟩
  | 39 => ⟨S_, .f32⟩
  | 40 => ⟨S8x1x512x512, .f32⟩
  | 41 => ⟨S8x1x512x512, .i1⟩
  | 42 => ⟨S_, .f32⟩
  | 43 => ⟨S_, .f32⟩
  | 44 => ⟨S8x8x512x512, .i1⟩
  | 45 => ⟨S8x8x512x512, .f32⟩
  | 46 => ⟨S8x8x512x512, .f32⟩
  | 47 => ⟨S_, .f32⟩
  | 48 => ⟨S8x8x512, .f32⟩
  | 49 => ⟨S_, .f32⟩
  | 50 => ⟨S8x8x512, .f32⟩
  | 51 => ⟨S8x8x512, .f32⟩
  | 52 => ⟨S8x8x512x1, .f32⟩
  | 53 => ⟨S8x8x512x512, .f32⟩
  | 54 => ⟨S8x8x512x512, .f32⟩
  | 55 => ⟨S8x8x512x512, .f32⟩
  | 56 => ⟨S_, .f32⟩
  | 57 => ⟨S8x8x512, .f32⟩
  | 58 => ⟨S8x8x512x1, .f32⟩
  | 59 => ⟨S8x8x512x512, .f32⟩
  | 60 => ⟨S8x8x512x512, .f32⟩
  | 61 => ⟨S8x1x512x512, .f32⟩
  | 62 => ⟨S8x8x512x512, .f32⟩
  | 63 => ⟨S8x8x512x512, .f32⟩
  | 64 => ⟨S_, .f32⟩
  | 65 => ⟨S8x8x512, .f32⟩
  | 66 => ⟨S8x8x512x1, .f32⟩
  | 67 => ⟨S_, .f32⟩
  | 68 => ⟨S8x8x512, .f32⟩
  | 69 => ⟨S8x8x512x1, .f32⟩
  | 70 => ⟨S_, .f32⟩
  | 71 => ⟨S8x8x512x1, .f32⟩
  | 72 => ⟨S8x8x512x1, .f32⟩
  | 73 => ⟨S8x8x512x1, .f32⟩
  | 74 => ⟨S8x8x512x512, .f32⟩
  | 75 => ⟨S8x8x512x512, .f32⟩
  | 76 => ⟨S8x8x512x16, .f32⟩
  | 77 => ⟨S8x512x8x16, .f32⟩
  | 78 => ⟨S8x512x128, .f32⟩
  | 79 => ⟨S1x128x128, .f32⟩
  | 80 => ⟨S128x128, .f32⟩
  | 81 => ⟨S8x512x128, .f32⟩
  | 82 => ⟨S8x512x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S8x512, .f32⟩
  | 89 => ⟨S8x512x1, .f32⟩
  | 90 => ⟨S_, .f32⟩
  | 91 => ⟨S8x512x1, .f32⟩
  | 92 => ⟨S8x512x1, .f32⟩
  | 93 => ⟨S8x512x128, .f32⟩
  | 94 => ⟨S8x512x128, .f32⟩
  | 95 => ⟨S8x512x128, .f32⟩
  | 96 => ⟨S8x512x128, .f32⟩
  | 97 => ⟨S8x512x128, .f32⟩
  | 98 => ⟨S_, .f32⟩
  | 99 => ⟨S8x512, .f32⟩
  | 100 => ⟨S8x512x1, .f32⟩
  | 101 => ⟨S_, .f32⟩
  | 102 => ⟨S8x512x1, .f32⟩
  | 103 => ⟨S8x512x1, .f32⟩
  | 104 => ⟨S8x512x128, .f32⟩
  | 105 => ⟨S8x512x128, .f32⟩
  | 106 => ⟨S_, .f32⟩
  | 107 => ⟨S8x512x1, .f32⟩
  | 108 => ⟨S8x512x1, .f32⟩
  | 109 => ⟨S8x512x1, .f32⟩
  | 110 => ⟨S8x512x128, .f32⟩
  | 111 => ⟨S8x512x128, .f32⟩
  | 112 => ⟨S1x1x128, .f32⟩
  | 113 => ⟨S8x512x128, .f32⟩
  | 114 => ⟨S8x512x128, .f32⟩
  | 115 => ⟨S1x1x128, .f32⟩
  | 116 => ⟨S8x512x128, .f32⟩
  | 117 => ⟨S8x512x128, .f32⟩
  | 118 => ⟨S1x128x256, .f32⟩
  | 119 => ⟨S128x256, .f32⟩
  | 120 => ⟨S8x512x256, .f32⟩
  | 121 => ⟨S1x256, .f32⟩
  | 122 => ⟨S256, .f32⟩
  | 123 => ⟨S1x1x256, .f32⟩
  | 124 => ⟨S8x512x256, .f32⟩
  | 125 => ⟨S8x512x256, .f32⟩
  | 126 => ⟨S8x512x256, .f32⟩
  | 127 => ⟨S8x512x256, .f32⟩
  | _ => ⟨S8x1024x8, .f32⟩

abbrev hbmTy0_4 (i : Nat) : BufTy := match i % 128 with
  | 0 => ⟨S_, .f32⟩
  | 1 => ⟨S8x512x256, .f32⟩
  | 2 => ⟨S8x512x256, .f32⟩
  | 3 => ⟨S8x512x256, .f32⟩
  | 4 => ⟨S_, .f32⟩
  | 5 => ⟨S8x512x256, .f32⟩
  | 6 => ⟨S8x512x256, .f32⟩
  | 7 => ⟨S8x512x256, .f32⟩
  | 8 => ⟨S_, .f32⟩
  | 9 => ⟨S8x512x256, .f32⟩
  | 10 => ⟨S8x512x256, .f32⟩
  | 11 => ⟨S_, .f32⟩
  | 12 => ⟨S8x512x256, .f32⟩
  | 13 => ⟨S8x512x256, .f32⟩
  | 14 => ⟨S8x512x256, .f32⟩
  | 15 => ⟨S1x256x128, .f32⟩
  | 16 => ⟨S256x128, .f32⟩
  | 17 => ⟨S8x512x128, .f32⟩
  | 18 => ⟨S1x128, .f32⟩
  | 19 => ⟨S128, .f32⟩
  | 20 => ⟨S1x1x128, .f32⟩
  | 21 => ⟨S8x512x128, .f32⟩
  | 22 => ⟨S8x512x128, .f32⟩
  | 23 => ⟨S8x512x128, .f32⟩
  | 24 => ⟨S1x128, .f32⟩
  | 25 => ⟨S128, .f32⟩
  | 26 => ⟨S1x128, .f32⟩
  | 27 => ⟨S128, .f32⟩
  | 28 => ⟨S_, .f32⟩
  | 29 => ⟨S8x512, .f32⟩
  | 30 => ⟨S8x512x1, .f32⟩
  | 31 => ⟨S_, .f32⟩
  | 32 => ⟨S8x512x1, .f32⟩
  | 33 => ⟨S8x512x1, .f32⟩
  | 34 => ⟨S8x512x128, .f32⟩
  | 35 => ⟨S8x512x128, .f32⟩
  | 36 => ⟨S8x512x128, .f32⟩
  | 37 => ⟨S8x512x128, .f32⟩
  | 38 => ⟨S8x512x128, .f32⟩
  | 39 => ⟨S_, .f32⟩
  | 40 => ⟨S8x512, .f32⟩
  | 41 => ⟨S8x512x1, .f32⟩
  | 42 => ⟨S_, .f32⟩
  | 43 => ⟨S8x512x1, .f32⟩
  | 44 => ⟨S8x512x1, .f32⟩
  | 45 => ⟨S8x512x128, .f32⟩
  | 46 => ⟨S8x512x128, .f32⟩
  | 47 => ⟨S_, .f32⟩
  | 48 => ⟨S8x512x1, .f32⟩
  | 49 => ⟨S8x512x1, .f32⟩
  | 50 => ⟨S8x512x1, .f32⟩
  | 51 => ⟨S8x512x128, .f32⟩
  | 52 => ⟨S8x512x128, .f32⟩
  | 53 => ⟨S1x1x128, .f32⟩
  | 54 => ⟨S8x512x128, .f32⟩
  | 55 => ⟨S8x512x128, .f32⟩
  | 56 => ⟨S1x1x128, .f32⟩
  | 57 => ⟨S8x512x128, .f32⟩
  | 58 => ⟨S8x512x128, .f32⟩
  | 59 => ⟨S8x8x64x128, .f32⟩
  | 60 => ⟨S8x8x8192, .f32⟩
  | 61 => ⟨S8x8x96, .f32⟩
  | 62 => ⟨S1x1x96, .f32⟩
  | 63 => ⟨S8x8x96, .f32⟩
  | 64 => ⟨S8x8x96, .f32⟩
  | 65 => ⟨S8x96x8, .f32⟩
  | 66 => ⟨S8x96x8, .f32⟩
  | 67 => ⟨S8x96x8, .f32⟩
  | 68 => ⟨S8x96x8, .f32⟩
  | 69 => ⟨S8x96x8, .f32⟩
  | _ => ⟨S8x1024x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x1024x8, .f32⟩

abbrev bufTy : (tb : Table) → Fin (tcTables nBuf tb) → BufTy
  | .hbm, ⟨i, _⟩ => hbmTy i
  | _, _ => ⟨S8x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_c : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_6 : Ref sig .tc := ⟨.hbm, 67, rfl⟩
abbrev main_v37 : Ref sig .tc := ⟨.hbm, 68, rfl⟩
abbrev main_v38 : Ref sig .tc := ⟨.hbm, 69, rfl⟩
abbrev main_cst_7 : Ref sig .tc := ⟨.hbm, 70, rfl⟩
abbrev main_v39 : Ref sig .tc := ⟨.hbm, 71, rfl⟩
abbrev main_v40 : Ref sig .tc := ⟨.hbm, 72, rfl⟩
abbrev main_cst_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_cst_10 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_call0_v0 : Ref sig .tc := ⟨.hbm, 114, rfl⟩
abbrev main_call0_v1_0 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_12 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_13 : Ref sig .tc := ⟨.hbm, 138, rfl⟩
abbrev main_v99 : Ref sig .tc := ⟨.hbm, 139, rfl⟩
abbrev main_cst_14 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_15 : Ref sig .tc := ⟨.hbm, 147, rfl⟩
abbrev main_v106 : Ref sig .tc := ⟨.hbm, 148, rfl⟩
abbrev main_v107 : Ref sig .tc := ⟨.hbm, 149, rfl⟩
abbrev main_cst_16 : Ref sig .tc := ⟨.hbm, 150, rfl⟩
abbrev main_v108 : Ref sig .tc := ⟨.hbm, 151, rfl⟩
abbrev main_v109 : Ref sig .tc := ⟨.hbm, 152, rfl⟩
abbrev main_cst_17 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_18 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_19 : Ref sig .tc := ⟨.hbm, 183, rfl⟩
abbrev main_v138 : Ref sig .tc := ⟨.hbm, 184, rfl⟩
abbrev main_v139 : Ref sig .tc := ⟨.hbm, 185, rfl⟩
abbrev main_cst_20 : Ref sig .tc := ⟨.hbm, 186, rfl⟩
abbrev main_call1_v0 : Ref sig .tc := ⟨.hbm, 187, rfl⟩
abbrev main_call1_v1 : Ref sig .tc := ⟨.hbm, 188, rfl⟩
abbrev main_call1_v2 : Ref sig .tc := ⟨.hbm, 189, rfl⟩
abbrev main_v140 : Ref sig .tc := ⟨.hbm, 190, rfl⟩
abbrev main_cst_21 : Ref sig .tc := ⟨.hbm, 191, rfl⟩
abbrev main_v141 : Ref sig .tc := ⟨.hbm, 192, rfl⟩
abbrev main_cst_22 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_23 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_cst_24 : Ref sig .tc := ⟨.hbm, 208, rfl⟩
abbrev main_v155 : Ref sig .tc := ⟨.hbm, 209, rfl⟩
abbrev main_v156 : Ref sig .tc := ⟨.hbm, 210, rfl⟩
abbrev main_cst_25 : Ref sig .tc := ⟨.hbm, 211, rfl⟩
abbrev main_v157 : Ref sig .tc := ⟨.hbm, 212, rfl⟩
abbrev main_v158 : Ref sig .tc := ⟨.hbm, 213, rfl⟩
abbrev main_cst_26 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_cst_27 : Ref sig .tc := ⟨.hbm, 231, rfl⟩
abbrev main_v175 : Ref sig .tc := ⟨.hbm, 232, rfl⟩
abbrev main_v176 : Ref sig .tc := ⟨.hbm, 233, rfl⟩
abbrev main_cst_28 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_29 : Ref sig .tc := ⟨.hbm, 242, rfl⟩
abbrev main_v184 : Ref sig .tc := ⟨.hbm, 243, rfl⟩
abbrev main_v185 : Ref sig .tc := ⟨.hbm, 244, rfl⟩
abbrev main_cst_30 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_cst_31 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_cst_32 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_cst_33 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_cst_34 : Ref sig .tc := ⟨.hbm, 280, rfl⟩
abbrev main_v217 : Ref sig .tc := ⟨.hbm, 281, rfl⟩
abbrev main_v218 : Ref sig .tc := ⟨.hbm, 282, rfl⟩
abbrev main_cst_35 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_cst_36 : Ref sig .tc := ⟨.hbm, 300, rfl⟩
abbrev main_v235 : Ref sig .tc := ⟨.hbm, 301, rfl⟩
abbrev main_v236 : Ref sig .tc := ⟨.hbm, 302, rfl⟩
abbrev main_cst_37 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_cst_38 : Ref sig .tc := ⟨.hbm, 311, rfl⟩
abbrev main_v244 : Ref sig .tc := ⟨.hbm, 312, rfl⟩
abbrev main_v245 : Ref sig .tc := ⟨.hbm, 313, rfl⟩
abbrev main_cst_39 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_cst_40 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_cst_41 : Ref sig .tc := ⟨.hbm, 339, rfl⟩
abbrev main_v269 : Ref sig .tc := ⟨.hbm, 340, rfl⟩
abbrev main_cst_42 : Ref sig .tc := ⟨.hbm, 341, rfl⟩
abbrev main_v270 : Ref sig .tc := ⟨.hbm, 342, rfl⟩
abbrev main_v271 : Ref sig .tc := ⟨.hbm, 343, rfl⟩
abbrev main_v272 : Ref sig .tc := ⟨.hbm, 344, rfl⟩
abbrev main_v273 : Ref sig .tc := ⟨.hbm, 345, rfl⟩
abbrev main_v274 : Ref sig .tc := ⟨.hbm, 346, rfl⟩
abbrev main_v275 : Ref sig .tc := ⟨.hbm, 347, rfl⟩
abbrev main_cst_43 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_call2_v0 : Ref sig .tc := ⟨.hbm, 354, rfl⟩
abbrev main_call2_v1_0 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_cst_44 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_v297 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_cst_45 : Ref sig .tc := ⟨.hbm, 378, rfl⟩
abbrev main_v302 : Ref sig .tc := ⟨.hbm, 379, rfl⟩
abbrev main_cst_46 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_cst_47 : Ref sig .tc := ⟨.hbm, 387, rfl⟩
abbrev main_v309 : Ref sig .tc := ⟨.hbm, 388, rfl⟩
abbrev main_v310 : Ref sig .tc := ⟨.hbm, 389, rfl⟩
abbrev main_cst_48 : Ref sig .tc := ⟨.hbm, 390, rfl⟩
abbrev main_v311 : Ref sig .tc := ⟨.hbm, 391, rfl⟩
abbrev main_v312 : Ref sig .tc := ⟨.hbm, 392, rfl⟩
abbrev main_cst_49 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_v317 : Ref sig .tc := ⟨.hbm, 398, rfl⟩
abbrev main_v318 : Ref sig .tc := ⟨.hbm, 399, rfl⟩
abbrev main_v319 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_cst_50 : Ref sig .tc := ⟨.hbm, 419, rfl⟩
abbrev main_v338 : Ref sig .tc := ⟨.hbm, 420, rfl⟩
abbrev main_v339 : Ref sig .tc := ⟨.hbm, 421, rfl⟩
abbrev main_v340 : Ref sig .tc := ⟨.hbm, 422, rfl⟩
abbrev main_cst_51 : Ref sig .tc := ⟨.hbm, 423, rfl⟩
abbrev main_v341 : Ref sig .tc := ⟨.hbm, 424, rfl⟩
abbrev main_v342 : Ref sig .tc := ⟨.hbm, 425, rfl⟩
abbrev main_cst_52 : Ref sig .tc := ⟨.hbm, 426, rfl⟩
abbrev main_call3_v0 : Ref sig .tc := ⟨.hbm, 427, rfl⟩
abbrev main_call3_v1 : Ref sig .tc := ⟨.hbm, 428, rfl⟩
abbrev main_call3_v2 : Ref sig .tc := ⟨.hbm, 429, rfl⟩
abbrev main_v343 : Ref sig .tc := ⟨.hbm, 430, rfl⟩
abbrev main_cst_53 : Ref sig .tc := ⟨.hbm, 431, rfl⟩
abbrev main_v344 : Ref sig .tc := ⟨.hbm, 432, rfl⟩
abbrev main_cst_54 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_cst_55 : Ref sig .tc := ⟨.hbm, 440, rfl⟩
abbrev main_v351 : Ref sig .tc := ⟨.hbm, 441, rfl⟩
abbrev main_v352 : Ref sig .tc := ⟨.hbm, 442, rfl⟩
abbrev main_v353 : Ref sig .tc := ⟨.hbm, 443, rfl⟩
abbrev main_v354 : Ref sig .tc := ⟨.hbm, 444, rfl⟩
abbrev main_v355 : Ref sig .tc := ⟨.hbm, 445, rfl⟩
abbrev main_v356 : Ref sig .tc := ⟨.hbm, 446, rfl⟩
abbrev main_v357 : Ref sig .tc := ⟨.hbm, 447, rfl⟩
abbrev main_cst_56 : Ref sig .tc := ⟨.hbm, 448, rfl⟩
abbrev main_v358 : Ref sig .tc := ⟨.hbm, 449, rfl⟩
abbrev main_v359 : Ref sig .tc := ⟨.hbm, 450, rfl⟩
abbrev main_cst_57 : Ref sig .tc := ⟨.hbm, 451, rfl⟩
abbrev main_v360 : Ref sig .tc := ⟨.hbm, 452, rfl⟩
abbrev main_v361 : Ref sig .tc := ⟨.hbm, 453, rfl⟩
abbrev main_cst_58 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_v365 : Ref sig .tc := ⟨.hbm, 458, rfl⟩
abbrev main_v366 : Ref sig .tc := ⟨.hbm, 459, rfl⟩
abbrev main_v367 : Ref sig .tc := ⟨.hbm, 460, rfl⟩
abbrev main_v368 : Ref sig .tc := ⟨.hbm, 461, rfl⟩
abbrev main_v369 : Ref sig .tc := ⟨.hbm, 462, rfl⟩
abbrev main_v370 : Ref sig .tc := ⟨.hbm, 463, rfl⟩
abbrev main_v371 : Ref sig .tc := ⟨.hbm, 464, rfl⟩
abbrev main_v372 : Ref sig .tc := ⟨.hbm, 465, rfl⟩
abbrev main_v373 : Ref sig .tc := ⟨.hbm, 466, rfl⟩
abbrev main_v374 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_cst_59 : Ref sig .tc := ⟨.hbm, 471, rfl⟩
abbrev main_v378 : Ref sig .tc := ⟨.hbm, 472, rfl⟩
abbrev main_v379 : Ref sig .tc := ⟨.hbm, 473, rfl⟩
abbrev main_cst_60 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_cst_61 : Ref sig .tc := ⟨.hbm, 482, rfl⟩
abbrev main_v387 : Ref sig .tc := ⟨.hbm, 483, rfl⟩
abbrev main_v388 : Ref sig .tc := ⟨.hbm, 484, rfl⟩
abbrev main_cst_62 : Ref sig .tc := ⟨.hbm, 485, rfl⟩
abbrev main_v389 : Ref sig .tc := ⟨.hbm, 486, rfl⟩
abbrev main_v390 : Ref sig .tc := ⟨.hbm, 487, rfl⟩
abbrev main_v391 : Ref sig .tc := ⟨.hbm, 488, rfl⟩
abbrev main_v392 : Ref sig .tc := ⟨.hbm, 489, rfl⟩
abbrev main_cst_63 : Ref sig .tc := ⟨.hbm, 490, rfl⟩
abbrev main_v393 : Ref sig .tc := ⟨.hbm, 491, rfl⟩
abbrev main_v394 : Ref sig .tc := ⟨.hbm, 492, rfl⟩
abbrev main_v395 : Ref sig .tc := ⟨.hbm, 493, rfl⟩
abbrev main_v396 : Ref sig .tc := ⟨.hbm, 494, rfl⟩
abbrev main_v397 : Ref sig .tc := ⟨.hbm, 495, rfl⟩
abbrev main_v398 : Ref sig .tc := ⟨.hbm, 496, rfl⟩
abbrev main_v399 : Ref sig .tc := ⟨.hbm, 497, rfl⟩
abbrev main_v400 : Ref sig .tc := ⟨.hbm, 498, rfl⟩
abbrev main_v401 : Ref sig .tc := ⟨.hbm, 499, rfl⟩
abbrev main_v402 : Ref sig .tc := ⟨.hbm, 500, rfl⟩
abbrev main_v403 : Ref sig .tc := ⟨.hbm, 501, rfl⟩
abbrev main_v404 : Ref sig .tc := ⟨.hbm, 502, rfl⟩
abbrev main_v405 : Ref sig .tc := ⟨.hbm, 503, rfl⟩
abbrev main_v406 : Ref sig .tc := ⟨.hbm, 504, rfl⟩
abbrev main_v407 : Ref sig .tc := ⟨.hbm, 505, rfl⟩
abbrev main_v408 : Ref sig .tc := ⟨.hbm, 506, rfl⟩
abbrev main_v409 : Ref sig .tc := ⟨.hbm, 507, rfl⟩
abbrev main_v410 : Ref sig .tc := ⟨.hbm, 508, rfl⟩
abbrev main_v411 : Ref sig .tc := ⟨.hbm, 509, rfl⟩
abbrev main_v412 : Ref sig .tc := ⟨.hbm, 510, rfl⟩
abbrev main_v413 : Ref sig .tc := ⟨.hbm, 511, rfl⟩
abbrev main_cst_64 : Ref sig .tc := ⟨.hbm, 512, rfl⟩
abbrev main_v414 : Ref sig .tc := ⟨.hbm, 513, rfl⟩
abbrev main_v415 : Ref sig .tc := ⟨.hbm, 514, rfl⟩
abbrev main_v416 : Ref sig .tc := ⟨.hbm, 515, rfl⟩
abbrev main_cst_65 : Ref sig .tc := ⟨.hbm, 516, rfl⟩
abbrev main_v417 : Ref sig .tc := ⟨.hbm, 517, rfl⟩
abbrev main_v418 : Ref sig .tc := ⟨.hbm, 518, rfl⟩
abbrev main_v419 : Ref sig .tc := ⟨.hbm, 519, rfl⟩
abbrev main_cst_66 : Ref sig .tc := ⟨.hbm, 520, rfl⟩
abbrev main_v420 : Ref sig .tc := ⟨.hbm, 521, rfl⟩
abbrev main_v421 : Ref sig .tc := ⟨.hbm, 522, rfl⟩
abbrev main_cst_67 : Ref sig .tc := ⟨.hbm, 523, rfl⟩
abbrev main_v422 : Ref sig .tc := ⟨.hbm, 524, rfl⟩
abbrev main_v423 : Ref sig .tc := ⟨.hbm, 525, rfl⟩
abbrev main_v424 : Ref sig .tc := ⟨.hbm, 526, rfl⟩
abbrev main_v425 : Ref sig .tc := ⟨.hbm, 527, rfl⟩
abbrev main_v426 : Ref sig .tc := ⟨.hbm, 528, rfl⟩
abbrev main_v427 : Ref sig .tc := ⟨.hbm, 529, rfl⟩
abbrev main_v428 : Ref sig .tc := ⟨.hbm, 530, rfl⟩
abbrev main_v429 : Ref sig .tc := ⟨.hbm, 531, rfl⟩
abbrev main_v430 : Ref sig .tc := ⟨.hbm, 532, rfl⟩
abbrev main_v431 : Ref sig .tc := ⟨.hbm, 533, rfl⟩
abbrev main_v432 : Ref sig .tc := ⟨.hbm, 534, rfl⟩
abbrev main_v433 : Ref sig .tc := ⟨.hbm, 535, rfl⟩
abbrev main_v434 : Ref sig .tc := ⟨.hbm, 536, rfl⟩
abbrev main_v435 : Ref sig .tc := ⟨.hbm, 537, rfl⟩
abbrev main_v436 : Ref sig .tc := ⟨.hbm, 538, rfl⟩
abbrev main_v437 : Ref sig .tc := ⟨.hbm, 539, rfl⟩
abbrev main_cst_68 : Ref sig .tc := ⟨.hbm, 540, rfl⟩
abbrev main_v438 : Ref sig .tc := ⟨.hbm, 541, rfl⟩
abbrev main_v439 : Ref sig .tc := ⟨.hbm, 542, rfl⟩
abbrev main_cst_69 : Ref sig .tc := ⟨.hbm, 543, rfl⟩
abbrev main_v440 : Ref sig .tc := ⟨.hbm, 544, rfl⟩
abbrev main_v441 : Ref sig .tc := ⟨.hbm, 545, rfl⟩
abbrev main_v442 : Ref sig .tc := ⟨.hbm, 546, rfl⟩
abbrev main_v443 : Ref sig .tc := ⟨.hbm, 547, rfl⟩
abbrev main_v444 : Ref sig .tc := ⟨.hbm, 548, rfl⟩
abbrev main_v445 : Ref sig .tc := ⟨.hbm, 549, rfl⟩
abbrev main_v446 : Ref sig .tc := ⟨.hbm, 550, rfl⟩
abbrev main_cst_70 : Ref sig .tc := ⟨.hbm, 551, rfl⟩
abbrev main_v447 : Ref sig .tc := ⟨.hbm, 552, rfl⟩
abbrev main_v448 : Ref sig .tc := ⟨.hbm, 553, rfl⟩
abbrev main_cst_71 : Ref sig .tc := ⟨.hbm, 554, rfl⟩
abbrev main_v449 : Ref sig .tc := ⟨.hbm, 555, rfl⟩
abbrev main_v450 : Ref sig .tc := ⟨.hbm, 556, rfl⟩
abbrev main_v451 : Ref sig .tc := ⟨.hbm, 557, rfl⟩
abbrev main_v452 : Ref sig .tc := ⟨.hbm, 558, rfl⟩
abbrev main_cst_72 : Ref sig .tc := ⟨.hbm, 559, rfl⟩
abbrev main_v453 : Ref sig .tc := ⟨.hbm, 560, rfl⟩
abbrev main_v454 : Ref sig .tc := ⟨.hbm, 561, rfl⟩
abbrev main_v455 : Ref sig .tc := ⟨.hbm, 562, rfl⟩
abbrev main_v456 : Ref sig .tc := ⟨.hbm, 563, rfl⟩
abbrev main_v457 : Ref sig .tc := ⟨.hbm, 564, rfl⟩
abbrev main_v458 : Ref sig .tc := ⟨.hbm, 565, rfl⟩
abbrev main_v459 : Ref sig .tc := ⟨.hbm, 566, rfl⟩
abbrev main_v460 : Ref sig .tc := ⟨.hbm, 567, rfl⟩
abbrev main_v461 : Ref sig .tc := ⟨.hbm, 568, rfl⟩
abbrev main_v462 : Ref sig .tc := ⟨.hbm, 569, rfl⟩
abbrev main_v463 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_v467 : Ref sig .tc := ⟨.hbm, 574, rfl⟩
abbrev main_v468 : Ref sig .tc := ⟨.hbm, 575, rfl⟩
abbrev main_v469 : Ref sig .tc := ⟨.hbm, 576, rfl⟩
abbrev main_v470 : Ref sig .tc := ⟨.hbm, 577, rfl⟩
abbrev main_v471 : Ref sig .tc := ⟨.hbm, 578, rfl⟩
abbrev main_v472 : Ref sig .tc := ⟨.hbm, 579, rfl⟩
abbrev main_v473 : Ref sig .tc := ⟨.hbm, 580, rfl⟩
abbrev main_v474 : Ref sig .tc := ⟨.hbm, 581, rfl⟩

abbrev nD : Nat := 1
abbrev τ : Topo := Topo.v7x

variable {F : FTy → Type} [FloatOps F]
-- ==== Proof.TableWord.lean ====
module

public import proofs.«01_k».proof.KernelIdeal
public import proofs.«01_k».proof.ReferenceIdeal
public import Idealize.ShloMosaic.PureOps.Ideal

@[expose] public section

/-! # What is compared of the two programs' position tables -/

noncomputable section

namespace Patch

open Idealize Idealize.ShloMosaic

/-- The kernel's table at token `k` and feature `d` is the reference's at the token's place there, and is finite. -/
abbrev TableAt (k d : ℕ) : Prop :=
  Cert.KernelIdeal.lit0t (d * 512 + k) = Cert.ReferenceIdeal.lit0t ((k % 8 * 64 + k / 8) * 128 + d)
    ∧ (Cert.KernelIdeal.lit0t (d * 512 + k)).toNat % 2147483648 < 2139095040

/-- A word below the pattern of infinity, its sign aside, is a real number. -/
theorem word_real (b : BitVec 32) (h : b.toNat % 2147483648 < 2139095040) : ∃ r : ℝ, Ideal.ofBits .f32 b = (r : EReal) := by
  have hx : (b.extractLsb' 23 8).toNat ≠ 255 := by
    rw [BitVec.extractLsb'_toNat, Nat.shiftRight_eq_div_pow]
    omega
  unfold Ideal.ofBits Ideal.ieee
  simp only []
  rw [if_neg (show ¬ (b.extractLsb' 23 8).toNat = 2 ^ 8 - 1 from hx)]
  split_ifs
  all_goals exact ⟨_, rfl⟩

end Patch
-- ==== Proof.TableA.lean ====
module

public import proofs.«01_k».proof.Proof.TableWord

@[expose] public section

set_option maxRecDepth 16384
set_option maxHeartbeats 0

/-! # The position tables at tokens 0 to 63 -/

namespace Patch

/-- The tables agree at these tokens. -/
theorem tableA : ∀ k : Fin 64, ∀ d : Fin 128, TableAt (0 + k.val) d.val := by
  decide +kernel

end Patch
-- ==== Proof.TableB.lean ====
module

public import proofs.«01_k».proof.Proof.TableA

@[expose] public section

set_option maxRecDepth 16384
set_option maxHeartbeats 0

/-! # The position tables at tokens 64 to 127 -/

namespace Patch

/-- The tables agree at these tokens. -/
theorem tableB : ∀ k : Fin 64, ∀ d : Fin 128, TableAt (64 + k.val) d.val := by
  decide +kernel

end Patch
-- ==== Proof.TableC.lean ====
module

public import proofs.«01_k».proof.Proof.TableB

@[expose] public section

set_option maxRecDepth 16384
set_option maxHeartbeats 0

/-! # The position tables at tokens 128 to 191 -/

namespace Patch

/-- The tables agree at these tokens. -/
theorem tableC : ∀ k : Fin 64, ∀ d : Fin 128, TableAt (128 + k.val) d.val := by
  decide +kernel

end Patch
-- ==== Proof.TableD.lean ====
module

public import proofs.«01_k».proof.Proof.TableC

@[expose] public section

set_option maxRecDepth 16384
set_option maxHeartbeats 0

/-! # The position tables at tokens 192 to 255 -/

namespace Patch

/-- The tables agree at these tokens. -/
theorem tableD : ∀ k : Fin 64, ∀ d : Fin 128, TableAt (192 + k.val) d.val := by
  decide +kernel

end Patch
-- ==== Proof.TableE.lean ====
module

public import proofs.«01_k».proof.Proof.TableD

@[expose] public section

set_option maxRecDepth 16384
set_option maxHeartbeats 0

/-! # The position tables at tokens 256 to 319 -/

namespace Patch

/-- The tables agree at these tokens. -/
theorem tableE : ∀ k : Fin 64, ∀ d : Fin 128, TableAt (256 + k.val) d.val := by
  decide +kernel

end Patch
-- ==== Proof.TableF.lean ====
module

public import proofs.«01_k».proof.Proof.TableE

@[expose] public section

set_option maxRecDepth 16384
set_option maxHeartbeats 0

/-! # The position tables at tokens 320 to 383 -/

namespace Patch

/-- The tables agree at these tokens. -/
theorem tableF : ∀ k : Fin 64, ∀ d : Fin 128, TableAt (320 + k.val) d.val := by
  decide +kernel

end Patch
-- ==== Proof.TableG.lean ====
module

public import proofs.«01_k».proof.Proof.TableF

@[expose] public section

set_option maxRecDepth 16384
set_option maxHeartbeats 0

/-! # The position tables at tokens 384 to 447 -/

namespace Patch

/-- The tables agree at these tokens. -/
theorem tableG : ∀ k : Fin 64, ∀ d : Fin 128, TableAt (384 + k.val) d.val := by
  decide +kernel

end Patch
-- ==== Proof.TableH.lean ====
module

public import proofs.«01_k».proof.Proof.TableG

@[expose] public section

set_option maxRecDepth 16384
set_option maxHeartbeats 0

/-! # The position tables at tokens 448 to 511 -/

namespace Patch

/-- The tables agree at these tokens. -/
theorem tableH : ∀ k : Fin 64, ∀ d : Fin 128, TableAt (448 + k.val) d.val := by
  decide +kernel

end Patch
-- ==== Proof.Spec.lean ====
module

public import Mathlib.Analysis.SpecialFunctions.Log.Basic
public import Mathlib.Analysis.SpecialFunctions.Trigonometric.Basic
public import Mathlib.Tactic.FieldSimp
public import Mathlib.Tactic.Linarith
public import Mathlib.Tactic.NormNum
public import Mathlib.Tactic.Positivity
public import Mathlib.Tactic.Ring

@[expose] public section

/-! # The patch transformer over the reals: what both programs compute of one batch entry -/

noncomputable section

namespace Patch

open scoped BigOperators

/-- The single-precision number nearest `1e-5`. -/
def e5 : ℝ := 10995116 / 2 ^ 40
/-- The single-precision number nearest `1e-9`. -/
def e9 : ℝ := 9007199 / 2 ^ 53
/-- The single-precision number nearest `sqrt (2 / pi)`. -/
def g0 : ℝ := 13386282 / 2 ^ 24
/-- The single-precision number nearest `0.044715`. -/
def g1 : ℝ := 12003091 / 2 ^ 28

theorem e5_pos : 0 < e5 := by unfold e5; norm_num
theorem e9_pos : 0 < e9 := by unfold e9; norm_num

/-- The channel of a token. -/
def chan (k : Fin 512) : Fin 8 := ⟨k.val / 64, by omega⟩
/-- The patch number of a token. -/
def patch (k : Fin 512) : Fin 64 := ⟨k.val % 64, by omega⟩
/-- The token of a channel and a patch number. -/
def tok (c : Fin 8) (n : Fin 64) : Fin 512 := ⟨c.val * 64 + n.val, by omega⟩

theorem chan_tok (c : Fin 8) (n : Fin 64) : chan (tok c n) = c := by
  apply Fin.ext; simp only [chan, tok]; omega
theorem patch_tok (c : Fin 8) (n : Fin 64) : patch (tok c n) = n := by
  apply Fin.ext; simp only [patch, tok]; omega

/-- Position `j` of head `h` among the 128 features. -/
def hd (h : Fin 8) (j : Fin 16) : Fin 128 := ⟨h.val * 16 + j.val, by omega⟩
/-- Time step `p` of patch `n`. -/
def step (n : Fin 64) (p : Fin 16) : Fin 1024 := ⟨n.val * 16 + p.val, by omega⟩

/-- The arithmetic mean. -/
def meanOf {n : ℕ} (f : Fin n → ℝ) : ℝ := (∑ i, f i) / n
/-- The variance. -/
def varOf {n : ℕ} (f : Fin n → ℝ) : ℝ := (∑ i, (f i - meanOf f) * (f i - meanOf f)) / n

theorem varOf_nonneg {n : ℕ} (f : Fin n → ℝ) : 0 ≤ varOf f :=
  div_nonneg (Finset.sum_nonneg fun _ _ => mul_self_nonneg _) (Nat.cast_nonneg _)

/-- The mean of the squares less the square of the mean is the variance. -/
theorem meanSq_sub {n : ℕ} (hn : n ≠ 0) (f : Fin n → ℝ) :
    (∑ i, f i * f i) / n - meanOf f * meanOf f = varOf f := by
  have hn' : (n : ℝ) ≠ 0 := Nat.cast_ne_zero.mpr hn
  have hs : ∑ i, f i = n * meanOf f := by unfold meanOf; field_simp
  have h : ∑ i, (f i - meanOf f) * (f i - meanOf f)
      = (∑ i, f i * f i) - 2 * meanOf f * (∑ i, f i) + n * (meanOf f * meanOf f) := by
    rw [Finset.mul_sum, ← Finset.sum_sub_distrib]
    have : (n : ℝ) * (meanOf f * meanOf f) = ∑ _i : Fin n, meanOf f * meanOf f := by simp
    rw [this, ← Finset.sum_add_distrib]
    exact Finset.sum_congr rfl fun i _ => by ring
  unfold varOf
  rw [h, hs]
  field_simp
  ring

/-- The positive root the normalisations divide by. -/
def dev {n : ℕ} (f : Fin n → ℝ) : ℝ := Real.sqrt (varOf f + e5)

theorem varOf_e5_pos {n : ℕ} (f : Fin n → ℝ) : 0 < varOf f + e5 :=
  add_pos_of_nonneg_of_pos (varOf_nonneg f) e5_pos
theorem dev_pos {n : ℕ} (f : Fin n → ℝ) : 0 < dev f := Real.sqrt_pos.mpr (varOf_e5_pos f)

/-- Layer normalisation of a row. -/
def lnorm (g b f : Fin 128 → ℝ) (d : Fin 128) : ℝ := (f d - meanOf f) / dev f * g d + b d

/-- The smooth gate, in its tanh form. -/
def gelu (y : ℝ) : ℝ := y * (1 / 2 * (1 + Real.tanh (g0 * (y + g1 * (y * (y * y))))))

/-- A row against a matrix. -/
def app {m n : ℕ} (W : Fin m → Fin n → ℝ) (x : Fin m → ℝ) (e : Fin n) : ℝ := ∑ d, x d * W d e

/-! ## The router -/

/-- Softmax over three logits. -/
def prob (l : Fin 3 → ℝ) (e : Fin 3) : ℝ := Real.exp (l e) / ∑ e', Real.exp (l e')

theorem prob_pos (l : Fin 3 → ℝ) (e : Fin 3) : 0 < prob l e :=
  div_pos (Real.exp_pos _) (Finset.sum_pos (fun _ _ => Real.exp_pos _) ⟨0, Finset.mem_univ _⟩)

theorem prob_shift (l : Fin 3 → ℝ) (m : ℝ) (e : Fin 3) :
    Real.exp (l e - m) / ∑ e', Real.exp (l e' - m) = prob l e := by
  have h : ∀ e, Real.exp (l e - m) = Real.exp (l e) * Real.exp (-m) := fun e => by
    rw [← Real.exp_add]; rfl
  simp only [h, ← Finset.sum_mul]
  exact mul_div_mul_right _ _ (Real.exp_pos _).ne'

/-- Expert `e'` comes before `e` in decreasing order of probability, ties by number. -/
def ahead (p : Fin 3 → ℝ) (e' e : Fin 3) : Prop := p e < p e' ∨ (p e' = p e ∧ e' < e)

open Classical in
/-- The mass ranked before `e`. -/
def mass (p : Fin 3 → ℝ) (e : Fin 3) : ℝ := ∑ e', if ahead p e' e then p e' else 0

open Classical in
/-- One where the mass ranked before is less than one half. -/
def keep (p : Fin 3 → ℝ) (e : Fin 3) : ℝ := if mass p e < 1 / 2 then 1 else 0

theorem keep_nonneg (p : Fin 3 → ℝ) (e : Fin 3) : 0 ≤ keep p e := by
  unfold keep; split_ifs <;> norm_num

/-- The mixing weights. -/
def wgt (p : Fin 3 → ℝ) (e : Fin 3) : ℝ := p e * keep p e / ((∑ e', p e' * keep p e') + e9)

theorem wden_pos (p : Fin 3 → ℝ) (hp : ∀ e, 0 < p e) : 0 < (∑ e', p e' * keep p e') + e9 :=
  add_pos_of_nonneg_of_pos
    (Finset.sum_nonneg fun e _ => mul_nonneg (hp e).le (keep_nonneg p e)) e9_pos

theorem wgt_nonneg (p : Fin 3 → ℝ) (hp : ∀ e, 0 < p e) (e : Fin 3) : 0 ≤ wgt p e :=
  div_nonneg (mul_nonneg (hp e).le (keep_nonneg p e)) (wden_pos p hp).le

/-- The edge weight between two tokens. -/
def edge (w : Fin 3 → ℝ) (q k : Fin 512) : ℝ :=
  if q = k then 1 else if patch q = patch k then w 0 else if chan q = chan k then w 1 else w 2

theorem edge_self (w : Fin 3 → ℝ) (q : Fin 512) : edge w q q = 1 := by simp [edge]
theorem edge_nonneg (w : Fin 3 → ℝ) (hw : ∀ e, 0 ≤ w e) (q k : Fin 512) : 0 ≤ edge w q k := by
  unfold edge; split_ifs <;> first | exact zero_le_one | exact hw _

/-! ## Attention -/

/-- The largest of finitely many numbers. -/
def top {n : ℕ} (u : Fin (n + 1) → ℝ) : ℝ := Finset.univ.sup' ⟨0, Finset.mem_univ _⟩ u

theorem le_top {n : ℕ} (u : Fin (n + 1) → ℝ) (k : Fin (n + 1)) : u k ≤ top u :=
  Finset.le_sup' u (Finset.mem_univ k)
theorem exists_top {n : ℕ} (u : Fin (n + 1) → ℝ) : ∃ k, u k = top u := by
  obtain ⟨k, _, hk⟩ := Finset.exists_mem_eq_sup' (s := Finset.univ) ⟨0, Finset.mem_univ _⟩ u
  exact ⟨k, hk.symm⟩
theorem top_eq {n : ℕ} (u : Fin (n + 1) → ℝ) (r : ℝ) (h : ∀ k, u k ≤ r) (k : Fin (n + 1)) (hk : u k = r) :
    top u = r :=
  le_antisymm (Finset.sup'_le _ _ fun k _ => h k) (hk ▸ le_top u k)
theorem top_mul {n : ℕ} (u : Fin (n + 1) → ℝ) (c : ℝ) (hc : 0 ≤ c) : top (fun k => c * u k) = c * top u := by
  obtain ⟨k, hk⟩ := exists_top u
  exact top_eq _ _ (fun j => mul_le_mul_of_nonneg_left (le_top u j) hc) k (by rw [hk])

/-- The weighted exponentials of a row of scores. -/
def expw (a s : Fin 512 → ℝ) (k : Fin 512) : ℝ := a k * Real.exp (s k)

/-- One output of attention: the guard of the denominator is relative to the row's largest weight. -/
def attn (a s v : Fin 512 → ℝ) : ℝ :=
  (∑ k, expw a s k * v k) / ((∑ k, expw a s k) + e9 * top (n := 511) (expw a s))

theorem expw_nonneg (a s : Fin 512 → ℝ) (ha : ∀ k, 0 ≤ a k) (k : Fin 512) : 0 ≤ expw a s k :=
  mul_nonneg (ha k) (Real.exp_pos _).le

theorem top_expw_pos (a s : Fin 512 → ℝ) (q : Fin 512) (hq : 0 < a q) : 0 < top (n := 511) (expw a s) :=
  lt_of_lt_of_le (mul_pos hq (Real.exp_pos _)) (le_top (n := 511) (expw a s) q)

/-- Weights scaled by a common positive factor give the same output. -/
theorem attn_scale (a s v : Fin 512 → ℝ) (c : ℝ) (hc : 0 < c) :
    (∑ k, c * expw a s k * v k) / ((∑ k, c * expw a s k) + e9 * top (n := 511) fun k => c * expw a s k)
      = attn a s v := by
  rw [top_mul (n := 511) (expw a s) c hc.le]
  have h1 : ∑ k, c * expw a s k * v k = c * ∑ k, expw a s k * v k := by
    rw [Finset.mul_sum]; exact Finset.sum_congr rfl fun k _ => mul_assoc _ _ _
  have h2 : (∑ k, c * expw a s k) + e9 * (c * top (n := 511) (expw a s))
      = c * ((∑ k, expw a s k) + e9 * top (n := 511) (expw a s)) := by
    rw [← Finset.mul_sum]; ring
  rw [h1, h2]
  exact mul_div_mul_left _ _ hc.ne'

/-- The form with the weights divided by the largest one first. -/
theorem attn_div_top (a s v : Fin 512 → ℝ) (q : Fin 512) (hq : 0 < a q) :
    (∑ k, v k * (expw a s k / top (n := 511) (expw a s)))
        / ((∑ k, expw a s k / top (n := 511) (expw a s)) + e9) = attn a s v := by
  have hU := top_expw_pos a s q hq
  rw [← attn_scale a s v (top (n := 511) (expw a s))⁻¹ (inv_pos.mpr hU),
    top_mul (n := 511) (expw a s) _ (inv_pos.mpr hU).le, inv_mul_cancel₀ hU.ne', mul_one]
  congr 1
  · exact Finset.sum_congr rfl fun k _ => by rw [div_eq_inv_mul, mul_comm]
  · congr 1
    exact Finset.sum_congr rfl fun k _ => by rw [div_eq_inv_mul]

/-- The common factor of the masked softmax. -/
def fac (c : Fin 512 → ℝ) (M : ℝ) : ℝ := Real.exp (-M) / ∑ k, Real.exp (c k - M)

theorem fac_pos (c : Fin 512 → ℝ) (M : ℝ) : 0 < fac c M :=
  div_pos (Real.exp_pos _) (Finset.sum_pos (fun _ _ => Real.exp_pos _) ⟨0, Finset.mem_univ _⟩)

/-- The masked softmax times the edge weights is the weighted exponentials up to a common factor. -/
theorem softmax_edge (a s : Fin 512 → ℝ) (ha : ∀ k, 0 ≤ a k) (f M : ℝ) (c : Fin 512 → ℝ)
    (hc : ∀ k, c k = if 0 < a k then s k else f) (k : Fin 512) :
    Real.exp (c k - M) / (∑ j, Real.exp (c j - M)) * a k = fac c M * expw a s k := by
  unfold fac expw
  rcases (ha k).eq_or_lt with h | h
  · rw [← h]; simp
  · rw [hc k, if_pos h]
    have : Real.exp (s k - M) = Real.exp (s k) * Real.exp (-M) := by rw [← Real.exp_add]; rfl
    rw [this]; ring

/-- The masked-softmax form of one output. -/
theorem attn_softmax (a s v : Fin 512 → ℝ) (c : Fin 512 → ℝ) (M : ℝ) (t : Fin 512 → ℝ)
    (ht : ∀ k, t k = fac c M * expw a s k) :
    ∑ k, t k / ((∑ j, t j) + e9 * top (n := 511) t) * v k = attn a s v := by
  have ht' : t = fun k => fac c M * expw a s k := funext ht
  rw [← attn_scale a s v (fac c M) (fac_pos c M), ← ht', div_eq_mul_inv, Finset.sum_mul]
  exact Finset.sum_congr rfl fun k _ => by rw [ht k, div_eq_mul_inv]; ring

theorem attn_den_pos (t : Fin 512 → ℝ) (ht : ∀ k, 0 ≤ t k) (q : Fin 512) (hq : 0 < t q) :
    0 < (∑ j, t j) + e9 * top (n := 511) t :=
  add_pos (lt_of_lt_of_le hq (Finset.single_le_sum (fun k _ => ht k) (Finset.mem_univ q)))
    (mul_pos e9_pos (lt_of_lt_of_le hq (le_top (n := 511) t q)))

/-! ## A layer -/

/-- The parameters of one layer. -/
structure Par where
  Wq : Fin 128 → Fin 128 → ℝ
  Wk : Fin 128 → Fin 128 → ℝ
  Wv : Fin 128 → Fin 128 → ℝ
  Wo : Fin 128 → Fin 128 → ℝ
  rW : Fin 128 → Fin 3 → ℝ
  rb : Fin 3 → ℝ
  g1 : Fin 128 → ℝ
  c1 : Fin 128 → ℝ
  W1 : Fin 128 → Fin 256 → ℝ
  b1 : Fin 256 → ℝ
  W2 : Fin 256 → Fin 128 → ℝ
  b2 : Fin 128 → ℝ
  g2 : Fin 128 → ℝ
  c2 : Fin 128 → ℝ

/-- Tokens with their features. -/
abbrev Seq := Fin 512 → Fin 128 → ℝ

/-- The router's probabilities at a token. -/
def probs (P : Par) (x : Seq) (q : Fin 512) : Fin 3 → ℝ := prob fun e => app P.rW (x q) e + P.rb e

/-- The edge weights of a layer. -/
def edges (P : Par) (x : Seq) (q k : Fin 512) : ℝ := edge (wgt (probs P x q)) q k

theorem edges_nonneg (P : Par) (x : Seq) (q k : Fin 512) : 0 ≤ edges P x q k :=
  edge_nonneg _ (wgt_nonneg _ fun e => prob_pos _ e) q k
theorem edges_self (P : Par) (x : Seq) (q : Fin 512) : edges P x q q = 1 := edge_self _ q

/-- The attention scores. -/
def score (P : Par) (x : Seq) (h : Fin 8) (q k : Fin 512) : ℝ :=
  (∑ j : Fin 16, app P.Wq (x q) (hd h j) * app P.Wk (x k) (hd h j)) / 4

/-- The output of head `h` at a token. -/
def headOut (P : Par) (x : Seq) (h : Fin 8) (q : Fin 512) (j : Fin 16) : ℝ :=
  attn (edges P x q) (score P x h q) fun k => app P.Wv (x k) (hd h j)

/-- The heads one after another. -/
def heads (P : Par) (x : Seq) (q : Fin 512) (e : Fin 128) : ℝ :=
  headOut P x ⟨e.val / 16, by omega⟩ q ⟨e.val % 16, by omega⟩

/-- The token features before the first normalisation. -/
def mid0 (P : Par) (x : Seq) (q : Fin 512) (d : Fin 128) : ℝ := x q d + app P.Wo (heads P x q) d
/-- The token features after the first normalisation. -/
def mid (P : Par) (x : Seq) (q : Fin 512) : Fin 128 → ℝ := lnorm P.g1 P.c1 (mid0 P x q)
/-- The hidden features of a row. -/
def hid (P : Par) (y : Fin 128 → ℝ) (e : Fin 256) : ℝ := gelu (app P.W1 y e + P.b1 e)
/-- The feed-forward block with its residual, normalised. -/
def ffn (P : Par) (y : Fin 128 → ℝ) : Fin 128 → ℝ :=
  lnorm P.g2 P.c2 fun d => y d + (app P.W2 (hid P y) d + P.b2 d)
/-- One layer. -/
def layer (P : Par) (x : Seq) (q : Fin 512) : Fin 128 → ℝ := ffn P (mid P x q)

/-! ## The embedding -/

/-- The embedded patches of a batch entry. -/
def embed (X : Fin 1024 → Fin 8 → ℝ) (W : Fin 16 → Fin 128 → ℝ) (b : Fin 128 → ℝ)
    (pe : Fin 512 → Fin 128 → ℝ) (k : Fin 512) (d : Fin 128) : ℝ :=
  (∑ p : Fin 16, (X (step (patch k) p) (chan k) - meanOf fun t => X t (chan k))
      / dev (fun t => X t (chan k)) * W p d) + b d + pe k d

end Patch
-- ==== Proof.Reals.lean ====
module

public import Idealize.ShloMosaic.Lib.Pointwise
public import Idealize.ShloMosaic.Lib.IdealHost
public import proofs.«01_k».proof.Proof.Spec

@[expose] public section

/-! # Extended reals that are real numbers -/

noncomputable section

namespace Patch

open scoped BigOperators
open Idealize Idealize.ShloMosaic

/-- A finite sum of real numbers is a real number. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  rw [Ideal.div_coe hy, ← EReal.coe_mul, mul_one_div]
theorem sqrt_real (x : ℝ) (hx : 0 ≤ x) : Ideal.sqrt (x : EReal) = ((Real.sqrt x : ℝ) : EReal) := by
  rw [Ideal.sqrt_coe, if_neg (not_lt.mpr hx)]
theorem exp_real (x : ℝ) : Ideal.exp (x : EReal) = ((Real.exp x : ℝ) : EReal) := Ideal.exp_coe x
theorem tanh_real (x : ℝ) : Ideal.tanh (x : EReal) = ((Real.tanh x : ℝ) : EReal) := Ideal.tanh_coe x

/-- The largest of finitely many real numbers, folded from `⊥`. -/
theorem fold_max_real {n : ℕ} (u : Fin (n + 1) → ℝ) :
    (Finset.univ : Finset (Fin (n + 1))).fold max (⊥ : EReal) (fun k => ((u k : ℝ) : EReal)) = ((top u : ℝ) : EReal) := by
  obtain ⟨k, hk⟩ := exists_top u
  apply le_antisymm
  · rw [Finset.fold_max_le]
    exact ⟨bot_le, fun j _ => EReal.coe_le_coe_iff.mpr (le_top u j)⟩
  · rw [Finset.le_fold_max]
    exact Or.inr ⟨k, Finset.mem_univ k, by rw [hk]⟩

/-- A fold of maxima that is reached and never exceeded. -/
theorem fold_max_eq {ι : Type} [Fintype ι] (f : ι → EReal) (r : EReal) (h : ∀ k, f k ≤ r) (k : ι) (hk : f k = r) :
    (Finset.univ : Finset ι).fold max (⊥ : EReal) f = r := by
  apply le_antisymm
  · rw [Finset.fold_max_le]
    exact ⟨bot_le, fun j _ => h j⟩
  · rw [Finset.le_fold_max]
    exact Or.inr ⟨k, Finset.mem_univ k, hk.ge⟩

theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]
theorem bits_e5 : Ideal.ofBits .f32 0x3727C5AC#32 = ((e5 : ℝ) : EReal) := by
  simp [Ideal.ofBits, Ideal.ieee, -EReal.coe_mul, e5]; norm_num
theorem bits_e9 : Ideal.ofBits .f32 0x3089705F#32 = ((e9 : ℝ) : EReal) := by
  simp [Ideal.ofBits, Ideal.ieee, -EReal.coe_mul, e9]; norm_num
theorem bits_g0 : Ideal.ofBits .f32 0x3F4C422A#32 = ((g0 : ℝ) : EReal) := by
  simp [Ideal.ofBits, Ideal.ieee, -EReal.coe_mul, g0]; norm_num
theorem bits_g1 : Ideal.ofBits .f32 0x3D372713#32 = ((g1 : ℝ) : EReal) := by
  simp [Ideal.ofBits, Ideal.ieee, -EReal.coe_mul, g1]; norm_num
theorem bits_1024 : Ideal.ofBits .f32 0x44800000#32 = ((1024 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_quarter : Ideal.ofBits .f32 0x3E800000#32 = ((1 / 4 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_four : Ideal.ofBits .f32 0x40800000#32 = ((4 : ℝ) : EReal) := by
  simp [Ideal.ofBits, Ideal.ieee, -EReal.coe_mul]; norm_num
theorem bits_far : Ideal.ofBits .f32 0xCE6E6B28#32 = ((-1000000000 : ℝ) : EReal) := by
  simp [Ideal.ofBits, Ideal.ieee, -EReal.coe_mul]; norm_num

theorem one_real : (1 : EReal) = ((1 : ℝ) : EReal) := rfl
theorem zero_real : (0 : EReal) = ((0 : ℝ) : EReal) := rfl

end Patch
-- ==== Proof.KStage.lean ====
module

public import proofs.«01_k».proof.Proof.Reals
public import proofs.«01_k».proof.Proof.Gen.KernelIdeal.Skeleton

@[expose] public section

/-! # The stages of the kernel's body, as vectors of features by tokens -/

noncomputable section

namespace Patch

open scoped BigOperators
open Idealize Idealize.ShloMosaic Cert.KernelIdeal Cert.KernelIdeal.Gen

/-- Features by tokens. -/
abbrev Feat := FVec Ideal S128x512 .f32
/-- One number per feature, as a column. -/
abbrev Col := FVec Ideal S128x1 .f32
/-- One head's features by tokens. -/
abbrev Head := FVec Ideal S16x512 .f32
/-- Source tokens by target tokens. -/
abbrev Pairs := FVec Ideal S512x512 .f32

/-- The mean down the features. -/
def kAvg (y : Feat) : FVec Ideal S1x512 .f32 := divf
  (shapeCast S1x512 (multiReduction .add [0] S512 y 0x00000000#32 reduces_S128x512_S512 (.inl rfl) rfl : FVec Ideal S512 .f32) shapeCasts_S512_S1x512)
  (broadcast S1x512 (Scalar.ofBits .f32 0x43000000#32))

/-- The features less their mean. -/
def kCenter (y : Feat) : Feat := subf y (broadcastTo S128x512 (kAvg y) broadcasts_S1x512_S128x512)

/-- Centred features over their deviation, scaled and shifted. -/
def kScale (yc : Feat) (g b : Col) : Feat :=
  addf (mulf (divf yc (broadcastTo S128x512
      (sqrt (addf (kAvg (mulf yc yc)) (broadcast S1x512 (Scalar.ofBits .f32 0x3727C5AC#32)))) broadcasts_S1x512_S128x512))
    (broadcastTo S128x512 g broadcasts_S128x1_S128x512))
    (broadcastTo S128x512 b broadcasts_S128x1_S128x512)

/-- Layer normalisation down the features. -/
def kNorm (y : Feat) (g b : Col) : Feat := kScale (kCenter y) g b

/-- The hidden features of the feed-forward block, before the gate. -/
def kPre (y : Feat) (w1 : FVec Ideal S128x256 .f32) (b1 : FVec Ideal S256x1 .f32) : FVec Ideal S256x512 .f32 :=
  addf (matmul dot_S128x256_S128x512_S256x512_0_0_1_1_n_n none w1 y (constant S256x512 .f32 0x00000000#32))
    (broadcastTo S256x512 b1 broadcasts_S256x1_S256x512)

/-- The gate. -/
def kGate (u : FVec Ideal S256x512 .f32) : FVec Ideal S256x512 .f32 :=
  mulf u (mulf (broadcast S256x512 (Scalar.ofBits .f32 0x3F000000#32))
    (addf (broadcast S256x512 (Scalar.ofBits .f32 0x3F800000#32))
      (tanh (mulf (broadcast S256x512 (Scalar.ofBits .f32 0x3F4C422A#32))
        (addf u (mulf (broadcast S256x512 (Scalar.ofBits .f32 0x3D372713#32)) (mulf u (mulf u u))))))))

/-- The feed-forward block with its residual. -/
def kFfn (y : Feat) (w1 : FVec Ideal S128x256 .f32) (b1 : FVec Ideal S256x1 .f32) (w2 : FVec Ideal S256x128 .f32)
    (b2 : Col) : Feat :=
  addf y (addf (matmul dot_S256x128_S256x512_S128x512_0_0_1_1_n_n none w2 (kGate (kPre y w1 b1)) (constant S128x512 .f32 0x00000000#32))
    (broadcastTo S128x512 b2 broadcasts_S128x1_S128x512))

/-- The products of a square weight with the features. -/
def kApp (x : Feat) (w : FVec Ideal S128x128 .f32) : Feat :=
  matmul dot_S128x128_S128x512_S128x512_0_0_1_1_n_n none w x (constant S128x512 .f32 0x00000000#32)

/-- One head: scores, their exponentials relative to the column's largest, and the weighted values. -/
def kHead (k q v : Head) (loga : Pairs) : Head :=
  let s : Pairs := addf (matmul dot_S16x512_S16x512_S512x512_0_0_1_1_n_n none k q (constant S512x512 .f32 0x00000000#32)) loga
  let m : FVec Ideal S1x512 .f32 :=
    shapeCast S1x512 (multiReduction .maximumf [0] S512 s 0xFF800000#32 reduces_S512x512_S512 (.inl rfl) rfl : FVec Ideal S512 .f32) shapeCasts_S512_S1x512
  let e : Pairs := exp (subf s (broadcastTo S512x512 m broadcasts_S1x512_S512x512))
  let ve : FVec Ideal S17x512 .f32 :=
    concatenate S17x512 0 [⟨S16x512, v⟩, ⟨S1x512, (broadcast S1x512 (Scalar.ofBits .f32 0x3F800000#32) : FVec Ideal S1x512 .f32)⟩] concatenates_S16x512_S1x512_S17x512_d0
  let nz : FVec Ideal S17x512 .f32 := matmul dot_S17x512_S512x512_S17x512_1_0_0_1_n_n none ve e (constant S17x512 .f32 0x00000000#32)
  divf (extractStridedSlice S16x512 ![0, 0] nz slices_S17x512_o0_0_S16x512)
    (broadcastTo S16x512 (addf (extractStridedSlice S1x512 ![16, 0] nz slices_S17x512_o16_0_S1x512)
      (broadcast S1x512 (Scalar.ofBits .f32 0x3089705F#32))) broadcasts_S1x512_S16x512)

/-- The eight heads one after another, projected and added to the features. -/
def kMid (x : Feat) (wo : FVec Ideal S128x128 .f32) (h0 h1 h2 h3 h4 h5 h6 h7 : Head) : Feat :=
  addf x (kApp (concatenate S128x512 0 [⟨S16x512, h0⟩, ⟨S16x512, h1⟩, ⟨S16x512, h2⟩, ⟨S16x512, h3⟩, ⟨S16x512, h4⟩, ⟨S16x512, h5⟩, ⟨S16x512, h6⟩, ⟨S16x512, h7⟩] concatenates_S16x512_S16x512_S16x512_S16x512_S16x512_S16x512_S16x512_S16x512_S128x512_d0) wo)

/-- The router's logits. -/
def kLogits (x : Feat) (rw : FVec Ideal S128x3 .f32) (rb : FVec Ideal S3x1 .f32) : FVec Ideal S3x512 .f32 :=
  addf (matmul dot_S128x3_S128x512_S3x512_0_0_1_1_n_n none rw x (constant S3x512 .f32 0x00000000#32))
    (broadcastTo S3x512 rb broadcasts_S3x1_S3x512)

/-- A row of numbers per token. -/
abbrev Row := FVec Ideal S1x512 .f32

/-- One where a comparison holds. -/
def kInd (p : CmpFPredicate) (a b : Row) : Row := sitofp .f32 (extui 32 (cmpf p a b) natLt_1_32)

/-- Row `0` of the logits. -/
def kRow0 (l : FVec Ideal S3x512 .f32) : Row := extractStridedSlice S1x512 ![0, 0] l slices_S3x512_o0_0_S1x512
/-- Row `1` of the logits. -/
def kRow1 (l : FVec Ideal S3x512 .f32) : Row := extractStridedSlice S1x512 ![1, 0] l slices_S3x512_o1_0_S1x512
/-- Row `2` of the logits. -/
def kRow2 (l : FVec Ideal S3x512 .f32) : Row := extractStridedSlice S1x512 ![2, 0] l slices_S3x512_o2_0_S1x512

/-- One softmax term. -/
def kProb (l0 l1 l2 l : Row) : Row :=
  let m : Row := maximumf (maximumf l0 l1) l2
  divf (exp (subf l m)) (addf (addf (exp (subf l0 m)) (exp (subf l1 m))) (exp (subf l2 m)))

/-- A probability where the mass ranked before it is below one half. -/
def kKeep (p c : Row) : Row := mulf p (kInd .olt c (broadcast S1x512 (Scalar.ofBits .f32 0x3F000000#32)))

/-- The logarithm of one mixing weight. -/
def kLog (w0 w1 w2 w : Row) : Row :=
  log (divf w (addf (addf (addf w0 w1) w2) (broadcast S1x512 (Scalar.ofBits .f32 0x3089705F#32))))

/-- The kept masses from the probabilities. -/
def kW0 (p0 p1 p2 : Row) : Row := kKeep p0 (addf (mulf p1 (kInd .ogt p1 p0)) (mulf p2 (kInd .ogt p2 p0)))
def kW1 (p0 p1 p2 : Row) : Row := kKeep p1 (addf (mulf p0 (kInd .oge p0 p1)) (mulf p2 (kInd .ogt p2 p1)))
def kW2 (p0 p1 p2 : Row) : Row := kKeep p2 (addf (mulf p0 (kInd .oge p0 p2)) (mulf p1 (kInd .oge p1 p2)))

/-- A row spread over all source tokens. -/
def kSpread (r : Row) : Pairs :=
  broadcastTo S512x512 (shapeCast S1x512 r shapeCasts_S1x512_S1x512) broadcasts_S1x512_S512x512

/-- The logarithms of the edge weights, from the three logarithms and the three selections. -/
def kPick (diag ss st : IVec S512x512 1) (a b c : Row) : Pairs :=
  select diag (broadcast S512x512 (Scalar.ofBits .f32 0x00000000#32))
    (select ss (kSpread a) (select st (kSpread b) (kSpread c)))

/-- The logarithms of the edge weights from the probabilities. -/
def kLogaOf (diag ss st : IVec S512x512 1) (p0 p1 p2 : Row) : Pairs :=
  kPick diag ss st (kLog (kW0 p0 p1 p2) (kW1 p0 p1 p2) (kW2 p0 p1 p2) (kW0 p0 p1 p2))
    (kLog (kW0 p0 p1 p2) (kW1 p0 p1 p2) (kW2 p0 p1 p2) (kW1 p0 p1 p2))
    (kLog (kW0 p0 p1 p2) (kW1 p0 p1 p2) (kW2 p0 p1 p2) (kW2 p0 p1 p2))

/-- The logarithms of the edge weights from the features. -/
def kLoga (diag ss st : IVec S512x512 1) (x : Feat) (rw : FVec Ideal S128x3 .f32) (rb : FVec Ideal S3x1 .f32) : Pairs :=
  let l := kLogits x rw rb
  kLogaOf diag ss st (kProb (kRow0 l) (kRow1 l) (kRow2 l) (kRow0 l)) (kProb (kRow0 l) (kRow1 l) (kRow2 l) (kRow1 l))
    (kProb (kRow0 l) (kRow1 l) (kRow2 l) (kRow2 l))

/-- The scaled queries. -/
def kQ (x : Feat) (w : FVec Ideal S128x128 .f32) : Feat :=
  mulf (kApp x w) (broadcast S128x512 (Scalar.ofBits .f32 0x3E800000#32))

/-- The features after attention, before the normalisation. -/
def kAttn (diag ss st : IVec S512x512 1) (x : Feat) (wq wk wv wo : FVec Ideal S128x128 .f32)
    (rw : FVec Ideal S128x3 .f32) (rb : FVec Ideal S3x1 .f32) : Feat :=
  let a := kLoga diag ss st x rw rb
  let q := kQ x wq
  let k := kApp x wk
  let v := kApp x wv
  kMid x wo
    (kHead (extractStridedSlice S16x512 ![0, 0] k slices_S128x512_o0_0_S16x512) (extractStridedSlice S16x512 ![0, 0] q slices_S128x512_o0_0_S16x512) (extractStridedSlice S16x512 ![0, 0] v slices_S128x512_o0_0_S16x512) a)
    (kHead (extractStridedSlice S16x512 ![16, 0] k slices_S128x512_o16_0_S16x512) (extractStridedSlice S16x512 ![16, 0] q slices_S128x512_o16_0_S16x512) (extractStridedSlice S16x512 ![16, 0] v slices_S128x512_o16_0_S16x512) a)
    (kHead (extractStridedSlice S16x512 ![32, 0] k slices_S128x512_o32_0_S16x512) (extractStridedSlice S16x512 ![32, 0] q slices_S128x512_o32_0_S16x512) (extractStridedSlice S16x512 ![32, 0] v slices_S128x512_o32_0_S16x512) a)
    (kHead (extractStridedSlice S16x512 ![48, 0] k slices_S128x512_o48_0_S16x512) (extractStridedSlice S16x512 ![48, 0] q slices_S128x512_o48_0_S16x512) (extractStridedSlice S16x512 ![48, 0] v slices_S128x512_o48_0_S16x512) a)
    (kHead (extractStridedSlice S16x512 ![64, 0] k slices_S128x512_o64_0_S16x512) (extractStridedSlice S16x512 ![64, 0] q slices_S128x512_o64_0_S16x512) (extractStridedSlice S16x512 ![64, 0] v slices_S128x512_o64_0_S16x512) a)
    (kHead (extractStridedSlice S16x512 ![80, 0] k slices_S128x512_o80_0_S16x512) (extractStridedSlice S16x512 ![80, 0] q slices_S128x512_o80_0_S16x512) (extractStridedSlice S16x512 ![80, 0] v slices_S128x512_o80_0_S16x512) a)
    (kHead (extractStridedSlice S16x512 ![96, 0] k slices_S128x512_o96_0_S16x512) (extractStridedSlice S16x512 ![96, 0] q slices_S128x512_o96_0_S16x512) (extractStridedSlice S16x512 ![96, 0] v slices_S128x512_o96_0_S16x512) a)
    (kHead (extractStridedSlice S16x512 ![112, 0] k slices_S128x512_o112_0_S16x512) (extractStridedSlice S16x512 ![112, 0] q slices_S128x512_o112_0_S16x512) (extractStridedSlice S16x512 ![112, 0] v slices_S128x512_o112_0_S16x512) a)

/-- One layer. -/
def kLayer (diag ss st : IVec S512x512 1) (x : Feat) (wq wk wv wo : FVec Ideal S128x128 .f32)
    (rw : FVec Ideal S128x3 .f32) (rb : FVec Ideal S3x1 .f32) (g1 c1 : Col) (w1 : FVec Ideal S128x256 .f32)
    (b1 : FVec Ideal S256x1 .f32) (w2 : FVec Ideal S256x128 .f32) (b2 g2 c2 : Col) : Feat :=
  kNorm (kFfn (kNorm (kAttn diag ss st x wq wk wv wo rw rb) g1 c1) w1 b1 w2 b2) g2 c2

/-! ## Slices of the weights -/

def kSq (w : Vec Ideal S1x128x128 .f32) : FVec Ideal S128x128 .f32 := shapeCast S128x128 w shapeCasts_S1x128x128_S128x128
def kSqR (w : Vec Ideal S1x128x3 .f32) : FVec Ideal S128x3 .f32 := shapeCast S128x3 w shapeCasts_S1x128x3_S128x3
def kSqB (w : Vec Ideal S1x3x1 .f32) : FVec Ideal S3x1 .f32 := shapeCast S3x1 w shapeCasts_S1x3x1_S3x1
def kSqC (w : Vec Ideal S1x128x1 .f32) : Col := shapeCast S128x1 w shapeCasts_S1x128x1_S128x1
def kSqU (w : Vec Ideal S1x128x256 .f32) : FVec Ideal S128x256 .f32 := shapeCast S128x256 w shapeCasts_S1x128x256_S128x256
def kSqV (w : Vec Ideal S1x256x1 .f32) : FVec Ideal S256x1 .f32 := shapeCast S256x1 w shapeCasts_S1x256x1_S256x1
def kSqD (w : Vec Ideal S1x256x128 .f32) : FVec Ideal S256x128 .f32 := shapeCast S256x128 w shapeCasts_S1x256x128_S256x128

/-! ## Statistics, embedding and forecast -/

/-- Means of the values and of their squares, per channel. -/
def kStat (cs : FVec Ideal S8x512 .f32) (p : Vec Ideal S1x16x512 .f32) : FVec Ideal S2x8 .f32 :=
  let v : FVec Ideal S16x512 .f32 := shapeCast S16x512 p shapeCasts_S1x16x512_S16x512
  divf (matmul dot_S2x512_S8x512_S2x8_1_1_0_0_n_n none
    (concatenate S2x512 0
      [⟨S1x512, shapeCast S1x512 (multiReduction .add [0] S512 v 0x00000000#32 reduces_S16x512_S512 (.inl rfl) rfl : FVec Ideal S512 .f32) shapeCasts_S512_S1x512⟩,
       ⟨S1x512, shapeCast S1x512 (multiReduction .add [0] S512 (mulf v v) 0x00000000#32 reduces_S16x512_S512 (.inl rfl) rfl : FVec Ideal S512 .f32) shapeCasts_S512_S1x512⟩]
      concatenates_S1x512_S1x512_S2x512_d0) cs (constant S2x8 .f32 0x00000000#32))
    (broadcast S2x8 (Scalar.ofBits .f32 0x44800000#32))

/-- The channel means. -/
def kMean (cs : FVec Ideal S8x512 .f32) (p : Vec Ideal S1x16x512 .f32) : FVec Ideal S1x8 .f32 :=
  extractStridedSlice S1x8 ![0, 0] (kStat cs p) slices_S2x8_o0_0_S1x8

/-- The channel deviations. -/
def kDev (cs : FVec Ideal S8x512 .f32) (p : Vec Ideal S1x16x512 .f32) : FVec Ideal S1x8 .f32 :=
  sqrt (addf (subf (extractStridedSlice S1x8 ![1, 0] (kStat cs p) slices_S2x8_o1_0_S1x8) (mulf (kMean cs p) (kMean cs p)))
    (broadcast S1x8 (Scalar.ofBits .f32 0x3727C5AC#32)))

/-- The embedded patches. -/
def kEmbed (cs : FVec Ideal S8x512 .f32) (p : Vec Ideal S1x16x512 .f32) (w : FVec Ideal S16x128 .f32) (b : Vec Ideal S128x1 .f32)
    (pe : Vec Ideal S128x512 .f32) : Feat :=
  let v : FVec Ideal S16x512 .f32 := shapeCast S16x512 p shapeCasts_S1x16x512_S16x512
  let mt : Row := matmul dot_S1x8_S8x512_S1x512_1_0_0_1_n_n none (kMean cs p) cs (constant S1x512 .f32 0x00000000#32)
  let st : Row := matmul dot_S1x8_S8x512_S1x512_1_0_0_1_n_n none (kDev cs p) cs (constant S1x512 .f32 0x00000000#32)
  let xn : FVec Ideal S16x512 .f32 := divf (subf v (broadcastTo S16x512 mt broadcasts_S1x512_S16x512)) (broadcastTo S16x512 st broadcasts_S1x512_S16x512)
  addf (addf (matmul dot_S16x128_S16x512_S128x512_0_0_1_1_n_n none w xn (constant S128x512 .f32 0x00000000#32))
    (broadcastTo S128x512 (shapeCast S128x1 b shapeCasts_S128x1_S128x1) broadcasts_S128x1_S128x512)) pe

end Patch
-- ==== Proof.KTie.lean ====
module

public import proofs.«01_k».proof.Proof.KStage
public import proofs.«01_k».proof.Proof.Gen.KernelIdeal.Frame

@[expose] public section

set_option maxRecDepth 16384

/-! # The body's values are the stages applied to its blocks -/

noncomputable section

namespace Patch

open Idealize Idealize.ShloMosaic Cert.KernelIdeal Cert.KernelIdeal.Gen

variable (x0 : Vec Ideal S2x16x512 .f32) (x1 : Vec Ideal S16x128 .f32) (x2 : Vec Ideal S128x1 .f32) (x3 : Vec Ideal S128x512 .f32) (x4 : Vec Ideal S2x128x128 .f32) (x5 : Vec Ideal S2x128x128 .f32) (x6 : Vec Ideal S2x128x128 .f32) (x7 : Vec Ideal S2x128x128 .f32) (x8 : Vec Ideal S2x128x3 .f32) (x9 : Vec Ideal S2x3x1 .f32) (x10 : Vec Ideal S2x128x1 .f32) (x11 : Vec Ideal S2x128x1 .f32) (x12 : Vec Ideal S2x128x256 .f32) (x13 : Vec Ideal S2x256x1 .f32) (x14 : Vec Ideal S2x256x128 .f32) (x15 : Vec Ideal S2x128x1 .f32) (x16 : Vec Ideal S2x128x1 .f32) (x17 : Vec Ideal S2x128x1 .f32) (x18 : Vec Ideal S64x128x96 .f32) (x19 : Vec Ideal S1x96 .f32)

/-- The embedded patches of the first batch entry of a block. -/
theorem embed_first : k0_pay263 x0 x1 x2 x3 x4 x5 x6 x7 x8 x9 x10 x11 x12 x13 x14 x15 x16 x17 x18 x19
    = kEmbed (k0_pay259 x0 x1 x2 x3 x4 x5 x6 x7 x8 x9 x10 x11 x12 x13 x14 x15 x16 x17 x18 x19) (View.ld x0 r0_0) (View.ld x1 r0_1) (View.ld x2 r0_2) (View.ld x3 r0_3) := rfl

/-- The embedded patches of the second batch entry of a block. -/
theorem embed_second : k0_pay310 x0 x1 x2 x3 x4 x5 x6 x7 x8 x9 x10 x11 x12 x13 x14 x15 x16 x17 x18 x19
    = kEmbed (k0_pay259 x0 x1 x2 x3 x4 x5 x6 x7 x8 x9 x10 x11 x12 x13 x14 x15 x16 x17 x18 x19) (View.ld x0 r0_84) (View.ld x1 r0_1) (View.ld x2 r0_2) (View.ld x3 r0_3) := rfl

/-- The logarithms of the edge weights of layer one, first batch entry. -/
theorem loga_first_one : k0_pay275 x0 x1 x2 x3 x4 x5 x6 x7 x8 x9 x10 x11 x12 x13 x14 x15 x16 x17 x18 x19 = kLoga (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay263 x0 x1 x2 x3 x4 x5 x6 x7 x8 x9 x10 x11 x12 x13 x14 x15 x16 x17 x18 x19) (kSqR (View.ld x8 r0_5)) (kSqB (View.ld x9 r0_6)) := by
  simp only [k0_pay275, k0_pay20, k0_pay21, k0_pay267, k0_pay268, k0_pay30, k0_pay31, k0_pay32, k0_pay33, k0_pay34, k0_pay35, k0_pay36, k0_pay37, k0_pay38, k0_pay39, k0_pay40, k0_pay41, k0_pay42, k0_pay43, k0_pay44, k0_pay45, kLoga, kLogaOf, kPick, kSpread, kLog, kW0, kW1, kW2, kKeep, kProb, kInd, kRow0, kRow1, kRow2, kLogits, kSqR, kSqB]
theorem q_first_one : k0_pay276 x0 x1 x2 x3 x4 x5 x6 x7 x8 x9 x10 x11 x12 x13 x14 x15 x16 x17 x18 x19 = kQ (k0_pay263 x0 x1 x2 x3 x4 x5 x6 x7 x8 x9 x10 x11 x12 x13 x14 x15 x16 x17 x18 x19) (kSq (View.ld x4 r0_4)) := rfl
theorem k_first_one : k0_pay277 x0 x1 x2 x3 x4 x5 x6 x7 x8 x9 x10 x11 x12 x13 x14 x15 x16 x17 x18 x19 = kApp (k0_pay263 x0 x1 x2 x3 x4 x5 x6 x7 x8 x9 x10 x11 x12 x13 x14 x15 x16 x17 x18 x19) (kSq (View.ld x5 r0_4)) := rfl
theorem v_first_one : k0_pay278 x0 x1 x2 x3 x4 x5 x6 x7 x8 x9 x10 x11 x12 x13 x14 x15 x16 x17 x18 x19 = kApp (k0_pay263 x0 x1 x2 x3 x4 x5 x6 x7 x8 x9 x10 x11 x12 x13 x14 x15 x16 x17 x18 x19) (kSq (View.ld x6 r0_4)) := rfl
theorem head0_first_one : k0_pay280 x0 x1 x2 x3 x4 x5 x6 x7 x8 x9 x10 x11 x12 x13 x14 x15 x16 x17 x18 x19 = (kHead (extractStridedSlice S16x512 ![0, 0] (k0_pay277 x0 x1 x2 x3 x4 x5 x6 x7 x8 x9 x10 x11 x12 x13 x14 x15 x16 x17 x18 x19) slices_S128x512_o0_0_S16x512) (extractStridedSlice S16x512 ![0, 0] (k0_pay276 x0 x1 x2 x3 x4 x5 x6 x7 x8 x9 x10 x11 x12 x13 x14 x15 x16 x17 x18 x19) slices_S128x512_o0_0_S16x512) (extractStridedSlice S16x512 ![0, 0] (k0_pay278 x0 x1 x2 x3 x4 x5 x6 x7 x8 x9 x10 x11 x12 x13 x14 x15 x16 x17 x18 x19) slices_S128x512_o0_0_S16x512) (k0_pay275 x0 x1 x2 x3 x4 x5 x6 x7 x8 x9 x10 x11 x12 x13 x14 x15 x16 x17 x18 x19)) := rfl
theorem head1_first_one : k0_pay281 x0 x1 x2 x3 x4 x5 x6 x7 x8 x9 x10 x11 x12 x13 x14 x15 x16 x17 x18 x19 = (kHead (extractStridedSlice S16x512 ![16, 0] (k0_pay277 x0 x1 x2 x3 x4 x5 x6 x7 x8 x9 x10 x11 x12 x13 x14 x15 x16 x17 x18 x19) slices_S128x512_o16_0_S16x512) (extractStridedSlice S16x512 ![16, 0] (k0_pay276 x0 x1 x2 x3 x4 x5 x6 x7 x8 x9 x10 x11 x12 x13 x14 x15 x16 x17 x18 x19) slices_S128x512_o16_0_S16x512) (extractStridedSlice S16x512 ![16, 0] (k0_pay278 x0 x1 x2 x3 x4 x5 x6 x7 x8 x9 x10 x11 x12 x13 x14 x15 x16 x17 x18 x19) slices_S128x512_o16_0_S16x512) (k0_pay275 x0 x1 x2 x3 x4 x5 x6 x7 x8 x9 x10 x11 x12 x13 x14 x15 x16 x17 x18 x19)) := rfl
theorem head2_first_one : k0_pay283 x0 x1 x2 x3 x4 x5 x6 x7 x8 x9 x10 x11 x12 x13 x14 x15 x16 x17 x18 x19 = (kHead (extractStridedSlice S16x512 ![32, 0] (k0_pay277 x0 x1 x2 x3 x4 x5 x6 x7 x8 x9 x10 x11 x12 x13 x14 x15 x16 x17 x18 x19) slices_S128x512_o32_0_S16x512) (extractStridedSlice S16x512 ![32, 0] (k0_pay276 x0 x1 x2 x3 x4 x5 x6 x7 x8 x9 x10 x11 x12 x13 x14 x15 x16 x17 x18 x19) slices_S128x512_o32_0_S16x512) (extractStridedSlice S16x512 ![32, 0] (k0_pay278 x0 x1 x2 x3 x4 x5 x6 x7 x8 x9 x10 x11 x12 x13 x14 x15 x16 x17 x18 x19) slices_S128x512_o32_0_S16x512) (k0_pay275 x0 x1 x2 x3 x4 x5 x6 x7 x8 x9 x10 x11 x12 x13 x14 x15 x16 x17 x18 x19)) := rfl
theorem head3_first_one : k0_pay284 x0 x1 x2 x3 x4 x5 x6 x7 x8 x9 x10 x11 x12 x13 x14 x15 x16 x17 x18 x19 = (kHead (extractStridedSlice S16x512 ![48, 0] (k0_pay277 x0 x1 x2 x3 x4 x5 x6 x7 x8 x9 x10 x11 x12 x13 x14 x15 x16 x17 x18 x19) slices_S128x512_o48_0_S16x512) (extractStridedSlice S16x512 ![48, 0] (k0_pay276 x0 x1 x2 x3 x4 x5 x6 x7 x8 x9 x10 x11 x12 x13 x14 x15 x16 x17 x18 x19) slices_S128x512_o48_0_S16x512) (extractStridedSlice S16x512 ![48, 0] (k0_pay278 x0 x1 x2 x3 x4 x5 x6 x7 x8 x9 x10 x11 x12 x13 x14 x15 x16 x17 x18 x19) slices_S128x512_o48_0_S16x512) (k0_pay275 x0 x1 x2 x3 x4 x5 x6 x7 x8 x9 x10 x11 x12 x13 x14 x15 x16 x17 x18 x19)) := rfl
theorem head4_first_one : k0_pay285 x0 x1 x2 x3 x4 x5 x6 x7 x8 x9 x10 x11 x12 x13 x14 x15 x16 x17 x18 x19 = (kHead (extractStridedSlice S16x512 ![64, 0] (k0_pay277 x0 x1 x2 x3 x4 x5 x6 x7 x8 x9 x10 x11 x12 x13 x14 x15 x16 x17 x18 x19) slices_S128x512_o64_0_S16x512) (extractStridedSlice S16x512 ![64, 0] (k0_pay276 x0 x1 x2 x3 x4 x5 x6 x7 x8 x9 x10 x11 x12 x13 x14 x15 x16 x17 x18 x19) slices_S128x512_o64_0_S16x512) (extractStridedSlice S16x512 ![64, 0] (k0_pay278 x0 x1 x2 x3 x4 x5 x6 x7 x8 x9 x10 x11 x12 x13 x14 x15 x16 x17 x18 x19) slices_S128x512_o64_0_S16x512) (k0_pay275 x0 x1 x2 x3 x4 x5 x6 x7 x8 x9 x10 x11 x12 x13 x14 x15 x16 x17 x18 x19)) := rfl
theorem mid_first_one : k0_pay288 x0 x1 x2 x3 x4 x5 x6 x7 x8 x9 x10 x11 x12 x13 x14 x15 x16 x17 x18 x19 = kMid (k0_pay263 x0 x1 x2 x3 x4 x5 x6 x7 x8 x9 x10 x11 x12 x13 x14 x15 x16 x17 x18 x19) (kSq (View.ld x7 r0_4))
    (k0_pay280 x0 x1 x2 x3 x4 x5 x6 x7 x8 x9 x10 x11 x12 x13 x14 x15 x16 x17 x18 x19)
    (k0_pay281 x0 x1 x2 x3 x4 x5 x6 x7 x8 x9 x10 x11 x12 x13 x14 x15 x16 x17 x18 x19)
    (k0_pay283 x0 x1 x2 x3 x4 x5 x6 x7 x8 x9 x10 x11 x12 x13 x14 x15 x16 x17 x18 x19)
    (k0_pay284 x0 x1 x2 x3 x4 x5 x6 x7 x8 x9 x10 x11 x12 x13 x14 x15 x16 x17 x18 x19)
    (k0_pay285 x0 x1 x2 x3 x4 x5 x6 x7 x8 x9 x10 x11 x12 x13 x14 x15 x16 x17 x18 x19)
    (kHead (extractStridedSlice S16x512 ![80, 0] (k0_pay277 x0 x1 x2 x3 x4 x5 x6 x7 x8 x9 x10 x11 x12 x13 x14 x15 x16 x17 x18 x19) slices_S128x512_o80_0_S16x512) (extractStridedSlice S16x512 ![80, 0] (k0_pay276 x0 x1 x2 x3 x4 x5 x6 x7 x8 x9 x10 x11 x12 x13 x14 x15 x16 x17 x18 x19) slices_S128x512_o80_0_S16x512) (extractStridedSlice S16x512 ![80, 0] (k0_pay278 x0 x1 x2 x3 x4 x5 x6 x7 x8 x9 x10 x11 x12 x13 x14 x15 x16 x17 x18 x19) slices_S128x512_o80_0_S16x512) (k0_pay275 x0 x1 x2 x3 x4 x5 x6 x7 x8 x9 x10 x11 x12 x13 x14 x15 x16 x17 x18 x19))
    (kHead (extractStridedSlice S16x512 ![96, 0] (k0_pay277 x0 x1 x2 x3 x4 x5 x6 x7 x8 x9 x10 x11 x12 x13 x14 x15 x16 x17 x18 x19) slices_S128x512_o96_0_S16x512) (extractStridedSlice S16x512 ![96, 0] (k0_pay276 x0 x1 x2 x3 x4 x5 x6 x7 x8 x9 x10 x11 x12 x13 x14 x15 x16 x17 x18 x19) slices_S128x512_o96_0_S16x512) (extractStridedSlice S16x512 ![96, 0] (k0_pay278 x0 x1 x2 x3 x4 x5 x6 x7 x8 x9 x10 x11 x12 x13 x14 x15 x16 x17 x18 x19) slices_S128x512_o96_0_S16x512) (k0_pay275 x0 x1 x2 x3 x4 x5 x6 x7 x8 x9 x10 x11 x12 x13 x14 x15 x16 x17 x18 x19))
    (kHead (extractStridedSlice S16x512 ![112, 0] (k0_pay277 x0 x1 x2 x3 x4 x5 x6 x7 x8 x9 x10 x11 x12 x13 x14 x15 x16 x17 x18 x19) slices_S128x512_o112_0_S16x512) (extractStridedSlice S16x512 ![112, 0] (k0_pay276 x0 x1 x2 x3 x4 x5 x6 x7 x8 x9 x10 x11 x12 x13 x14 x15 x16 x17 x18 x19) slices_S128x512_o112_0_S16x512) (extractStridedSlice S16x512 ![112, 0] (k0_pay278 x0 x1 x2 x3 x4 x5 x6 x7 x8 x9 x10 x11 x12 x13 x14 x15 x16 x17 x18 x19) slices_S128x512_o112_0_S16x512) (k0_pay275 x0 x1 x2 x3 x4 x5 x6 x7 x8 x9 x10 x11 x12 x13 x14 x15 x16 x17 x18 x19)) := rfl
theorem attn_first_one : k0_pay288 x0 x1 x2 x3 x4 x5 x6 x7 x8 x9 x10 x11 x12 x13 x14 x15 x16 x17 x18 x19 = kAttn (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay263 x0 x1 x2 x3 x4 x5 x6 x7 x8 x9 x10 x11 x12 x13 x14 x15 x16 x17 x18 x19) (kSq (View.ld x4 r0_4)) (kSq (View.ld x5 r0_4)) (kSq (View.ld x6 r0_4)) (kSq (View.ld x7 r0_4)) (kSqR (View.ld x8 r0_5)) (kSqB (View.ld x9 r0_6)) := by
  rw [mid_first_one, head0_first_one, head1_first_one, head2_first_one, head3_first_one, head4_first_one, loga_first_one, q_first_one, k_first_one, v_first_one]
  rfl
theorem norm_first_one : k0_pay290 x0 x1 x2 x3 x4 x5 x6 x7 x8 x9 x10 x11 x12 x13 x14 x15 x16 x17 x18 x19 = kNorm (kFfn (kScale (kCenter (k0_pay288 x0 x1 x2 x3 x4 x5 x6 x7 x8 x9 x10 x11 x12 x13 x14 x15 x16 x17 x18 x19)) (kSqC (View.ld x10 r0_7)) (kSqC (View.ld x11 r0_7))) (kSqU (View.ld x12 r0_8)) (kSqV (View.ld x13 r0_9)) (kSqD (View.ld x14 r0_10)) (kSqC (View.ld x15 r0_7))) (kSqC (View.ld x16 r0_7)) (kSqC (View.ld x17 r0_7)) := rfl
/-- The features after layer one, first batch entry. -/
theorem layer_first_one : k0_pay290 x0 x1 x2 x3 x4 x5 x6 x7 x8 x9 x10 x11 x12 x13 x14 x15 x16 x17 x18 x19
    = kLayer (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay263 x0 x1 x2 x3 x4 x5 x6 x7 x8 x9 x10 x11 x12 x13 x14 x15 x16 x17 x18 x19)
      (kSq (View.ld x4 r0_4)) (kSq (View.ld x5 r0_4)) (kSq (View.ld x6 r0_4)) (kSq (View.ld x7 r0_4)) (kSqR (View.ld x8 r0_5)) (kSqB (View.ld x9 r0_6)) (kSqC (View.ld x10 r0_7)) (kSqC (View.ld x11 r0_7)) (kSqU (View.ld x12 r0_8)) (kSqV (View.ld x13 r0_9)) (kSqD (View.ld x14 r0_10)) (kSqC (View.ld x15 r0_7)) (kSqC (View.ld x16 r0_7)) (kSqC (View.ld x17 r0_7)) := by
  rw [norm_first_one, attn_first_one]
  rfl

/-- The logarithms of the edge weights of layer two, first batch entry. -/
theorem loga_first_two : k0_pay301 x0 x1 x2 x3 x4 x5 x6 x7 x8 x9 x10 x11 x12 x13 x14 x15 x16 x17 x18 x19 = kLoga (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay290 x0 x1 x2 x3 x4 x5 x6 x7 x8 x9 x10 x11 x12 x13 x14 x15 x16 x17 x18 x19) (kSqR (View.ld x8 r0_12)) (kSqB (View.ld x9 r0_13)) := by
  simp only [k0_pay301, k0_pay70, k0_pay71, k0_pay291, k0_pay292, k0_pay80, k0_pay81, k0_pay82, k0_pay83, k0_pay84, k0_pay85, k0_pay86, k0_pay87, k0_pay88, k0_pay89, k0_pay90, k0_pay91, k0_pay92, k0_pay93, k0_pay94, kLoga, kLogaOf, kPick, kSpread, kLog, kW0, kW1, kW2, kKeep, kProb, kInd, kRow0, kRow1, kRow2, kLogits, kSqR, kSqB]
theorem q_first_two : k0_pay302 x0 x1 x2 x3 x4 x5 x6 x7 x8 x9 x10 x11 x12 x13 x14 x15 x16 x17 x18 x19 = kQ (k0_pay290 x0 x1 x2 x3 x4 x5 x6 x7 x8 x9 x10 x11 x12 x13 x14 x15 x16 x17 x18 x19) (kSq (View.ld x4 r0_11)) := rfl
theorem k_first_two : k0_pay303 x0 x1 x2 x3 x4 x5 x6 x7 x8 x9 x10 x11 x12 x13 x14 x15 x16 x17 x18 x19 = kApp (k0_pay290 x0 x1 x2 x3 x4 x5 x6 x7 x8 x9 x10 x11 x12 x13 x14 x15 x16 x17 x18 x19) (kSq (View.ld x5 r0_11)) := rfl
theorem v_first_two : k0_pay304 x0 x1 x2 x3 x4 x5 x6 x7 x8 x9 x10 x11 x12 x13 x14 x15 x16 x17 x18 x19 = kApp (k0_pay290 x0 x1 x2 x3 x4 x5 x6 x7 x8 x9 x10 x11 x12 x13 x14 x15 x16 x17 x18 x19) (kSq (View.ld x6 r0_11)) := rfl
theorem mid_first_two : k0_pay306 x0 x1 x2 x3 x4 x5 x6 x7 x8 x9 x10 x11 x12 x13 x14 x15 x16 x17 x18 x19 = kMid (k0_pay290 x0 x1 x2 x3 x4 x5 x6 x7 x8 x9 x10 x11 x12 x13 x14 x15 x16 x17 x18 x19) (kSq (View.ld x7 r0_11))
    (kHead (extractStridedSlice S16x512 ![0, 0] (k0_pay303 x0 x1 x2 x3 x4 x5 x6 x7 x8 x9 x10 x11 x12 x13 x14 x15 x16 x17 x18 x19) slices_S128x512_o0_0_S16x512) (extractStridedSlice S16x512 ![0, 0] (k0_pay302 x0 x1 x2 x3 x4 x5 x6 x7 x8 x9 x10 x11 x12 x13 x14 x15 x16 x17 x18 x19) slices_S128x512_o0_0_S16x512) (extractStridedSlice S16x512 ![0, 0] (k0_pay304 x0 x1 x2 x3 x4 x5 x6 x7 x8 x9 x10 x11 x12 x13 x14 x15 x16 x17 x18 x19) slices_S128x512_o0_0_S16x512) (k0_pay301 x0 x1 x2 x3 x4 x5 x6 x7 x8 x9 x10 x11 x12 x13 x14 x15 x16 x17 x18 x19))
    (kHead (extractStridedSlice S16x512 ![16, 0] (k0_pay303 x0 x1 x2 x3 x4 x5 x6 x7 x8 x9 x10 x11 x12 x13 x14 x15 x16 x17 x18 x19) slices_S128x512_o16_0_S16x512) (extractStridedSlice S16x512 ![16, 0] (k0_pay302 x0 x1 x2 x3 x4 x5 x6 x7 x8 x9 x10 x11 x12 x13 x14 x15 x16 x17 x18 x19) slices_S128x512_o16_0_S16x512) (extractStridedSlice S16x512 ![16, 0] (k0_pay304 x0 x1 x2 x3 x4 x5 x6 x7 x8 x9 x10 x11 x12 x13 x14 x15 x16 x17 x18 x19) slices_S128x512_o16_0_S16x512) (k0_pay301 x0 x1 x2 x3 x4 x5 x6 x7 x8 x9 x10 x11 x12 x13 x14 x15 x16 x17 x18 x19))
    (kHead (extractStridedSlice S16x512 ![32, 0] (k0_pay303 x0 x1 x2 x3 x4 x5 x6 x7 x8 x9 x10 x11 x12 x13 x14 x15 x16 x17 x18 x19) slices_S128x512_o32_0_S16x512) (extractStridedSlice S16x512 ![32, 0] (k0_pay302 x0 x1 x2 x3 x4 x5 x6 x7 x8 x9 x10 x11 x12 x13 x14 x15 x16 x17 x18 x19) slices_S128x512_o32_0_S16x512) (extractStridedSlice S16x512 ![32, 0] (k0_pay304 x0 x1 x2 x3 x4 x5 x6 x7 x8 x9 x10 x11 x12 x13 x14 x15 x16 x17 x18 x19) slices_S128x512_o32_0_S16x512) (k0_pay301 x0 x1 x2 x3 x4 x5 x6 x7 x8 x9 x10 x11 x12 x13 x14 x15 x16 x17 x18 x19))
    (kHead (extractStridedSlice S16x512 ![48, 0] (k0_pay303 x0 x1 x2 x3 x4 x5 x6 x7 x8 x9 x10 x11 x12 x13 x14 x15 x16 x17 x18 x19) slices_S128x512_o48_0_S16x512) (extractStridedSlice S16x512 ![48, 0] (k0_pay302 x0 x1 x2 x3 x4 x5 x6 x7 x8 x9 x10 x11 x12 x13 x14 x15 x16 x17 x18 x19) slices_S128x512_o48_0_S16x512) (extractStridedSlice S16x512 ![48, 0] (k0_pay304 x0 x1 x2 x3 x4 x5 x6 x7 x8 x9 x10 x11 x12 x13 x14 x15 x16 x17 x18 x19) slices_S128x512_o48_0_S16x512) (k0_pay301 x0 x1 x2 x3 x4 x5 x6 x7 x8 x9 x10 x11 x12 x13 x14 x15 x16 x17 x18 x19))
    (kHead (extractStridedSlice S16x512 ![64, 0] (k0_pay303 x0 x1 x2 x3 x4 x5 x6 x7 x8 x9 x10 x11 x12 x13 x14 x15 x16 x17 x18 x19) slices_S128x512_o64_0_S16x512) (extractStridedSlice S16x512 ![64, 0] (k0_pay302 x0 x1 x2 x3 x4 x5 x6 x7 x8 x9 x10 x11 x12 x13 x14 x15 x16 x17 x18 x19) slices_S128x512_o64_0_S16x512) (extractStridedSlice S16x512 ![64, 0] (k0_pay304 x0 x1 x2 x3 x4 x5 x6 x7 x8 x9 x10 x11 x12 x13 x14 x15 x16 x17 x18 x19) slices_S128x512_o64_0_S16x512) (k0_pay301 x0 x1 x2 x3 x4 x5 x6 x7 x8 x9 x10 x11 x12 x13 x14 x15 x16 x17 x18 x19))
    (kHead (extractStridedSlice S16x512 ![80, 0] (k0_pay303 x0 x1 x2 x3 x4 x5 x6 x7 x8 x9 x10 x11 x12 x13 x14 x15 x16 x17 x18 x19) slices_S128x512_o80_0_S16x512) (extractStridedSlice S16x512 ![80, 0] (k0_pay302 x0 x1 x2 x3 x4 x5 x6 x7 x8 x9 x10 x11 x12 x13 x14 x15 x16 x17 x18 x19) slices_S128x512_o80_0_S16x512) (extractStridedSlice S16x512 ![80, 0] (k0_pay304 x0 x1 x2 x3 x4 x5 x6 x7 x8 x9 x10 x11 x12 x13 x14 x15 x16 x17 x18 x19) slices_S128x512_o80_0_S16x512) (k0_pay301 x0 x1 x2 x3 x4 x5 x6 x7 x8 x9 x10 x11 x12 x13 x14 x15 x16 x17 x18 x19))
    (kHead (extractStridedSlice S16x512 ![96, 0] (k0_pay303 x0 x1 x2 x3 x4 x5 x6 x7 x8 x9 x10 x11 x12 x13 x14 x15 x16 x17 x18 x19) slices_S128x512_o96_0_S16x512) (extractStridedSlice S16x512 ![96, 0] (k0_pay302 x0 x1 x2 x3 x4 x5 x6 x7 x8 x9 x10 x11 x12 x13 x14 x15 x16 x17 x18 x19) slices_S128x512_o96_0_S16x512) (extractStridedSlice S16x512 ![96, 0] (k0_pay304 x0 x1 x2 x3 x4 x5 x6 x7 x8 x9 x10 x11 x12 x13 x14 x15 x16 x17 x18 x19) slices_S128x512_o96_0_S16x512) (k0_pay301 x0 x1 x2 x3 x4 x5 x6 x7 x8 x9 x10 x11 x12 x13 x14 x15 x16 x17 x18 x19))
    (kHead (extractStridedSlice S16x512 ![112, 0] (k0_pay303 x0 x1 x2 x3 x4 x5 x6 x7 x8 x9 x10 x11 x12 x13 x14 x15 x16 x17 x18 x19) slices_S128x512_o112_0_S16x512) (extractStridedSlice S16x512 ![112, 0] (k0_pay302 x0 x1 x2 x3 x4 x5 x6 x7 x8 x9 x10 x11 x12 x13 x14 x15 x16 x17 x18 x19) slices_S128x512_o112_0_S16x512) (extractStridedSlice S16x512 ![112, 0] (k0_pay304 x0 x1 x2 x3 x4 x5 x6 x7 x8 x9 x10 x11 x12 x13 x14 x15 x16 x17 x18 x19) slices_S128x512_o112_0_S16x512) (k0_pay301 x0 x1 x2 x3 x4 x5 x6 x7 x8 x9 x10 x11 x12 x13 x14 x15 x16 x17 x18 x19)) := rfl
theorem attn_first_two : k0_pay306 x0 x1 x2 x3 x4 x5 x6 x7 x8 x9 x10 x11 x12 x13 x14 x15 x16 x17 x18 x19 = kAttn (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay290 x0 x1 x2 x3 x4 x5 x6 x7 x8 x9 x10 x11 x12 x13 x14 x15 x16 x17 x18 x19) (kSq (View.ld x4 r0_11)) (kSq (View.ld x5 r0_11)) (kSq (View.ld x6 r0_11)) (kSq (View.ld x7 r0_11)) (kSqR (View.ld x8 r0_12)) (kSqB (View.ld x9 r0_13)) := by
  rw [mid_first_two, loga_first_two, q_first_two, k_first_two, v_first_two]
  rfl
theorem norm_first_two : k0_pay309 x0 x1 x2 x3 x4 x5 x6 x7 x8 x9 x10 x11 x12 x13 x14 x15 x16 x17 x18 x19 = kNorm (kFfn (kScale (kCenter (k0_pay306 x0 x1 x2 x3 x4 x5 x6 x7 x8 x9 x10 x11 x12 x13 x14 x15 x16 x17 x18 x19)) (kSqC (View.ld x10 r0_14)) (kSqC (View.ld x11 r0_14))) (kSqU (View.ld x12 r0_15)) (kSqV (View.ld x13 r0_16)) (kSqD (View.ld x14 r0_17)) (kSqC (View.ld x15 r0_14))) (kSqC (View.ld x16 r0_14)) (kSqC (View.ld x17 r0_14)) := rfl
/-- The features after layer two, first batch entry. -/
theorem layer_first_two : k0_pay309 x0 x1 x2 x3 x4 x5 x6 x7 x8 x9 x10 x11 x12 x13 x14 x15 x16 x17 x18 x19
    = kLayer (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay290 x0 x1 x2 x3 x4 x5 x6 x7 x8 x9 x10 x11 x12 x13 x14 x15 x16 x17 x18 x19)
      (kSq (View.ld x4 r0_11)) (kSq (View.ld x5 r0_11)) (kSq (View.ld x6 r0_11)) (kSq (View.ld x7 r0_11)) (kSqR (View.ld x8 r0_12)) (kSqB (View.ld x9 r0_13)) (kSqC (View.ld x10 r0_14)) (kSqC (View.ld x11 r0_14)) (kSqU (View.ld x12 r0_15)) (kSqV (View.ld x13 r0_16)) (kSqD (View.ld x14 r0_17)) (kSqC (View.ld x15 r0_14)) (kSqC (View.ld x16 r0_14)) (kSqC (View.ld x17 r0_14)) := by
  rw [norm_first_two, attn_first_two]
  rfl

/-- The logarithms of the edge weights of layer one, second batch entry. -/
theorem loga_second_one : k0_pay323 x0 x1 x2 x3 x4 x5 x6 x7 x8 x9 x10 x11 x12 x13 x14 x15 x16 x17 x18 x19 = kLoga (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay310 x0 x1 x2 x3 x4 x5 x6 x7 x8 x9 x10 x11 x12 x13 x14 x15 x16 x17 x18 x19) (kSqR (View.ld x8 r0_5)) (kSqB (View.ld x9 r0_6)) := by
  simp only [k0_pay323, k0_pay141, k0_pay142, k0_pay315, k0_pay316, k0_pay151, k0_pay152, k0_pay153, k0_pay154, k0_pay155, k0_pay156, k0_pay157, k0_pay158, k0_pay159, k0_pay160, k0_pay161, k0_pay162, k0_pay163, k0_pay164, k0_pay165, k0_pay166, k0_pay317, k0_pay318, k0_pay319, k0_pay320, k0_pay321, k0_pay322, kLoga, kLogaOf, kPick, kSpread, kLog, kW0, kW1, kW2, kKeep, kProb, kInd, kRow0, kRow1, kRow2, kLogits, kSqR, kSqB]
theorem q_second_one : k0_pay324 x0 x1 x2 x3 x4 x5 x6 x7 x8 x9 x10 x11 x12 x13 x14 x15 x16 x17 x18 x19 = kQ (k0_pay310 x0 x1 x2 x3 x4 x5 x6 x7 x8 x9 x10 x11 x12 x13 x14 x15 x16 x17 x18 x19) (kSq (View.ld x4 r0_4)) := rfl
theorem k_second_one : k0_pay325 x0 x1 x2 x3 x4 x5 x6 x7 x8 x9 x10 x11 x12 x13 x14 x15 x16 x17 x18 x19 = kApp (k0_pay310 x0 x1 x2 x3 x4 x5 x6 x7 x8 x9 x10 x11 x12 x13 x14 x15 x16 x17 x18 x19) (kSq (View.ld x5 r0_4)) := rfl
theorem v_second_one : k0_pay326 x0 x1 x2 x3 x4 x5 x6 x7 x8 x9 x10 x11 x12 x13 x14 x15 x16 x17 x18 x19 = kApp (k0_pay310 x0 x1 x2 x3 x4 x5 x6 x7 x8 x9 x10 x11 x12 x13 x14 x15 x16 x17 x18 x19) (kSq (View.ld x6 r0_4)) := rfl
theorem head0_second_one : k0_pay328 x0 x1 x2 x3 x4 x5 x6 x7 x8 x9 x10 x11 x12 x13 x14 x15 x16 x17 x18 x19 = (kHead (extractStridedSlice S16x512 ![0, 0] (k0_pay325 x0 x1 x2 x3 x4 x5 x6 x7 x8 x9 x10 x11 x12 x13 x14 x15 x16 x17 x18 x19) slices_S128x512_o0_0_S16x512) (extractStridedSlice S16x512 ![0, 0] (k0_pay324 x0 x1 x2 x3 x4 x5 x6 x7 x8 x9 x10 x11 x12 x13 x14 x15 x16 x17 x18 x19) slices_S128x512_o0_0_S16x512) (extractStridedSlice S16x512 ![0, 0] (k0_pay326 x0 x1 x2 x3 x4 x5 x6 x7 x8 x9 x10 x11 x12 x13 x14 x15 x16 x17 x18 x19) slices_S128x512_o0_0_S16x512) (k0_pay323 x0 x1 x2 x3 x4 x5 x6 x7 x8 x9 x10 x11 x12 x13 x14 x15 x16 x17 x18 x19)) := rfl
theorem head1_second_one : k0_pay329 x0 x1 x2 x3 x4 x5 x6 x7 x8 x9 x10 x11 x12 x13 x14 x15 x16 x17 x18 x19 = (kHead (extractStridedSlice S16x512 ![16, 0] (k0_pay325 x0 x1 x2 x3 x4 x5 x6 x7 x8 x9 x10 x11 x12 x13 x14 x15 x16 x17 x18 x19) slices_S128x512_o16_0_S16x512) (extractStridedSlice S16x512 ![16, 0] (k0_pay324 x0 x1 x2 x3 x4 x5 x6 x7 x8 x9 x10 x11 x12 x13 x14 x15 x16 x17 x18 x19) slices_S128x512_o16_0_S16x512) (extractStridedSlice S16x512 ![16, 0] (k0_pay326 x0 x1 x2 x3 x4 x5 x6 x7 x8 x9 x10 x11 x12 x13 x14 x15 x16 x17 x18 x19) slices_S128x512_o16_0_S16x512) (k0_pay323 x0 x1 x2 x3 x4 x5 x6 x7 x8 x9 x10 x11 x12 x13 x14 x15 x16 x17 x18 x19)) := rfl
theorem head2_second_one : k0_pay330 x0 x1 x2 x3 x4 x5 x6 x7 x8 x9 x10 x11 x12 x13 x14 x15 x16 x17 x18 x19 = (kHead (extractStridedSlice S16x512 ![32, 0] (k0_pay325 x0 x1 x2 x3 x4 x5 x6 x7 x8 x9 x10 x11 x12 x13 x14 x15 x16 x17 x18 x19) slices_S128x512_o32_0_S16x512) (extractStridedSlice S16x512 ![32, 0] (k0_pay324 x0 x1 x2 x3 x4 x5 x6 x7 x8 x9 x10 x11 x12 x13 x14 x15 x16 x17 x18 x19) slices_S128x512_o32_0_S16x512) (extractStridedSlice S16x512 ![32, 0] (k0_pay326 x0 x1 x2 x3 x4 x5 x6 x7 x8 x9 x10 x11 x12 x13 x14 x15 x16 x17 x18 x19) slices_S128x512_o32_0_S16x512) (k0_pay323 x0 x1 x2 x3 x4 x5 x6 x7 x8 x9 x10 x11 x12 x13 x14 x15 x16 x17 x18 x19)) := rfl
theorem head3_second_one : k0_pay331 x0 x1 x2 x3 x4 x5 x6 x7 x8 x9 x10 x11 x12 x13 x14 x15 x16 x17 x18 x19 = (kHead (extractStridedSlice S16x512 ![48, 0] (k0_pay325 x0 x1 x2 x3 x4 x5 x6 x7 x8 x9 x10 x11 x12 x13 x14 x15 x16 x17 x18 x19) slices_S128x512_o48_0_S16x512) (extractStridedSlice S16x512 ![48, 0] (k0_pay324 x0 x1 x2 x3 x4 x5 x6 x7 x8 x9 x10 x11 x12 x13 x14 x15 x16 x17 x18 x19) slices_S128x512_o48_0_S16x512) (extractStridedSlice S16x512 ![48, 0] (k0_pay326 x0 x1 x2 x3 x4 x5 x6 x7 x8 x9 x10 x11 x12 x13 x14 x15 x16 x17 x18 x19) slices_S128x512_o48_0_S16x512) (k0_pay323 x0 x1 x2 x3 x4 x5 x6 x7 x8 x9 x10 x11 x12 x13 x14 x15 x16 x17 x18 x19)) := rfl
theorem head4_second_one : k0_pay332 x0 x1 x2 x3 x4 x5 x6 x7 x8 x9 x10 x11 x12 x13 x14 x15 x16 x17 x18 x19 = (kHead (extractStridedSlice S16x512 ![64, 0] (k0_pay325 x0 x1 x2 x3 x4 x5 x6 x7 x8 x9 x10 x11 x12 x13 x14 x15 x16 x17 x18 x19) slices_S128x512_o64_0_S16x512) (extractStridedSlice S16x512 ![64, 0] (k0_pay324 x0 x1 x2 x3 x4 x5 x6 x7 x8 x9 x10 x11 x12 x13 x14 x15 x16 x17 x18 x19) slices_S128x512_o64_0_S16x512) (extractStridedSlice S16x512 ![64, 0] (k0_pay326 x0 x1 x2 x3 x4 x5 x6 x7 x8 x9 x10 x11 x12 x13 x14 x15 x16 x17 x18 x19) slices_S128x512_o64_0_S16x512) (k0_pay323 x0 x1 x2 x3 x4 x5 x6 x7 x8 x9 x10 x11 x12 x13 x14 x15 x16 x17 x18 x19)) := rfl
theorem head5_second_one : k0_pay333 x0 x1 x2 x3 x4 x5 x6 x7 x8 x9 x10 x11 x12 x13 x14 x15 x16 x17 x18 x19 = (kHead (extractStridedSlice S16x512 ![80, 0] (k0_pay325 x0 x1 x2 x3 x4 x5 x6 x7 x8 x9 x10 x11 x12 x13 x14 x15 x16 x17 x18 x19) slices_S128x512_o80_0_S16x512) (extractStridedSlice S16x512 ![80, 0] (k0_pay324 x0 x1 x2 x3 x4 x5 x6 x7 x8 x9 x10 x11 x12 x13 x14 x15 x16 x17 x18 x19) slices_S128x512_o80_0_S16x512) (extractStridedSlice S16x512 ![80, 0] (k0_pay326 x0 x1 x2 x3 x4 x5 x6 x7 x8 x9 x10 x11 x12 x13 x14 x15 x16 x17 x18 x19) slices_S128x512_o80_0_S16x512) (k0_pay323 x0 x1 x2 x3 x4 x5 x6 x7 x8 x9 x10 x11 x12 x13 x14 x15 x16 x17 x18 x19)) := rfl
theorem mid_second_one : k0_pay180 (k0_pay310 x0 x1 x2 x3 x4 x5 x6 x7 x8 x9 x10 x11 x12 x13 x14 x15 x16 x17 x18 x19) (k0_pay314 x0 x1 x2 x3 x4 x5 x6 x7 x8 x9 x10 x11 x12 x13 x14 x15 x16 x17 x18 x19) (k0_pay323 x0 x1 x2 x3 x4 x5 x6 x7 x8 x9 x10 x11 x12 x13 x14 x15 x16 x17 x18 x19) (k0_pay324 x0 x1 x2 x3 x4 x5 x6 x7 x8 x9 x10 x11 x12 x13 x14 x15 x16 x17 x18 x19) (k0_pay325 x0 x1 x2 x3 x4 x5 x6 x7 x8 x9 x10 x11 x12 x13 x14 x15 x16 x17 x18 x19) (k0_pay326 x0 x1 x2 x3 x4 x5 x6 x7 x8 x9 x10 x11 x12 x13 x14 x15 x16 x17 x18 x19) (k0_pay327 x0 x1 x2 x3 x4 x5 x6 x7 x8 x9 x10 x11 x12 x13 x14 x15 x16 x17 x18 x19) (k0_pay328 x0 x1 x2 x3 x4 x5 x6 x7 x8 x9 x10 x11 x12 x13 x14 x15 x16 x17 x18 x19) (k0_pay329 x0 x1 x2 x3 x4 x5 x6 x7 x8 x9 x10 x11 x12 x13 x14 x15 x16 x17 x18 x19) (k0_pay330 x0 x1 x2 x3 x4 x5 x6 x7 x8 x9 x10 x11 x12 x13 x14 x15 x16 x17 x18 x19) (k0_pay331 x0 x1 x2 x3 x4 x5 x6 x7 x8 x9 x10 x11 x12 x13 x14 x15 x16 x17 x18 x19) (k0_pay332 x0 x1 x2 x3 x4 x5 x6 x7 x8 x9 x10 x11 x12 x13 x14 x15 x16 x17 x18 x19) (k0_pay333 x0 x1 x2 x3 x4 x5 x6 x7 x8 x9 x10 x11 x12 x13 x14 x15 x16 x17 x18 x19) = kCenter (kMid (k0_pay310 x0 x1 x2 x3 x4 x5 x6 x7 x8 x9 x10 x11 x12 x13 x14 x15 x16 x17 x18 x19) (kSq (View.ld x7 r0_4))
    (k0_pay328 x0 x1 x2 x3 x4 x5 x6 x7 x8 x9 x10 x11 x12 x13 x14 x15 x16 x17 x18 x19)
    (k0_pay329 x0 x1 x2 x3 x4 x5 x6 x7 x8 x9 x10 x11 x12 x13 x14 x15 x16 x17 x18 x19)
    (k0_pay330 x0 x1 x2 x3 x4 x5 x6 x7 x8 x9 x10 x11 x12 x13 x14 x15 x16 x17 x18 x19)
    (k0_pay331 x0 x1 x2 x3 x4 x5 x6 x7 x8 x9 x10 x11 x12 x13 x14 x15 x16 x17 x18 x19)
    (k0_pay332 x0 x1 x2 x3 x4 x5 x6 x7 x8 x9 x10 x11 x12 x13 x14 x15 x16 x17 x18 x19)
    (k0_pay333 x0 x1 x2 x3 x4 x5 x6 x7 x8 x9 x10 x11 x12 x13 x14 x15 x16 x17 x18 x19)
    (kHead (extractStridedSlice S16x512 ![96, 0] (k0_pay325 x0 x1 x2 x3 x4 x5 x6 x7 x8 x9 x10 x11 x12 x13 x14 x15 x16 x17 x18 x19) slices_S128x512_o96_0_S16x512) (extractStridedSlice S16x512 ![96, 0] (k0_pay324 x0 x1 x2 x3 x4 x5 x6 x7 x8 x9 x10 x11 x12 x13 x14 x15 x16 x17 x18 x19) slices_S128x512_o96_0_S16x512) (extractStridedSlice S16x512 ![96, 0] (k0_pay326 x0 x1 x2 x3 x4 x5 x6 x7 x8 x9 x10 x11 x12 x13 x14 x15 x16 x17 x18 x19) slices_S128x512_o96_0_S16x512) (k0_pay323 x0 x1 x2 x3 x4 x5 x6 x7 x8 x9 x10 x11 x12 x13 x14 x15 x16 x17 x18 x19))
    (kHead (extractStridedSlice S16x512 ![112, 0] (k0_pay325 x0 x1 x2 x3 x4 x5 x6 x7 x8 x9 x10 x11 x12 x13 x14 x15 x16 x17 x18 x19) slices_S128x512_o112_0_S16x512) (extractStridedSlice S16x512 ![112, 0] (k0_pay324 x0 x1 x2 x3 x4 x5 x6 x7 x8 x9 x10 x11 x12 x13 x14 x15 x16 x17 x18 x19) slices_S128x512_o112_0_S16x512) (extractStridedSlice S16x512 ![112, 0] (k0_pay326 x0 x1 x2 x3 x4 x5 x6 x7 x8 x9 x10 x11 x12 x13 x14 x15 x16 x17 x18 x19) slices_S128x512_o112_0_S16x512) (k0_pay323 x0 x1 x2 x3 x4 x5 x6 x7 x8 x9 x10 x11 x12 x13 x14 x15 x16 x17 x18 x19))) := rfl
theorem attn_second_one : k0_pay180 (k0_pay310 x0 x1 x2 x3 x4 x5 x6 x7 x8 x9 x10 x11 x12 x13 x14 x15 x16 x17 x18 x19) (k0_pay314 x0 x1 x2 x3 x4 x5 x6 x7 x8 x9 x10 x11 x12 x13 x14 x15 x16 x17 x18 x19) (k0_pay323 x0 x1 x2 x3 x4 x5 x6 x7 x8 x9 x10 x11 x12 x13 x14 x15 x16 x17 x18 x19) (k0_pay324 x0 x1 x2 x3 x4 x5 x6 x7 x8 x9 x10 x11 x12 x13 x14 x15 x16 x17 x18 x19) (k0_pay325 x0 x1 x2 x3 x4 x5 x6 x7 x8 x9 x10 x11 x12 x13 x14 x15 x16 x17 x18 x19) (k0_pay326 x0 x1 x2 x3 x4 x5 x6 x7 x8 x9 x10 x11 x12 x13 x14 x15 x16 x17 x18 x19) (k0_pay327 x0 x1 x2 x3 x4 x5 x6 x7 x8 x9 x10 x11 x12 x13 x14 x15 x16 x17 x18 x19) (k0_pay328 x0 x1 x2 x3 x4 x5 x6 x7 x8 x9 x10 x11 x12 x13 x14 x15 x16 x17 x18 x19) (k0_pay329 x0 x1 x2 x3 x4 x5 x6 x7 x8 x9 x10 x11 x12 x13 x14 x15 x16 x17 x18 x19) (k0_pay330 x0 x1 x2 x3 x4 x5 x6 x7 x8 x9 x10 x11 x12 x13 x14 x15 x16 x17 x18 x19) (k0_pay331 x0 x1 x2 x3 x4 x5 x6 x7 x8 x9 x10 x11 x12 x13 x14 x15 x16 x17 x18 x19) (k0_pay332 x0 x1 x2 x3 x4 x5 x6 x7 x8 x9 x10 x11 x12 x13 x14 x15 x16 x17 x18 x19) (k0_pay333 x0 x1 x2 x3 x4 x5 x6 x7 x8 x9 x10 x11 x12 x13 x14 x15 x16 x17 x18 x19) = kCenter (kAttn (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay310 x0 x1 x2 x3 x4 x5 x6 x7 x8 x9 x10 x11 x12 x13 x14 x15 x16 x17 x18 x19) (kSq (View.ld x4 r0_4)) (kSq (View.ld x5 r0_4)) (kSq (View.ld x6 r0_4)) (kSq (View.ld x7 r0_4)) (kSqR (View.ld x8 r0_5)) (kSqB (View.ld x9 r0_6))) := by
  rw [mid_second_one, head0_second_one, head1_second_one, head2_second_one, head3_second_one, head4_second_one, head5_second_one, loga_second_one, q_second_one, k_second_one, v_second_one]
  rfl
theorem norm_second_one : k0_pay334 x0 x1 x2 x3 x4 x5 x6 x7 x8 x9 x10 x11 x12 x13 x14 x15 x16 x17 x18 x19 = kNorm (kFfn (kScale (k0_pay180 (k0_pay310 x0 x1 x2 x3 x4 x5 x6 x7 x8 x9 x10 x11 x12 x13 x14 x15 x16 x17 x18 x19) (k0_pay314 x0 x1 x2 x3 x4 x5 x6 x7 x8 x9 x10 x11 x12 x13 x14 x15 x16 x17 x18 x19) (k0_pay323 x0 x1 x2 x3 x4 x5 x6 x7 x8 x9 x10 x11 x12 x13 x14 x15 x16 x17 x18 x19) (k0_pay324 x0 x1 x2 x3 x4 x5 x6 x7 x8 x9 x10 x11 x12 x13 x14 x15 x16 x17 x18 x19) (k0_pay325 x0 x1 x2 x3 x4 x5 x6 x7 x8 x9 x10 x11 x12 x13 x14 x15 x16 x17 x18 x19) (k0_pay326 x0 x1 x2 x3 x4 x5 x6 x7 x8 x9 x10 x11 x12 x13 x14 x15 x16 x17 x18 x19) (k0_pay327 x0 x1 x2 x3 x4 x5 x6 x7 x8 x9 x10 x11 x12 x13 x14 x15 x16 x17 x18 x19) (k0_pay328 x0 x1 x2 x3 x4 x5 x6 x7 x8 x9 x10 x11 x12 x13 x14 x15 x16 x17 x18 x19) (k0_pay329 x0 x1 x2 x3 x4 x5 x6 x7 x8 x9 x10 x11 x12 x13 x14 x15 x16 x17 x18 x19) (k0_pay330 x0 x1 x2 x3 x4 x5 x6 x7 x8 x9 x10 x11 x12 x13 x14 x15 x16 x17 x18 x19) (k0_pay331 x0 x1 x2 x3 x4 x5 x6 x7 x8 x9 x10 x11 x12 x13 x14 x15 x16 x17 x18 x19) (k0_pay332 x0 x1 x2 x3 x4 x5 x6 x7 x8 x9 x10 x11 x12 x13 x14 x15 x16 x17 x18 x19) (k0_pay333 x0 x1 x2 x3 x4 x5 x6 x7 x8 x9 x10 x11 x12 x13 x14 x15 x16 x17 x18 x19)) (kSqC (View.ld x10 r0_7)) (kSqC (View.ld x11 r0_7))) (kSqU (View.ld x12 r0_8)) (kSqV (View.ld x13 r0_9)) (kSqD (View.ld x14 r0_10)) (kSqC (View.ld x15 r0_7))) (kSqC (View.ld x16 r0_7)) (kSqC (View.ld x17 r0_7)) := rfl
/-- The features after layer one, second batch entry. -/
theorem layer_second_one : k0_pay334 x0 x1 x2 x3 x4 x5 x6 x7 x8 x9 x10 x11 x12 x13 x14 x15 x16 x17 x18 x19
    = kLayer (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay310 x0 x1 x2 x3 x4 x5 x6 x7 x8 x9 x10 x11 x12 x13 x14 x15 x16 x17 x18 x19)
      (kSq (View.ld x4 r0_4)) (kSq (View.ld x5 r0_4)) (kSq (View.ld x6 r0_4)) (kSq (View.ld x7 r0_4)) (kSqR (View.ld x8 r0_5)) (kSqB (View.ld x9 r0_6)) (kSqC (View.ld x10 r0_7)) (kSqC (View.ld x11 r0_7)) (kSqU (View.ld x12 r0_8)) (kSqV (View.ld x13 r0_9)) (kSqD (View.ld x14 r0_10)) (kSqC (View.ld x15 r0_7)) (kSqC (View.ld x16 r0_7)) (kSqC (View.ld x17 r0_7)) := by
  rw [norm_second_one, attn_second_one]
  rfl

/-- The logarithms of the edge weights of layer two, second batch entry. -/
theorem loga_second_two : k0_pay354 x0 x1 x2 x3 x4 x5 x6 x7 x8 x9 x10 x11 x12 x13 x14 x15 x16 x17 x18 x19 = kLoga (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay334 x0 x1 x2 x3 x4 x5 x6 x7 x8 x9 x10 x11 x12 x13 x14 x15 x16 x17 x18 x19) (kSqR (View.ld x8 r0_12)) (kSqB (View.ld x9 r0_13)) := by
  simp only [k0_pay354, k0_pay188, k0_pay189, k0_pay337, k0_pay338, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay347, k0_pay348, k0_pay349, k0_pay350, k0_pay351, k0_pay352, k0_pay353, kLoga, kLogaOf, kPick, kSpread, kLog, kW0, kW1, kW2, kKeep, kProb, kInd, kRow0, kRow1, kRow2, kLogits, kSqR, kSqB]
theorem q_second_two : k0_pay355 x0 x1 x2 x3 x4 x5 x6 x7 x8 x9 x10 x11 x12 x13 x14 x15 x16 x17 x18 x19 = kQ (k0_pay334 x0 x1 x2 x3 x4 x5 x6 x7 x8 x9 x10 x11 x12 x13 x14 x15 x16 x17 x18 x19) (kSq (View.ld x4 r0_11)) := rfl
theorem k_second_two : k0_pay356 x0 x1 x2 x3 x4 x5 x6 x7 x8 x9 x10 x11 x12 x13 x14 x15 x16 x17 x18 x19 = kApp (k0_pay334 x0 x1 x2 x3 x4 x5 x6 x7 x8 x9 x10 x11 x12 x13 x14 x15 x16 x17 x18 x19) (kSq (View.ld x5 r0_11)) := rfl
theorem v_second_two : k0_pay357 x0 x1 x2 x3 x4 x5 x6 x7 x8 x9 x10 x11 x12 x13 x14 x15 x16 x17 x18 x19 = kApp (k0_pay334 x0 x1 x2 x3 x4 x5 x6 x7 x8 x9 x10 x11 x12 x13 x14 x15 x16 x17 x18 x19) (kSq (View.ld x6 r0_11)) := rfl
theorem mid_second_two : k0_pay359 x0 x1 x2 x3 x4 x5 x6 x7 x8 x9 x10 x11 x12 x13 x14 x15 x16 x17 x18 x19 = kCenter (kMid (k0_pay334 x0 x1 x2 x3 x4 x5 x6 x7 x8 x9 x10 x11 x12 x13 x14 x15 x16 x17 x18 x19) (kSq (View.ld x7 r0_11))
    (kHead (extractStridedSlice S16x512 ![0, 0] (k0_pay356 x0 x1 x2 x3 x4 x5 x6 x7 x8 x9 x10 x11 x12 x13 x14 x15 x16 x17 x18 x19) slices_S128x512_o0_0_S16x512) (extractStridedSlice S16x512 ![0, 0] (k0_pay355 x0 x1 x2 x3 x4 x5 x6 x7 x8 x9 x10 x11 x12 x13 x14 x15 x16 x17 x18 x19) slices_S128x512_o0_0_S16x512) (extractStridedSlice S16x512 ![0, 0] (k0_pay357 x0 x1 x2 x3 x4 x5 x6 x7 x8 x9 x10 x11 x12 x13 x14 x15 x16 x17 x18 x19) slices_S128x512_o0_0_S16x512) (k0_pay354 x0 x1 x2 x3 x4 x5 x6 x7 x8 x9 x10 x11 x12 x13 x14 x15 x16 x17 x18 x19))
    (kHead (extractStridedSlice S16x512 ![16, 0] (k0_pay356 x0 x1 x2 x3 x4 x5 x6 x7 x8 x9 x10 x11 x12 x13 x14 x15 x16 x17 x18 x19) slices_S128x512_o16_0_S16x512) (extractStridedSlice S16x512 ![16, 0] (k0_pay355 x0 x1 x2 x3 x4 x5 x6 x7 x8 x9 x10 x11 x12 x13 x14 x15 x16 x17 x18 x19) slices_S128x512_o16_0_S16x512) (extractStridedSlice S16x512 ![16, 0] (k0_pay357 x0 x1 x2 x3 x4 x5 x6 x7 x8 x9 x10 x11 x12 x13 x14 x15 x16 x17 x18 x19) slices_S128x512_o16_0_S16x512) (k0_pay354 x0 x1 x2 x3 x4 x5 x6 x7 x8 x9 x10 x11 x12 x13 x14 x15 x16 x17 x18 x19))
    (kHead (extractStridedSlice S16x512 ![32, 0] (k0_pay356 x0 x1 x2 x3 x4 x5 x6 x7 x8 x9 x10 x11 x12 x13 x14 x15 x16 x17 x18 x19) slices_S128x512_o32_0_S16x512) (extractStridedSlice S16x512 ![32, 0] (k0_pay355 x0 x1 x2 x3 x4 x5 x6 x7 x8 x9 x10 x11 x12 x13 x14 x15 x16 x17 x18 x19) slices_S128x512_o32_0_S16x512) (extractStridedSlice S16x512 ![32, 0] (k0_pay357 x0 x1 x2 x3 x4 x5 x6 x7 x8 x9 x10 x11 x12 x13 x14 x15 x16 x17 x18 x19) slices_S128x512_o32_0_S16x512) (k0_pay354 x0 x1 x2 x3 x4 x5 x6 x7 x8 x9 x10 x11 x12 x13 x14 x15 x16 x17 x18 x19))
    (kHead (extractStridedSlice S16x512 ![48, 0] (k0_pay356 x0 x1 x2 x3 x4 x5 x6 x7 x8 x9 x10 x11 x12 x13 x14 x15 x16 x17 x18 x19) slices_S128x512_o48_0_S16x512) (extractStridedSlice S16x512 ![48, 0] (k0_pay355 x0 x1 x2 x3 x4 x5 x6 x7 x8 x9 x10 x11 x12 x13 x14 x15 x16 x17 x18 x19) slices_S128x512_o48_0_S16x512) (extractStridedSlice S16x512 ![48, 0] (k0_pay357 x0 x1 x2 x3 x4 x5 x6 x7 x8 x9 x10 x11 x12 x13 x14 x15 x16 x17 x18 x19) slices_S128x512_o48_0_S16x512) (k0_pay354 x0 x1 x2 x3 x4 x5 x6 x7 x8 x9 x10 x11 x12 x13 x14 x15 x16 x17 x18 x19))
    (kHead (extractStridedSlice S16x512 ![64, 0] (k0_pay356 x0 x1 x2 x3 x4 x5 x6 x7 x8 x9 x10 x11 x12 x13 x14 x15 x16 x17 x18 x19) slices_S128x512_o64_0_S16x512) (extractStridedSlice S16x512 ![64, 0] (k0_pay355 x0 x1 x2 x3 x4 x5 x6 x7 x8 x9 x10 x11 x12 x13 x14 x15 x16 x17 x18 x19) slices_S128x512_o64_0_S16x512) (extractStridedSlice S16x512 ![64, 0] (k0_pay357 x0 x1 x2 x3 x4 x5 x6 x7 x8 x9 x10 x11 x12 x13 x14 x15 x16 x17 x18 x19) slices_S128x512_o64_0_S16x512) (k0_pay354 x0 x1 x2 x3 x4 x5 x6 x7 x8 x9 x10 x11 x12 x13 x14 x15 x16 x17 x18 x19))
    (kHead (extractStridedSlice S16x512 ![80, 0] (k0_pay356 x0 x1 x2 x3 x4 x5 x6 x7 x8 x9 x10 x11 x12 x13 x14 x15 x16 x17 x18 x19) slices_S128x512_o80_0_S16x512) (extractStridedSlice S16x512 ![80, 0] (k0_pay355 x0 x1 x2 x3 x4 x5 x6 x7 x8 x9 x10 x11 x12 x13 x14 x15 x16 x17 x18 x19) slices_S128x512_o80_0_S16x512) (extractStridedSlice S16x512 ![80, 0] (k0_pay357 x0 x1 x2 x3 x4 x5 x6 x7 x8 x9 x10 x11 x12 x13 x14 x15 x16 x17 x18 x19) slices_S128x512_o80_0_S16x512) (k0_pay354 x0 x1 x2 x3 x4 x5 x6 x7 x8 x9 x10 x11 x12 x13 x14 x15 x16 x17 x18 x19))
    (kHead (extractStridedSlice S16x512 ![96, 0] (k0_pay356 x0 x1 x2 x3 x4 x5 x6 x7 x8 x9 x10 x11 x12 x13 x14 x15 x16 x17 x18 x19) slices_S128x512_o96_0_S16x512) (extractStridedSlice S16x512 ![96, 0] (k0_pay355 x0 x1 x2 x3 x4 x5 x6 x7 x8 x9 x10 x11 x12 x13 x14 x15 x16 x17 x18 x19) slices_S128x512_o96_0_S16x512) (extractStridedSlice S16x512 ![96, 0] (k0_pay357 x0 x1 x2 x3 x4 x5 x6 x7 x8 x9 x10 x11 x12 x13 x14 x15 x16 x17 x18 x19) slices_S128x512_o96_0_S16x512) (k0_pay354 x0 x1 x2 x3 x4 x5 x6 x7 x8 x9 x10 x11 x12 x13 x14 x15 x16 x17 x18 x19))
    (kHead (extractStridedSlice S16x512 ![112, 0] (k0_pay356 x0 x1 x2 x3 x4 x5 x6 x7 x8 x9 x10 x11 x12 x13 x14 x15 x16 x17 x18 x19) slices_S128x512_o112_0_S16x512) (extractStridedSlice S16x512 ![112, 0] (k0_pay355 x0 x1 x2 x3 x4 x5 x6 x7 x8 x9 x10 x11 x12 x13 x14 x15 x16 x17 x18 x19) slices_S128x512_o112_0_S16x512) (extractStridedSlice S16x512 ![112, 0] (k0_pay357 x0 x1 x2 x3 x4 x5 x6 x7 x8 x9 x10 x11 x12 x13 x14 x15 x16 x17 x18 x19) slices_S128x512_o112_0_S16x512) (k0_pay354 x0 x1 x2 x3 x4 x5 x6 x7 x8 x9 x10 x11 x12 x13 x14 x15 x16 x17 x18 x19))) := rfl
theorem attn_second_two : k0_pay359 x0 x1 x2 x3 x4 x5 x6 x7 x8 x9 x10 x11 x12 x13 x14 x15 x16 x17 x18 x19 = kCenter (kAttn (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay334 x0 x1 x2 x3 x4 x5 x6 x7 x8 x9 x10 x11 x12 x13 x14 x15 x16 x17 x18 x19) (kSq (View.ld x4 r0_11)) (kSq (View.ld x5 r0_11)) (kSq (View.ld x6 r0_11)) (kSq (View.ld x7 r0_11)) (kSqR (View.ld x8 r0_12)) (kSqB (View.ld x9 r0_13))) := by
  rw [mid_second_two, loga_second_two, q_second_two, k_second_two, v_second_two]
  rfl
theorem norm_second_two : k0_pay363 x0 x1 x2 x3 x4 x5 x6 x7 x8 x9 x10 x11 x12 x13 x14 x15 x16 x17 x18 x19 = kNorm (kFfn (kScale (k0_pay359 x0 x1 x2 x3 x4 x5 x6 x7 x8 x9 x10 x11 x12 x13 x14 x15 x16 x17 x18 x19) (kSqC (View.ld x10 r0_14)) (kSqC (View.ld x11 r0_14))) (kSqU (View.ld x12 r0_15)) (kSqV (View.ld x13 r0_16)) (kSqD (View.ld x14 r0_17)) (kSqC (View.ld x15 r0_14))) (kSqC (View.ld x16 r0_14)) (kSqC (View.ld x17 r0_14)) := rfl
/-- The features after layer two, second batch entry. -/
theorem layer_second_two : k0_pay363 x0 x1 x2 x3 x4 x5 x6 x7 x8 x9 x10 x11 x12 x13 x14 x15 x16 x17 x18 x19
    = kLayer (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) (k0_pay334 x0 x1 x2 x3 x4 x5 x6 x7 x8 x9 x10 x11 x12 x13 x14 x15 x16 x17 x18 x19)
      (kSq (View.ld x4 r0_11)) (kSq (View.ld x5 r0_11)) (kSq (View.ld x6 r0_11)) (kSq (View.ld x7 r0_11)) (kSqR (View.ld x8 r0_12)) (kSqB (View.ld x9 r0_13)) (kSqC (View.ld x10 r0_14)) (kSqC (View.ld x11 r0_14)) (kSqU (View.ld x12 r0_15)) (kSqV (View.ld x13 r0_16)) (kSqD (View.ld x14 r0_17)) (kSqC (View.ld x15 r0_14)) (kSqC (View.ld x16 r0_14)) (kSqC (View.ld x17 r0_14)) := by
  rw [norm_second_two, attn_second_two]
  rfl

end Patch
-- ==== Proof.KNormR.lean ====
module

public import proofs.«01_k».proof.Proof.KStage

@[expose] public section

set_option maxRecDepth 16384

/-! # The kernel's stages at real numbers: normalisation, products, feed-forward -/

noncomputable section

namespace Patch

open scoped BigOperators
open Idealize Idealize.ShloMosaic Cert.KernelIdeal Cert.KernelIdeal.Gen

/-- The mean down the features of real features. -/
theorem kAvg_real (y : Feat) (f : Fin 512 → Fin 128 → ℝ) (hy : ∀ d k, y (ix2 d k) = ((f k d : ℝ) : EReal)) (o : Fin 1)
    (k : Fin 512) : kAvg y (ix2 o k) = ((meanOf (f k) : ℝ) : EReal) := by
  pointwise [kAvg]
  simp only [hy, coe_sum, bits_128]
  rw [div_real _ _ (by norm_num)]
  simp [meanOf]

theorem kCenter_real (y : Feat) (f : Fin 512 → Fin 128 → ℝ) (hy : ∀ d k, y (ix2 d k) = ((f k d : ℝ) : EReal)) (d : Fin 128)
    (k : Fin 512) : kCenter y (ix2 d k) = ((f k d - meanOf (f k) : ℝ) : EReal) := by
  pointwise [kCenter]
  rw [kAvg_real y f hy, hy, EReal.coe_sub]

theorem kNorm_real (y : Feat) (g b : Col) (f : Fin 512 → Fin 128 → ℝ) (G B : Fin 128 → ℝ)
    (hy : ∀ d k, y (ix2 d k) = ((f k d : ℝ) : EReal)) (hg : ∀ d, g (ix2 d 0) = ((G d : ℝ) : EReal))
    (hb : ∀ d, b (ix2 d 0) = ((B d : ℝ) : EReal)) (d : Fin 128) (k : Fin 512) :
    kNorm y g b (ix2 d k) = ((lnorm G B (f k) d : ℝ) : EReal) := by
  have hc := kCenter_real y f hy
  have hs : ∀ d k, mulf (kCenter y) (kCenter y) (ix2 d k)
      = (((f k d - meanOf (f k)) * (f k d - meanOf (f k)) : ℝ) : EReal) := fun d k => by
    pointwise
    rw [hc, ← EReal.coe_mul]
  have ha := kAvg_real _ (fun k d => (f k d - meanOf (f k)) * (f k d - meanOf (f k))) hs
  pointwise [kNorm, kScale]
  rw [ha, hc, hg, hb, bits_e5, ← EReal.coe_add]
  have hv : meanOf (fun d => (f k d - meanOf (f k)) * (f k d - meanOf (f k))) = varOf (f k) := rfl
  rw [hv, sqrt_real _ (varOf_e5_pos (f k)).le]
  change Ideal.div _ ((dev (f k) : ℝ) : EReal) * _ + _ = _
  rw [div_real _ _ (dev_pos (f k)).ne', ← EReal.coe_mul, ← EReal.coe_add]
  rfl

theorem kApp_real (x : Feat) (w : FVec Ideal S128x128 .f32) (f : Fin 512 → Fin 128 → ℝ) (W : Fin 128 → Fin 128 → ℝ)
    (hx : ∀ d k, x (ix2 d k) = ((f k d : ℝ) : EReal)) (hw : ∀ d e, w (ix2 d e) = ((W d e : ℝ) : EReal)) (e : Fin 128)
    (k : Fin 512) : kApp x w (ix2 e k) = ((app W (f k) e : ℝ) : EReal) := by
  pointwise [kApp]
  simp only [hx, hw, ← EReal.coe_mul, coe_sum, zero_add]
  unfold app
  congr 1
  exact Finset.sum_congr rfl fun d _ => mul_comm _ _

/-- One column of a product, from that column alone. -/
theorem kApp_one (x : Feat) (w : FVec Ideal S128x128 .f32) (f : Fin 128 → ℝ) (W : Fin 128 → Fin 128 → ℝ) (k : Fin 512)
    (hx : ∀ d, x (ix2 d k) = ((f d : ℝ) : EReal)) (hw : ∀ d e, w (ix2 d e) = ((W d e : ℝ) : EReal)) (e : Fin 128) :
    kApp x w (ix2 e k) = ((app W f e : ℝ) : EReal) := by
  pointwise [kApp]
  simp only [hx, hw, ← EReal.coe_mul, coe_sum, zero_add]
  unfold app
  congr 1
  exact Finset.sum_congr rfl fun d _ => mul_comm _ _

theorem kPre_real (y : Feat) (w : FVec Ideal S128x256 .f32) (b : FVec Ideal S256x1 .f32) (f : Fin 512 → Fin 128 → ℝ)
    (W : Fin 128 → Fin 256 → ℝ) (B : Fin 256 → ℝ)
    (hy : ∀ d k, y (ix2 d k) = ((f k d : ℝ) : EReal)) (hw : ∀ d e, w (ix2 d e) = ((W d e : ℝ) : EReal))
    (hb : ∀ e, b (ix2 e 0) = ((B e : ℝ) : EReal)) (e : Fin 256) (k : Fin 512) :
    kPre y w b (ix2 e k) = ((app W (f k) e + B e : ℝ) : EReal) := by
  pointwise [kPre]
  simp only [hy, hw, hb, ← EReal.coe_mul, coe_sum, zero_add, ← EReal.coe_add]
  unfold app
  congr 2
  exact Finset.sum_congr rfl fun d _ => mul_comm _ _

theorem kGate_real (u : FVec Ideal S256x512 .f32) (f : Fin 512 → Fin 256 → ℝ)
    (hu : ∀ e k, u (ix2 e k) = ((f k e : ℝ) : EReal)) (e : Fin 256) (k : Fin 512) :
    kGate u (ix2 e k) = ((gelu (f k e) : ℝ) : EReal) := by
  pointwise [kGate]
  simp only [hu, bits_g0, bits_g1, bits_half, ← EReal.coe_mul, ← EReal.coe_add, tanh_real, one_real, gelu]

/-- The feed-forward block with its residual, of real features. -/
theorem kFfn_real (y : Feat) (w1 : FVec Ideal S128x256 .f32) (b1 : FVec Ideal S256x1 .f32) (w2 : FVec Ideal S256x128 .f32)
    (b2 : Col) (f : Fin 512 → Fin 128 → ℝ) (P : Par)
    (hy : ∀ d k, y (ix2 d k) = ((f k d : ℝ) : EReal)) (h1 : ∀ d e, w1 (ix2 d e) = ((P.W1 d e : ℝ) : EReal))
    (hb1 : ∀ e, b1 (ix2 e 0) = ((P.b1 e : ℝ) : EReal)) (h2 : ∀ e d, w2 (ix2 e d) = ((P.W2 e d : ℝ) : EReal))
    (hb2 : ∀ d, b2 (ix2 d 0) = ((P.b2 d : ℝ) : EReal)) (d : Fin 128) (k : Fin 512) :
    kFfn y w1 b1 w2 b2 (ix2 d k) = ((f k d + (app P.W2 (hid P (f k)) d + P.b2 d) : ℝ) : EReal) := by
  have hg := kGate_real _ _ (kPre_real y w1 b1 f P.W1 P.b1 hy h1 hb1)
  pointwise [kFfn]
  simp only [hg, hy, h2, hb2, ← EReal.coe_mul, coe_sum, zero_add, ← EReal.coe_add]
  unfold app hid
  congr 3
  exact Finset.sum_congr rfl fun d _ => mul_comm _ _

end Patch
-- ==== Proof.KLogaR.lean ====
module

public import proofs.«01_k».proof.Proof.KNormR

@[expose] public section

set_option maxRecDepth 16384

/-! # The kernel's router at real numbers -/

noncomputable section

namespace Patch

open scoped BigOperators
open Idealize Idealize.ShloMosaic Cert.KernelIdeal Cert.KernelIdeal.Gen

theorem kLogits_real (x : Feat) (rw : FVec Ideal S128x3 .f32) (rb : FVec Ideal S3x1 .f32) (f : Fin 512 → Fin 128 → ℝ)
    (W : Fin 128 → Fin 3 → ℝ) (B : Fin 3 → ℝ)
    (hx : ∀ d k, x (ix2 d k) = ((f k d : ℝ) : EReal)) (hw : ∀ d e, rw (ix2 d e) = ((W d e : ℝ) : EReal))
    (hb : ∀ e, rb (ix2 e 0) = ((B e : ℝ) : EReal)) (e : Fin 3) (k : Fin 512) :
    kLogits x rw rb (ix2 e k) = ((app W (f k) e + B e : ℝ) : EReal) := by
  pointwise [kLogits]
  simp only [hx, hw, hb, ← EReal.coe_mul, coe_sum, zero_add, ← EReal.coe_add]
  unfold app
  congr 2
  exact Finset.sum_congr rfl fun d _ => mul_comm _ _

theorem ind_real (p : Prop) [Decidable p] :
    (FloatOps.sitofp (F := Ideal) .f32 (BitVec.setWidth 32 (BitVec.ofBool (decide p))) : EReal) = (((if p then 1 else 0 : ℝ)) : EReal) := by
  by_cases h : p
  · simp only [h, decide_true, if_true]
    change (((BitVec.setWidth 32 (BitVec.ofBool true)).toInt : ℝ) : EReal) = _
    rw [show (BitVec.setWidth 32 (BitVec.ofBool true)).toInt = 1 by decide]
    norm_num
  · simp only [h, decide_false, if_false]
    change (((BitVec.setWidth 32 (BitVec.ofBool false)).toInt : ℝ) : EReal) = _
    rw [show (BitVec.setWidth 32 (BitVec.ofBool false)).toInt = 0 by decide]
    norm_num

/-- The indicators of comparisons of real numbers. -/
theorem kInd_ogt (a b : Row) (x y : ℝ) (k : Fin 512) (ha : a (ix2 0 k) = ((x : ℝ) : EReal))
    (hb : b (ix2 0 k) = ((y : ℝ) : EReal)) : kInd .ogt a b (ix2 0 k) = (((if y < x then 1 else 0 : ℝ)) : EReal) := by
  pointwise [kInd]
  rw [ha, hb, ind_real]
  simp only [EReal.coe_lt_coe_iff]
theorem kInd_oge (a b : Row) (x y : ℝ) (k : Fin 512) (ha : a (ix2 0 k) = ((x : ℝ) : EReal))
    (hb : b (ix2 0 k) = ((y : ℝ) : EReal)) : kInd .oge a b (ix2 0 k) = (((if y ≤ x then 1 else 0 : ℝ)) : EReal) := by
  pointwise [kInd]
  rw [ha, hb, ind_real]
  simp only [EReal.coe_le_coe_iff]
theorem kInd_olt (a b : Row) (x y : ℝ) (k : Fin 512) (ha : a (ix2 0 k) = ((x : ℝ) : EReal))
    (hb : b (ix2 0 k) = ((y : ℝ) : EReal)) : kInd .olt a b (ix2 0 k) = (((if x < y then 1 else 0 : ℝ)) : EReal) := by
  pointwise [kInd]
  rw [ha, hb, ind_real]
  simp only [EReal.coe_lt_coe_iff]

theorem max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem kProb_real (r0 r1 r2 r : Row) (l : Fin 3 → ℝ) (e : Fin 3) (k : Fin 512)
    (h0 : r0 (ix2 0 k) = ((l 0 : ℝ) : EReal)) (h1 : r1 (ix2 0 k) = ((l 1 : ℝ) : EReal))
    (h2 : r2 (ix2 0 k) = ((l 2 : ℝ) : EReal)) (h : r (ix2 0 k) = ((l e : ℝ) : EReal)) :
    kProb r0 r1 r2 r (ix2 0 k) = ((prob l e : ℝ) : EReal) := by
  pointwise [kProb]
  rw [h0, h1, h2, h, max_real, max_real]
  simp only [← EReal.coe_sub, exp_real, ← EReal.coe_add]
  rw [div_real _ _ (by positivity), ← prob_shift l (max (max (l 0) (l 1)) (l 2)) e, Fin.sum_univ_three]

theorem kKeep_real (p c : Row) (x m : ℝ) (k : Fin 512) (hp : p (ix2 0 k) = ((x : ℝ) : EReal))
    (hc : c (ix2 0 k) = ((m : ℝ) : EReal)) :
    kKeep p c (ix2 0 k) = ((x * (if m < 1 / 2 then 1 else 0) : ℝ) : EReal) := by
  have hi := kInd_olt c (broadcast S1x512 (Scalar.ofBits .f32 0x3F000000#32)) m (1 / 2) k hc (by pointwise; exact bits_half)
  change (mulf p (kInd .olt c (broadcast S1x512 (Scalar.ofBits .f32 0x3F000000#32)))) (ix2 0 k) = _
  generalize kInd .olt c (broadcast S1x512 (Scalar.ofBits .f32 0x3F000000#32)) = I at hi ⊢
  pointwise
  rw [hp, hi, ← EReal.coe_mul]

/-- The mass of a probability vector ranked before each expert. -/
theorem mass_zero (p : Fin 3 → ℝ) : mass p 0 = p 1 * (if p 0 < p 1 then 1 else 0) + p 2 * (if p 0 < p 2 then 1 else 0) := by
  unfold mass ahead
  rw [Fin.sum_univ_three]
  simp
theorem mass_one (p : Fin 3 → ℝ) : mass p 1 = p 0 * (if p 1 ≤ p 0 then 1 else 0) + p 2 * (if p 1 < p 2 then 1 else 0) := by
  unfold mass ahead
  rw [Fin.sum_univ_three]
  simp [le_iff_lt_or_eq, eq_comm]
theorem mass_two (p : Fin 3 → ℝ) : mass p 2 = p 0 * (if p 2 ≤ p 0 then 1 else 0) + p 1 * (if p 2 ≤ p 1 then 1 else 0) := by
  unfold mass ahead
  rw [Fin.sum_univ_three]
  simp [le_iff_lt_or_eq, eq_comm]

theorem kLog_real (w0 w1 w2 w : Row) (p : Fin 3 → ℝ) (hp : ∀ e, 0 < p e) (e : Fin 3) (k : Fin 512)
    (h0 : w0 (ix2 0 k) = ((p 0 * keep p 0 : ℝ) : EReal)) (h1 : w1 (ix2 0 k) = ((p 1 * keep p 1 : ℝ) : EReal))
    (h2 : w2 (ix2 0 k) = ((p 2 * keep p 2 : ℝ) : EReal)) (h : w (ix2 0 k) = ((p e * keep p e : ℝ) : EReal)) :
    kLog w0 w1 w2 w (ix2 0 k) = Ideal.log ((wgt p e : ℝ) : EReal) := by
  have hd := wden_pos p hp
  rw [Fin.sum_univ_three] at hd
  pointwise [kLog]
  rw [h0, h1, h2, h, bits_e9]
  simp only [← EReal.coe_add]
  rw [div_real _ _ hd.ne', wgt, Fin.sum_univ_three]

/-- The logarithms of the edge weights where the selections are read off. -/
theorem kPick_real (diag ss st : IVec S512x512 1) (a b c : Row) (w : Fin 3 → ℝ) (s k : Fin 512)
    (D S T : Prop) [Decidable D] [Decidable S] [Decidable T]
    (hD : diag (ix2 s k) = BitVec.ofBool (decide D)) (hS : ss (ix2 s k) = BitVec.ofBool (decide S))
    (hT : st (ix2 s k) = BitVec.ofBool (decide T))
    (ha : a (ix2 0 k) = Ideal.log ((w 0 : ℝ) : EReal)) (hb : b (ix2 0 k) = Ideal.log ((w 1 : ℝ) : EReal))
    (hc : c (ix2 0 k) = Ideal.log ((w 2 : ℝ) : EReal)) :
    kPick diag ss st a b c (ix2 s k)
      = Ideal.log (((if D then 1 else if S then w 0 else if T then w 1 else w 2 : ℝ)) : EReal) := by
  pointwise [kPick, kSpread]
  rw [hD, hS, hT, ha, hb, hc]
  have h1 : Ideal.log ((1 : ℝ) : EReal) = 0 := by rw [Ideal.log_coe]; simp
  by_cases d : D <;> by_cases s : S <;> by_cases t : T <;> simp only [d, s, t, decide_true, decide_false, if_true, if_false, h1] <;> first | rfl | exact h1.symm

/-- The logarithms of the edge weights of real features. -/
theorem kLoga_real (diag ss st : IVec S512x512 1) (x : Feat) (rw : FVec Ideal S128x3 .f32) (rb : FVec Ideal S3x1 .f32)
    (f : Fin 512 → Fin 128 → ℝ) (W : Fin 128 → Fin 3 → ℝ) (B : Fin 3 → ℝ)
    (hx : ∀ d k, x (ix2 d k) = ((f k d : ℝ) : EReal)) (hw : ∀ d e, rw (ix2 d e) = ((W d e : ℝ) : EReal))
    (hb : ∀ e, rb (ix2 e 0) = ((B e : ℝ) : EReal)) (s k : Fin 512)
    (D S T : Prop) [Decidable D] [Decidable S] [Decidable T]
    (hD : diag (ix2 s k) = BitVec.ofBool (decide D)) (hS : ss (ix2 s k) = BitVec.ofBool (decide S))
    (hT : st (ix2 s k) = BitVec.ofBool (decide T)) :
    kLoga diag ss st x rw rb (ix2 s k)
      = Ideal.log (((if D then 1 else if S then wgt (prob fun e => app W (f k) e + B e) 0
          else if T then wgt (prob fun e => app W (f k) e + B e) 1 else wgt (prob fun e => app W (f k) e + B e) 2 : ℝ)) : EReal) := by
  have hl := kLogits_real x rw rb f W B hx hw hb
  have r0 : kRow0 (kLogits x rw rb) (ix2 0 k) = ((app W (f k) 0 + B 0 : ℝ) : EReal) := by
    pointwise [kRow0]; exact hl 0 k
  have r1 : kRow1 (kLogits x rw rb) (ix2 0 k) = ((app W (f k) 1 + B 1 : ℝ) : EReal) := by
    pointwise [kRow1]; exact hl 1 k
  have r2 : kRow2 (kLogits x rw rb) (ix2 0 k) = ((app W (f k) 2 + B 2 : ℝ) : EReal) := by
    pointwise [kRow2]; exact hl 2 k
  unfold kLoga kLogaOf
  have hp : ∀ e, 0 < prob (fun e => app W (f k) e + B e) e := fun e => prob_pos _ e
  have p0 := kProb_real _ _ _ _ (fun e => app W (f k) e + B e) 0 k r0 r1 r2 r0
  have p1 := kProb_real _ _ _ _ (fun e => app W (f k) e + B e) 1 k r0 r1 r2 r1
  have p2 := kProb_real _ _ _ _ (fun e => app W (f k) e + B e) 2 k r0 r1 r2 r2
  generalize prob (fun e => app W (f k) e + B e) = p at hp p0 p1 p2 ⊢
  generalize kProb _ _ _ (kRow0 (kLogits x rw rb)) = P0 at p0 ⊢
  generalize kProb _ _ _ (kRow1 (kLogits x rw rb)) = P1 at p1 ⊢
  generalize kProb _ _ _ (kRow2 (kLogits x rw rb)) = P2 at p2 ⊢
  have w0 : kW0 P0 P1 P2 (ix2 0 k) = ((p 0 * keep p 0 : ℝ) : EReal) := by
    unfold kW0 keep
    rw [mass_zero]
    refine kKeep_real _ _ _ _ k p0 ?_
    have i := kInd_ogt _ _ _ _ k p1 p0
    have j := kInd_ogt _ _ _ _ k p2 p0
    pointwise
    rw [p1, p2, i, j, ← EReal.coe_mul, ← EReal.coe_mul, ← EReal.coe_add]
  have w1 : kW1 P0 P1 P2 (ix2 0 k) = ((p 1 * keep p 1 : ℝ) : EReal) := by
    unfold kW1 keep
    rw [mass_one]
    refine kKeep_real _ _ _ _ k p1 ?_
    have i := kInd_oge _ _ _ _ k p0 p1
    have j := kInd_ogt _ _ _ _ k p2 p1
    pointwise
    rw [p0, p2, i, j, ← EReal.coe_mul, ← EReal.coe_mul, ← EReal.coe_add]
  have w2 : kW2 P0 P1 P2 (ix2 0 k) = ((p 2 * keep p 2 : ℝ) : EReal) := by
    unfold kW2 keep
    rw [mass_two]
    refine kKeep_real _ _ _ _ k p2 ?_
    have i := kInd_oge _ _ _ _ k p0 p2
    have j := kInd_oge _ _ _ _ k p1 p2
    pointwise
    rw [p0, p1, i, j, ← EReal.coe_mul, ← EReal.coe_mul, ← EReal.coe_add]
  exact kPick_real diag ss st _ _ _ (wgt p) s k D S T hD hS hT (kLog_real _ _ _ _ p hp 0 k w0 w1 w2 w0)
    (kLog_real _ _ _ _ p hp 1 k w0 w1 w2 w1) (kLog_real _ _ _ _ p hp 2 k w0 w1 w2 w2)

end Patch
-- ==== Proof.KSel.lean ====
module

public import proofs.«01_k».proof.Proof.KLogaR

@[expose] public section

set_option maxRecDepth 16384

/-! # The kernel's selections: which tokens share a patch or a channel -/

noncomputable section

namespace Patch

open scoped BigOperators
open Idealize Idealize.ShloMosaic Cert.KernelIdeal Cert.KernelIdeal.Gen

/-- Equality of two small numbers as 32-bit words. -/
theorem word_eq (a b : ℕ) (ha : a < 2 ^ 32) (hb : b < 2 ^ 32) :
    IntOp.cmpi .eq (BitVec.ofNat 32 a) (BitVec.ofNat 32 b) = BitVec.ofBool (decide (a = b)) := by
  have h : (BitVec.ofNat 32 a = BitVec.ofNat 32 b) ↔ a = b := by
    constructor
    · intro e
      have := congrArg BitVec.toNat e
      rw [BitVec.toNat_ofNat, BitVec.toNat_ofNat, Nat.mod_eq_of_lt ha, Nat.mod_eq_of_lt hb] at this
      exact this
    · rintro rfl; rfl
  change BitVec.ofBool (BitVec.ofNat 32 a == BitVec.ofNat 32 b) = _
  congr 1
  rw [Bool.eq_iff_iff]
  simp [h]

/-- A number divided by eight, rounded down, as the kernel computes it. -/
def quo8 (b : BitVec 32) : BitVec 32 :=
  Scalar.select
    (IntOp.andi
      (IntOp.cmpi .ne
        (IntOp.subi (BitVec.setWidth 32 (IntOp.cmpi .sgt b 0#32)) (BitVec.setWidth 32 (IntOp.cmpi .slt b 0#32)))
        (Scalar.subi (Scalar.extui (Scalar.cmpi .sgt 8#32 0#32)) (Scalar.extui (Scalar.cmpi .slt 8#32 0#32))))
      (IntOp.cmpi .ne (IntOp.remsi ArithUnit.vector b 8#32) 0#32))
    (IntOp.subi (IntOp.divsi ArithUnit.vector b 8#32) 1#32)
    (IntOp.divsi ArithUnit.vector b 8#32)

/-- The divisor eight, guarded against zero. -/
def eight : BitVec 32 := Scalar.select (Scalar.cmpi .eq 8#32 0#32) 1#32 8#32

/-- The remainder by eight, as the kernel computes it. -/
def rem8 (b : BitVec 32) : BitVec 32 :=
  Scalar.select
    (IntOp.andi
      (IntOp.xori (IntOp.cmpi .slt (IntOp.remsi ArithUnit.vector b eight) 0#32) (Scalar.cmpi .slt eight 0#32))
      (IntOp.cmpi .ne (IntOp.remsi ArithUnit.vector b eight) 0#32))
    (IntOp.addi (IntOp.remsi ArithUnit.vector b eight) eight)
    (IntOp.remsi ArithUnit.vector b eight)

theorem quo8_eq : ∀ t : Fin 512, quo8 (BitVec.ofNat 32 t.val) = BitVec.ofNat 32 (t.val / 8) := by decide +kernel
theorem rem8_eq : ∀ t : Fin 512, rem8 (BitVec.ofNat 32 t.val) = BitVec.ofNat 32 (t.val % 8) := by decide +kernel

theorem diag_eq (s t : Fin 512) : k0_pay3 (ix2 s t) = BitVec.ofBool (decide (t.val = s.val)) := by
  pointwise [k0_pay3]
  exact word_eq _ _ (by omega) (by omega)
theorem patch_eq (s t : Fin 512) :
    k0_pay7 (iota .tc S512x512 32 [0] iota_S512x512_d0_w32) k0_pay4 k0_pay5 k0_pay6 (ix2 s t)
      = BitVec.ofBool (decide (t.val / 8 = s.val / 8)) := by
  pointwise [k0_pay7, k0_pay4, k0_pay5, k0_pay6]
  change IntOp.cmpi .eq (quo8 (BitVec.ofNat 32 t.val)) (quo8 (BitVec.ofNat 32 s.val)) = _
  rw [quo8_eq, quo8_eq]
  exact word_eq _ _ (by omega) (by omega)
theorem chan_eq (s t : Fin 512) :
    k0_pay9 (iota .tc S512x512 32 [0] iota_S512x512_d0_w32) (k0_pay8 (iota .tc S512x512 32 [1] iota_S512x512_d1_w32)) 8#32 (Scalar.cmpi .eq 8#32 0#32) 1#32 (ix2 s t)
      = BitVec.ofBool (decide (t.val % 8 = s.val % 8)) := by
  pointwise [k0_pay9, k0_pay8]
  change IntOp.cmpi .eq (rem8 (BitVec.ofNat 32 t.val)) (rem8 (BitVec.ofNat 32 s.val)) = _
  rw [rem8_eq, rem8_eq]
  exact word_eq _ _ (by omega) (by omega)
theorem csel_eq (c : Fin 8) (t : Fin 512) :
    k0_pay2 (F := Ideal) (ix2 c t) = (((if t.val % 8 = c.val then 1 else 0 : ℝ)) : EReal) := by
  pointwise [k0_pay2]
  change FloatOps.sitofp FTy.f32 (BitVec.setWidth 32 (IntOp.cmpi .eq (rem8 (BitVec.ofNat 32 t.val)) (BitVec.ofNat 32 c.val))) = _
  rw [rem8_eq, word_eq _ _ (by omega) (by omega)]
  exact ind_real _

/-- The place of the kernel's token number `k` in the plain order of tokens. -/
def place : Fin 512 ≃ Fin 512 where
  toFun k := ⟨k.val % 8 * 64 + k.val / 8, by omega⟩
  invFun q := ⟨q.val % 64 * 8 + q.val / 64, by omega⟩
  left_inv k := by apply Fin.ext; simp only []; omega
  right_inv q := by apply Fin.ext; simp only []; omega

theorem place_val (k : Fin 512) : (place k).val = k.val % 8 * 64 + k.val / 8 := rfl
theorem patch_place (k : Fin 512) : (patch (place k)).val = k.val / 8 := by
  simp only [patch, place_val]; omega
theorem chan_place (k : Fin 512) : (chan (place k)).val = k.val % 8 := by
  simp only [chan, place_val]; omega

/-- The diagonal, in the plain order. -/
theorem diag_plain (s t : Fin 512) : k0_pay3 (ix2 s t) = BitVec.ofBool (decide (place t = place s)) := by
  rw [diag_eq]; congr 2
  rw [place.injective.eq_iff, Fin.ext_iff]
theorem patch_plain (s t : Fin 512) :
    k0_pay7 (iota .tc S512x512 32 [0] iota_S512x512_d0_w32) k0_pay4 k0_pay5 k0_pay6 (ix2 s t)
      = BitVec.ofBool (decide (patch (place t) = patch (place s))) := by
  rw [patch_eq]; congr 2
  rw [Fin.ext_iff, patch_place, patch_place]
theorem chan_plain (s t : Fin 512) :
    k0_pay9 (iota .tc S512x512 32 [0] iota_S512x512_d0_w32) (k0_pay8 (iota .tc S512x512 32 [1] iota_S512x512_d1_w32)) 8#32 (Scalar.cmpi .eq 8#32 0#32) 1#32 (ix2 s t)
      = BitVec.ofBool (decide (chan (place t) = chan (place s))) := by
  rw [chan_eq]; congr 2
  rw [Fin.ext_iff, chan_place, chan_place]

end Patch
-- ==== Proof.KEmbedR.lean ====
module

public import proofs.«01_k».proof.Proof.KSel

@[expose] public section

set_option maxRecDepth 16384

/-! # Statistics and embedding of the kernel at real numbers -/

noncomputable section

namespace Patch

open scoped BigOperators
open Idealize Idealize.ShloMosaic Cert.KernelIdeal Cert.KernelIdeal.Gen

/-- The kernel's tokens by patch number and channel. -/
def pair8 : Fin 64 × Fin 8 ≃ Fin 512 where
  toFun x := ⟨x.1.val * 8 + x.2.val, by omega⟩
  invFun k := (⟨k.val / 8, by omega⟩, ⟨k.val % 8, by omega⟩)
  left_inv x := by apply Prod.ext <;> apply Fin.ext <;> simp only [] <;> omega
  right_inv k := by apply Fin.ext; simp only []; omega

/-- The time steps by patch number and position. -/
def pair16 : Fin 64 × Fin 16 ≃ Fin 1024 where
  toFun x := step x.1 x.2
  invFun t := (⟨t.val / 16, by omega⟩, ⟨t.val % 16, by omega⟩)
  left_inv x := by apply Prod.ext <;> apply Fin.ext <;> simp only [step] <;> omega
  right_inv t := by apply Fin.ext; simp only [step]; omega

theorem place_pair8 (n : Fin 64) (c : Fin 8) : place (pair8 (n, c)) = tok c n := by
  apply Fin.ext; simp only [place_val, pair8, tok, Equiv.coe_fn_mk]; omega

/-- A sum over the kernel's tokens of one channel and the positions of a patch is a sum over time. -/
theorem sum_sel (F : Fin 1024 → Fin 8 → ℝ) (c : Fin 8) :
    ∑ k : Fin 512, (∑ p : Fin 16, F (step (patch (place k)) p) (chan (place k))) * (if k.val % 8 = c.val then 1 else 0)
      = ∑ t, F t c := by
  rw [← Equiv.sum_comp pair8, Fintype.sum_prod_type, ← Equiv.sum_comp pair16, Fintype.sum_prod_type]
  refine Finset.sum_congr rfl fun n _ => ?_
  rw [Finset.sum_eq_single c]
  · rw [place_pair8, patch_tok, chan_tok, if_pos (by simp only [pair8, Equiv.coe_fn_mk]; omega), mul_one]
    rfl
  · intro c' _ h
    rw [if_neg, mul_zero]
    intro e
    apply h
    apply Fin.ext
    simp only [pair8, Equiv.coe_fn_mk] at e
    omega
  · intro h
    exact absurd (Finset.mem_univ c) h

/-- The selection of a channel's number by a token. -/
theorem sel_sum (f : Fin 8 → ℝ) (k : Fin 512) :
    ∑ c : Fin 8, f c * (if k.val % 8 = c.val then 1 else 0) = f (chan (place k)) := by
  rw [Finset.sum_eq_single (chan (place k))]
  · rw [if_pos (chan_place k).symm, mul_one]
  · intro c _ h
    rw [if_neg, mul_zero]
    intro e
    exact h (Fin.ext (by rw [chan_place, e]))
  · intro h
    exact absurd (Finset.mem_univ _) h

variable (cs : FVec Ideal S8x512 .f32) (p : Vec Ideal S1x16x512 .f32) (X : Fin 1024 → Fin 8 → ℝ)
  (hcs : ∀ c t, cs (ix2 c t) = (((if t.val % 8 = c.val then 1 else 0 : ℝ)) : EReal))
  (hp : ∀ j k, p (ix3 0 j k) = ((X (step (patch (place k)) j) (chan (place k)) : ℝ) : EReal))

include hcs hp

theorem kMean_real (o : Fin 1) (c : Fin 8) : kMean cs p (ix2 o c) = ((meanOf (fun t => X t c) : ℝ) : EReal) := by
  pointwise [kMean, kStat]
  simp only [hp, hcs, coe_sum, ← EReal.coe_mul, sum_sel X c, bits_1024]
  rw [div_real _ _ (by norm_num)]
  simp only [meanOf, Nat.cast_ofNat]

theorem kDev_real (o : Fin 1) (c : Fin 8) : kDev cs p (ix2 o c) = ((dev (fun t => X t c) : ℝ) : EReal) := by
  have hm := kMean_real cs p X hcs hp
  generalize hM : kMean cs p = M at hm
  unfold kDev
  rw [hM]
  pointwise [kStat]
  simp only [hm, hp, hcs, ← EReal.coe_mul, coe_sum, sum_sel (fun t c => X t c * X t c) c, bits_1024, bits_e5]
  rw [div_real _ _ (by norm_num), ← EReal.coe_sub, ← EReal.coe_add]
  have h := meanSq_sub (n := 1024) (by decide) fun t => X t c
  rw [Nat.cast_ofNat] at h
  rw [h, sqrt_real _ (varOf_e5_pos _).le]
  rfl

theorem kEmbed_real (w : FVec Ideal S16x128 .f32) (b : Vec Ideal S128x1 .f32) (pe : Vec Ideal S128x512 .f32)
    (W : Fin 16 → Fin 128 → ℝ) (B : Fin 128 → ℝ) (E : Fin 512 → Fin 128 → ℝ)
    (hw : ∀ j d, w (ix2 j d) = ((W j d : ℝ) : EReal)) (hb : ∀ d, b (ix2 d 0) = ((B d : ℝ) : EReal))
    (he : ∀ d k, pe (ix2 d k) = ((E (place k) d : ℝ) : EReal)) (d : Fin 128) (k : Fin 512) :
    kEmbed cs p w b pe (ix2 d k) = ((embed X W B E (place k) d : ℝ) : EReal) := by
  have hm := kMean_real cs p X hcs hp
  have hd := kDev_real cs p X hcs hp
  unfold kEmbed
  generalize kMean cs p = M at hm ⊢
  generalize kDev cs p = D at hd ⊢
  pointwise
  simp only [hm, hd, hcs, hp, hw, hb, he, ← EReal.coe_mul, coe_sum, zero_add, sel_sum, ← EReal.coe_sub, div_real _ _ (dev_pos _).ne', ← EReal.coe_add]
  unfold embed
  congr 3
  exact Finset.sum_congr rfl fun j _ => mul_comm _ _

end Patch
-- ==== Proof.KFore.lean ====
module

public import proofs.«01_k».proof.Proof.KTie
public import proofs.«01_k».proof.Proof.KEmbedR

@[expose] public section

set_option maxRecDepth 16384

/-! # The forecast of the kernel -/

noncomputable section

namespace Patch

open scoped BigOperators
open Idealize Idealize.ShloMosaic Cert.KernelIdeal Cert.KernelIdeal.Gen

variable (x0 : Vec Ideal S2x16x512 .f32) (x1 : Vec Ideal S16x128 .f32) (x2 : Vec Ideal S128x1 .f32) (x3 : Vec Ideal S128x512 .f32) (x4 : Vec Ideal S2x128x128 .f32) (x5 : Vec Ideal S2x128x128 .f32) (x6 : Vec Ideal S2x128x128 .f32) (x7 : Vec Ideal S2x128x128 .f32) (x8 : Vec Ideal S2x128x3 .f32) (x9 : Vec Ideal S2x3x1 .f32) (x10 : Vec Ideal S2x128x1 .f32) (x11 : Vec Ideal S2x128x1 .f32) (x12 : Vec Ideal S2x128x256 .f32) (x13 : Vec Ideal S2x256x1 .f32) (x14 : Vec Ideal S2x256x128 .f32) (x15 : Vec Ideal S2x128x1 .f32) (x16 : Vec Ideal S2x128x1 .f32) (x17 : Vec Ideal S2x128x1 .f32) (x18 : Vec Ideal S64x128x96 .f32) (x19 : Vec Ideal S1x96 .f32)

theorem part_slices (n : Fin 64) : S128x512.Slices ![0, 8 * n.val] S128x8 := by
  revert n; decide +kernel

theorem part_inb (n : Fin 64) : ∀ a, (![n.val, 0, 0] : Fin 3 → Nat) a + S1x128x96.size a ≤ S64x128x96.size a := by
  revert n; decide +kernel

/-- One patch's head weights as a matrix. -/
def kSqH (w : Vec Ideal S1x128x96 .f32) : FVec Ideal S128x96 .f32 := shapeCast S128x96 w shapeCasts_S1x128x96_S128x96

/-- The part of the forecast that patch `n` adds. -/
def kTerm (x : FVec Ideal S128x512 .f32) (w : Vec Ideal S64x128x96 .f32) (n : Fin 64) : FVec Ideal S8x96 .f32 :=
  matmul dot_S128x8_S128x96_S8x96_0_0_1_1_n_n none (extractStridedSlice S128x8 ![0, 8 * n.val] x (part_slices n))
    (kSqH (View.ld w (Rect.unit (s := S64x128x96) ![n.val, 0, 0] S1x128x96.size (part_inb n)))) (constant S8x96 .f32 0x00000000#32)

/-- The forecast with the patches below `n` added. -/
def kPart (x : FVec Ideal S128x512 .f32) (b : Vec Ideal S1x96 .f32) (w : Vec Ideal S64x128x96 .f32) : (n : ℕ) → n ≤ 64 → FVec Ideal S8x96 .f32
  | 0, _ => broadcastTo S8x96 (shapeCast S1x96 (shapeCast S1x96 b shapeCasts_S1x96_S1x96) shapeCasts_S1x96_S1x96) broadcasts_S1x96_S8x96
  | n + 1, h => addf (kPart x b w n (Nat.le_of_succ_le h)) (kTerm x w ⟨n, h⟩)

/-- The forecast of a batch entry from its tokens. -/
def kFore (mean dev : FVec Ideal S1x8 .f32) (x : FVec Ideal S128x512 .f32) (b : Vec Ideal S1x96 .f32) (w : Vec Ideal S64x128x96 .f32) : FVec Ideal S1x8x96 .f32 :=
  shapeCast S1x8x96 (addf (mulf (kPart x b w 64 le_rfl) (broadcastTo S8x96 (transpose S8x1 [1, 0] dev transposes_S1x8_p1_0_S8x1) broadcasts_S8x1_S8x96))
    (broadcastTo S8x96 (transpose S8x1 [1, 0] mean transposes_S1x8_p1_0_S8x1) broadcasts_S8x1_S8x96)) shapeCasts_S8x96_S1x8x96

/-- A block of the output holds the forecasts of its two batch entries. -/
theorem out_fore : out0_20 x0 x1 x2 x3 x4 x5 x6 x7 x8 x9 x10 x11 x12 x13 x14 x15 x16 x17 x18 x19 = View.canon
    [⟨r0_85, kFore (kMean (k0_pay259 x0 x1 x2 x3 x4 x5 x6 x7 x8 x9 x10 x11 x12 x13 x14 x15 x16 x17 x18 x19) (View.ld x0 r0_84)) (kDev (k0_pay259 x0 x1 x2 x3 x4 x5 x6 x7 x8 x9 x10 x11 x12 x13 x14 x15 x16 x17 x18 x19) (View.ld x0 r0_84)) (k0_pay363 x0 x1 x2 x3 x4 x5 x6 x7 x8 x9 x10 x11 x12 x13 x14 x15 x16 x17 x18 x19) (View.ld x19 r0_18) x18⟩,
     ⟨r0_83, kFore (kMean (k0_pay259 x0 x1 x2 x3 x4 x5 x6 x7 x8 x9 x10 x11 x12 x13 x14 x15 x16 x17 x18 x19) (View.ld x0 r0_0)) (kDev (k0_pay259 x0 x1 x2 x3 x4 x5 x6 x7 x8 x9 x10 x11 x12 x13 x14 x15 x16 x17 x18 x19) (View.ld x0 r0_0)) (k0_pay309 x0 x1 x2 x3 x4 x5 x6 x7 x8 x9 x10 x11 x12 x13 x14 x15 x16 x17 x18 x19) (View.ld x19 r0_18) x18⟩] := rfl

theorem kTerm_apply (x : FVec Ideal S128x512 .f32) (w : Vec Ideal S64x128x96 .f32) (n : Fin 64) (c : Fin 8) (p : Fin 96) :
    kTerm x w n (ix2 c p) = ∑ d : Fin 128, x (ix2 d (pair8 (n, c))) * w (ix3 n d p) := by
  have hs : ∀ d : Fin 128, extractStridedSlice S128x8 ![0, 8 * n.val] x (part_slices n) (ix2 d c) = x (ix2 d (pair8 (n, c))) := by
    intro d
    unfold extractStridedSlice
    congr 1
    funext a
    apply Fin.ext
    match a with
    | ⟨0, _⟩ => exact Nat.zero_add _
    | ⟨1, _⟩ => exact congrArg (· + c.val) (Nat.mul_comm 8 n.val)
  have hl : ∀ d : Fin 128, (View.ld w (Rect.unit (s := S64x128x96) ![n.val, 0, 0] S1x128x96.size (part_inb n)) : Vec Ideal S1x128x96 .f32) (ix3 0 d p) = w (ix3 n d p) := by
    intro d
    unfold View.ld
    congr 1
    funext a
    apply Fin.ext
    match a with
    | ⟨0, _⟩ => simp
    | ⟨1, _⟩ => simp
    | ⟨2, _⟩ => simp
  unfold kTerm kSqH
  generalize extractStridedSlice S128x8 ![0, 8 * n.val] x (part_slices n) = s at hs ⊢
  generalize (View.ld w (Rect.unit (s := S64x128x96) ![n.val, 0, 0] S1x128x96.size (part_inb n)) : Vec Ideal S1x128x96 .f32) = l at hl ⊢
  pointwise
  simp only [zero_add, hs, hl]

theorem kPart_apply (x : FVec Ideal S128x512 .f32) (b : Vec Ideal S1x96 .f32) (w : Vec Ideal S64x128x96 .f32) (n : ℕ) (h : n ≤ 64)
    (c : Fin 8) (p : Fin 96) :
    kPart x b w n h (ix2 c p)
      = b (ix2 0 p) + ∑ i : Fin n, ∑ d : Fin 128, x (ix2 d (pair8 (⟨i.val, by omega⟩, c))) * w (ix3 ⟨i.val, by omega⟩ d p) := by
  induction n with
  | zero =>
    rw [Fin.sum_univ_zero, add_zero]
    unfold kPart
    pointwise
  | succ n ih =>
    rw [Fin.sum_univ_castSucc, ← add_assoc]
    show addf _ _ _ = _
    rw [addf_apply, ih (Nat.le_of_succ_le h), kTerm_apply]
    rfl

theorem kFore_apply (mean dev : FVec Ideal S1x8 .f32) (x : FVec Ideal S128x512 .f32) (b : Vec Ideal S1x96 .f32) (w : Vec Ideal S64x128x96 .f32)
    (o : Fin 1) (c : Fin 8) (p : Fin 96) :
    kFore mean dev x b w (ix3 o c p)
      = (b (ix2 0 p) + ∑ n : Fin 64, ∑ d : Fin 128, x (ix2 d (pair8 (n, c))) * w (ix3 n d p)) * dev (ix2 0 c) + mean (ix2 0 c) := by
  have h := kPart_apply x b w 64 le_rfl c p
  unfold kFore
  generalize kPart x b w 64 le_rfl = a at h ⊢
  pointwise
  rw [h]

end Patch
-- ==== Proof.KHeadR.lean ====
module

public import proofs.«01_k».proof.Proof.KNormR

@[expose] public section

set_option maxRecDepth 16384

/-! # One attention head of the kernel at real numbers -/

noncomputable section

namespace Patch

open scoped BigOperators
open Idealize Idealize.ShloMosaic Cert.KernelIdeal Cert.KernelIdeal.Gen

/-- A score plus the logarithm of an edge weight is the logarithm of the weighted exponential. -/
theorem add_log (s a : ℝ) (ha : 0 ≤ a) : (s : EReal) + Ideal.log (a : EReal) = Ideal.log ((a * Real.exp s : ℝ) : EReal) := by
  rw [Ideal.log_coe, Ideal.log_coe]
  rcases ha.eq_or_lt with h | h
  · rw [← h, zero_mul, if_pos le_rfl]; simp
  · rw [if_neg (not_le.mpr h), if_neg (not_le.mpr (mul_pos h (Real.exp_pos s))), ← EReal.coe_add,
      Real.log_mul h.ne' (Real.exp_pos s).ne', Real.log_exp, add_comm]

/-- The largest logarithm is the logarithm of the largest. -/
theorem fold_log (u : Fin 512 → ℝ) (h0 : 0 < top (n := 511) u) :
    (Finset.univ : Finset (Fin 512)).fold max (⊥ : EReal) (fun k => Ideal.log ((u k : ℝ) : EReal))
      = Ideal.log ((top (n := 511) u : ℝ) : EReal) := by
  obtain ⟨k, hk⟩ := exists_top (n := 511) u
  refine fold_max_eq _ _ (fun j => ?_) k (by rw [hk])
  rw [Ideal.log_coe, Ideal.log_coe, if_neg (not_le.mpr h0)]
  split_ifs with h
  · exact bot_le
  · exact EReal.coe_le_coe_iff.mpr (Real.log_le_log (not_le.mp h) (le_top (n := 511) u j))

/-- The exponential of a difference of logarithms is the quotient. -/
theorem exp_log_sub (u U : ℝ) (hu : 0 ≤ u) (hU : 0 < U) :
    Ideal.exp (Ideal.log (u : EReal) - Ideal.log (U : EReal)) = ((u / U : ℝ) : EReal) := by
  rw [Ideal.log_coe, Ideal.log_coe, if_neg (not_le.mpr hU)]
  rcases hu.eq_or_lt with h | h
  · rw [← h, if_pos le_rfl]; simp
  · rw [if_neg (not_le.mpr h), ← EReal.coe_sub, exp_real, Real.exp_sub, Real.exp_log h, Real.exp_log hU]

theorem kHead_real (k q v : Head) (loga : Pairs) (K Q V : Fin 512 → Fin 16 → ℝ) (A : Fin 512 → Fin 512 → ℝ)
    (hk : ∀ j t, k (ix2 j t) = ((K t j : ℝ) : EReal)) (hq : ∀ j t, q (ix2 j t) = ((Q t j : ℝ) : EReal))
    (hv : ∀ j t, v (ix2 j t) = ((V t j : ℝ) : EReal)) (ha : ∀ s t, loga (ix2 s t) = Ideal.log ((A t s : ℝ) : EReal))
    (hA : ∀ t s, 0 ≤ A t s) (hself : ∀ t, 0 < A t t) (j : Fin 16) (t : Fin 512) :
    kHead k q v loga (ix2 j t)
      = ((attn (A t) (fun s => ∑ j, K s j * Q t j) (fun s => V s j) : ℝ) : EReal) := by
  have hT := top_expw_pos (A t) (fun s => ∑ j, K s j * Q t j) t (hself t)
  pointwise [kHead]
  simp only [hk, hq, hv, ha, ← EReal.coe_mul, coe_sum, zero_add, add_log _ _ (hA _ _), bits_bot]
  have hx : ∀ x, A t x * Real.exp (∑ i, K x i * Q t i) = expw (A t) (fun s => ∑ j, K s j * Q t j) x := fun _ => rfl
  simp only [hx]
  rw [fold_log _ hT]
  have hE : ∀ x, Ideal.exp (Ideal.log ((expw (A t) (fun s => ∑ j, K s j * Q t j) x : ℝ) : EReal)
      - Ideal.log ((top (n := 511) (expw (A t) (fun s => ∑ j, K s j * Q t j)) : ℝ) : EReal))
      = ((expw (A t) (fun s => ∑ j, K s j * Q t j) x / top (n := 511) (expw (A t) (fun s => ∑ j, K s j * Q t j)) : ℝ) : EReal) :=
    fun x => exp_log_sub _ _ (expw_nonneg _ _ (hA t) x) hT
  simp only [hE, ← EReal.coe_mul, coe_sum, bits_e9, ← EReal.coe_add]
  rw [div_real, attn_div_top _ _ _ t (hself t)]
  exact (add_pos_of_nonneg_of_pos (Finset.sum_nonneg fun k _ =>
    div_nonneg (expw_nonneg _ _ (hA t) k) hT.le) e9_pos).ne'

/-- Attention does not depend on the order of the tokens. -/
theorem attn_perm (π : Fin 512 ≃ Fin 512) (a s v : Fin 512 → ℝ) :
    attn (fun k => a (π k)) (fun k => s (π k)) (fun k => v (π k)) = attn a s v := by
  have h : top (n := 511) (expw (fun k => a (π k)) (fun k => s (π k))) = top (n := 511) (expw a s) := by
    obtain ⟨k, hk⟩ := exists_top (n := 511) (expw a s)
    exact top_eq (n := 511) _ _ (fun j => le_top (n := 511) (expw a s) (π j)) (π.symm k)
      (by rw [← hk]; simp [expw])
  unfold attn
  rw [h]
  congr 1
  · exact Equiv.sum_comp π fun k => expw a s k * v k
  · congr 1
    exact Equiv.sum_comp π fun k => expw a s k

end Patch
-- ==== Proof.KLayerR.lean ====
module

public import proofs.«01_k».proof.Proof.KHeadR
public import proofs.«01_k».proof.Proof.KLogaR

@[expose] public section

set_option maxRecDepth 16384

/-! # One layer of the kernel at real numbers -/

noncomputable section

namespace Patch

open scoped BigOperators
open Idealize Idealize.ShloMosaic Cert.KernelIdeal Cert.KernelIdeal.Gen

/-- The eight heads put one after another. -/
theorem concat_real (h0 h1 h2 h3 h4 h5 h6 h7 : Head) (H : Fin 8 → Fin 16 → ℝ) (k : Fin 512)
    (e0 : ∀ j, h0 (ix2 j k) = ((H 0 j : ℝ) : EReal)) (e1 : ∀ j, h1 (ix2 j k) = ((H 1 j : ℝ) : EReal))
    (e2 : ∀ j, h2 (ix2 j k) = ((H 2 j : ℝ) : EReal)) (e3 : ∀ j, h3 (ix2 j k) = ((H 3 j : ℝ) : EReal))
    (e4 : ∀ j, h4 (ix2 j k) = ((H 4 j : ℝ) : EReal)) (e5 : ∀ j, h5 (ix2 j k) = ((H 5 j : ℝ) : EReal))
    (e6 : ∀ j, h6 (ix2 j k) = ((H 6 j : ℝ) : EReal)) (e7 : ∀ j, h7 (ix2 j k) = ((H 7 j : ℝ) : EReal)) (e : Fin 128) :
    (concatenate S128x512 0 [⟨S16x512, h0⟩, ⟨S16x512, h1⟩, ⟨S16x512, h2⟩, ⟨S16x512, h3⟩, ⟨S16x512, h4⟩, ⟨S16x512, h5⟩, ⟨S16x512, h6⟩, ⟨S16x512, h7⟩] concatenates_S16x512_S16x512_S16x512_S16x512_S16x512_S16x512_S16x512_S16x512_S128x512_d0 : FVec Ideal S128x512 .f32) (ix2 e k)
      = ((H ⟨e.val / 16, by omega⟩ ⟨e.val % 16, by omega⟩ : ℝ) : EReal) := by
  have hH : ∀ (i : Fin 8) (j : Fin 16), e.val = i.val * 16 + j.val →
      H i j = H ⟨e.val / 16, by omega⟩ ⟨e.val % 16, by omega⟩ := fun i j h => by
    congr 1 <;> apply Fin.ext <;> simp only [] <;> omega
  pointwise
  split_ifs <;> first
    | exact absurd rfl ‹_›
    | refine (e0 _).trans (congrArg _ (hH 0 _ ?_))
    | refine (e1 _).trans (congrArg _ (hH 1 _ ?_))
    | refine (e2 _).trans (congrArg _ (hH 2 _ ?_))
    | refine (e3 _).trans (congrArg _ (hH 3 _ ?_))
    | refine (e4 _).trans (congrArg _ (hH 4 _ ?_))
    | refine (e5 _).trans (congrArg _ (hH 5 _ ?_))
    | refine (e6 _).trans (congrArg _ (hH 6 _ ?_))
    | refine (e7 _).trans (congrArg _ (hH 7 _ ?_))
  all_goals (simp only [Fin.isValue, Fin.val_zero, Fin.val_one]; omega)

theorem kQ_real (x : Feat) (w : FVec Ideal S128x128 .f32) (f : Fin 512 → Fin 128 → ℝ) (W : Fin 128 → Fin 128 → ℝ)
    (hx : ∀ d k, x (ix2 d k) = ((f k d : ℝ) : EReal)) (hw : ∀ d e, w (ix2 d e) = ((W d e : ℝ) : EReal)) (e : Fin 128)
    (k : Fin 512) : kQ x w (ix2 e k) = ((app W (f k) e * (1 / 4) : ℝ) : EReal) := by
  have h := kApp_real x w f W hx hw e k
  pointwise [kQ]
  rw [h, bits_quarter, ← EReal.coe_mul]

/-- One head with the kernel's order of tokens, as a head with the plain order. -/
theorem head_plain (π : Fin 512 ≃ Fin 512) (P : Par) (X : Seq) (h : Fin 8) (t : Fin 512) (j : Fin 16) :
    attn (fun s => edges P X (π t) (π s))
        (fun s => ∑ j : Fin 16, app P.Wk (X (π s)) (hd h j) * (app P.Wq (X (π t)) (hd h j) * (1 / 4)))
        (fun s => app P.Wv (X (π s)) (hd h j))
      = headOut P X h (π t) j := by
  have hs : (fun s => ∑ j : Fin 16, app P.Wk (X (π s)) (hd h j) * (app P.Wq (X (π t)) (hd h j) * (1 / 4)))
      = fun s => score P X h (π t) (π s) := by
    funext s
    unfold score
    conv_rhs => rw [div_eq_mul_inv, Finset.sum_mul]
    exact Finset.sum_congr rfl fun j _ => by ring
  rw [hs]
  exact attn_perm π (edges P X (π t)) (score P X h (π t)) fun s => app P.Wv (X s) (hd h j)

/-- The features after attention, of real features in the kernel's order of tokens. -/
theorem kAttn_real (π : Fin 512 ≃ Fin 512) (diag ss st : IVec S512x512 1) (x : Feat) (wq wk wv wo : FVec Ideal S128x128 .f32)
    (rw : FVec Ideal S128x3 .f32) (rb : FVec Ideal S3x1 .f32) (P : Par) (X : Seq)
    (hD : ∀ s t, diag (ix2 s t) = BitVec.ofBool (decide (π t = π s)))
    (hS : ∀ s t, ss (ix2 s t) = BitVec.ofBool (decide (patch (π t) = patch (π s))))
    (hT : ∀ s t, st (ix2 s t) = BitVec.ofBool (decide (chan (π t) = chan (π s))))
    (hx : ∀ d k, x (ix2 d k) = ((X (π k) d : ℝ) : EReal))
    (hq : ∀ d e, wq (ix2 d e) = ((P.Wq d e : ℝ) : EReal)) (hk : ∀ d e, wk (ix2 d e) = ((P.Wk d e : ℝ) : EReal))
    (hv : ∀ d e, wv (ix2 d e) = ((P.Wv d e : ℝ) : EReal)) (ho : ∀ d e, wo (ix2 d e) = ((P.Wo d e : ℝ) : EReal))
    (hr : ∀ d e, rw (ix2 d e) = ((P.rW d e : ℝ) : EReal)) (hb : ∀ e, rb (ix2 e 0) = ((P.rb e : ℝ) : EReal))
    (d : Fin 128) (k : Fin 512) :
    kAttn diag ss st x wq wk wv wo rw rb (ix2 d k) = ((mid0 P X (π k) d : ℝ) : EReal) := by
  have la : ∀ s t, kLoga diag ss st x rw rb (ix2 s t) = Ideal.log ((edges P X (π t) (π s) : ℝ) : EReal) := fun s t =>
    kLoga_real diag ss st x rw rb (fun k => X (π k)) P.rW P.rb hx hr hb s t _ _ _ (hD s t) (hS s t) (hT s t)
  have Q := kQ_real x wq (fun k => X (π k)) P.Wq hx hq
  have K := kApp_real x wk (fun k => X (π k)) P.Wk hx hk
  have V := kApp_real x wv (fun k => X (π k)) P.Wv hx hv
  unfold kAttn
  generalize kLoga diag ss st x rw rb = a at la ⊢
  generalize kQ x wq = q at Q ⊢
  generalize kApp x wk = kk at K ⊢
  generalize kApp x wv = v at V ⊢
  have hh : ∀ (h : Fin 8) (k' q' v' : Head) (_ : ∀ j t, k' (ix2 j t) = kk (ix2 (hd h j) t))
      (_ : ∀ j t, q' (ix2 j t) = q (ix2 (hd h j) t)) (_ : ∀ j t, v' (ix2 j t) = v (ix2 (hd h j) t)) (j : Fin 16),
      kHead k' q' v' a (ix2 j k) = ((headOut P X h (π k) j : ℝ) : EReal) := fun h k' q' v' ek eq ev j => by
    rw [kHead_real k' q' v' a (fun t j => app P.Wk (X (π t)) (hd h j)) (fun t j => app P.Wq (X (π t)) (hd h j) * (1 / 4))
      (fun t j => app P.Wv (X (π t)) (hd h j)) (fun t s => edges P X (π t) (π s)) (fun j t => by rw [ek, K])
      (fun j t => by rw [eq, Q]) (fun j t => by rw [ev, V]) la (fun t s => edges_nonneg P X _ _)
      (fun t => by rw [edges_self]; exact one_pos), head_plain π P X h k j]
  unfold kMid
  rw [addf_apply, kApp_one _ wo (heads P X (π k)) P.Wo k (fun e => ?_) ho d, hx]
  · exact (EReal.coe_add _ _).symm
  · refine (concat_real _ _ _ _ _ _ _ _ (fun h j => headOut P X h (π k) j) k (hh 0 _ _ _ ?_ ?_ ?_) (hh 1 _ _ _ ?_ ?_ ?_)
      (hh 2 _ _ _ ?_ ?_ ?_) (hh 3 _ _ _ ?_ ?_ ?_) (hh 4 _ _ _ ?_ ?_ ?_) (hh 5 _ _ _ ?_ ?_ ?_) (hh 6 _ _ _ ?_ ?_ ?_)
      (hh 7 _ _ _ ?_ ?_ ?_) e).trans rfl
    all_goals (intro j t; pointwise; congr 2 <;> (apply Fin.ext; simp only [hd, Fin.isValue] <;> omega))

/-- One layer of real features in the kernel's order of tokens. -/
theorem kLayer_real (π : Fin 512 ≃ Fin 512) (diag ss st : IVec S512x512 1) (x : Feat) (wq wk wv wo : FVec Ideal S128x128 .f32)
    (rw : FVec Ideal S128x3 .f32) (rb : FVec Ideal S3x1 .f32) (g1 c1 : Col) (w1 : FVec Ideal S128x256 .f32)
    (b1 : FVec Ideal S256x1 .f32) (w2 : FVec Ideal S256x128 .f32) (b2 g2 c2 : Col) (P : Par) (X : Seq)
    (hD : ∀ s t, diag (ix2 s t) = BitVec.ofBool (decide (π t = π s)))
    (hS : ∀ s t, ss (ix2 s t) = BitVec.ofBool (decide (patch (π t) = patch (π s))))
    (hT : ∀ s t, st (ix2 s t) = BitVec.ofBool (decide (chan (π t) = chan (π s))))
    (hx : ∀ d k, x (ix2 d k) = ((X (π k) d : ℝ) : EReal))
    (hq : ∀ d e, wq (ix2 d e) = ((P.Wq d e : ℝ) : EReal)) (hk : ∀ d e, wk (ix2 d e) = ((P.Wk d e : ℝ) : EReal))
    (hv : ∀ d e, wv (ix2 d e) = ((P.Wv d e : ℝ) : EReal)) (ho : ∀ d e, wo (ix2 d e) = ((P.Wo d e : ℝ) : EReal))
    (hr : ∀ d e, rw (ix2 d e) = ((P.rW d e : ℝ) : EReal)) (hb : ∀ e, rb (ix2 e 0) = ((P.rb e : ℝ) : EReal))
    (hg1 : ∀ d, g1 (ix2 d 0) = ((P.g1 d : ℝ) : EReal)) (hc1 : ∀ d, c1 (ix2 d 0) = ((P.c1 d : ℝ) : EReal))
    (hw1 : ∀ d e, w1 (ix2 d e) = ((P.W1 d e : ℝ) : EReal)) (hb1 : ∀ e, b1 (ix2 e 0) = ((P.b1 e : ℝ) : EReal))
    (hw2 : ∀ e d, w2 (ix2 e d) = ((P.W2 e d : ℝ) : EReal)) (hb2 : ∀ d, b2 (ix2 d 0) = ((P.b2 d : ℝ) : EReal))
    (hg2 : ∀ d, g2 (ix2 d 0) = ((P.g2 d : ℝ) : EReal)) (hc2 : ∀ d, c2 (ix2 d 0) = ((P.c2 d : ℝ) : EReal))
    (d : Fin 128) (k : Fin 512) :
    kLayer diag ss st x wq wk wv wo rw rb g1 c1 w1 b1 w2 b2 g2 c2 (ix2 d k) = ((layer P X (π k) d : ℝ) : EReal) := by
  have h1 := kAttn_real π diag ss st x wq wk wv wo rw rb P X hD hS hT hx hq hk hv ho hr hb
  have h2 := kNorm_real _ g1 c1 (fun k => mid0 P X (π k)) P.g1 P.c1 h1 hg1 hc1
  have h3 := kFfn_real _ w1 b1 w2 b2 (fun k => mid P X (π k)) P h2 hw1 hb1 hw2 hb2
  exact kNorm_real _ g2 c2 (fun k d => mid P X (π k) d + (app P.W2 (hid P (mid P X (π k))) d + P.b2 d)) P.g2 P.c2 h3 hg2 hc2 d k

end Patch
-- ==== Proof.KBlock.lean ====
module

public import proofs.«01_k».proof.Proof.KFore
public import proofs.«01_k».proof.Proof.KLayerR
public import Idealize.ShloMosaic.Lib.Pipeline.ValueKit

@[expose] public section

set_option maxRecDepth 16384

/-! # A block of the kernel's output at real inputs -/

noncomputable section

namespace Patch

open scoped BigOperators
open Idealize Idealize.ShloMosaic Cert.KernelIdeal Cert.KernelIdeal.Gen

/-- The blocks of a grid step hold these real numbers: two batch entries and the parameters. -/
structure BlockAt (x0 : Vec Ideal S2x16x512 .f32) (x1 : Vec Ideal S16x128 .f32) (x2 : Vec Ideal S128x1 .f32) (x3 : Vec Ideal S128x512 .f32) (x4 : Vec Ideal S2x128x128 .f32) (x5 : Vec Ideal S2x128x128 .f32) (x6 : Vec Ideal S2x128x128 .f32) (x7 : Vec Ideal S2x128x128 .f32) (x8 : Vec Ideal S2x128x3 .f32) (x9 : Vec Ideal S2x3x1 .f32) (x10 : Vec Ideal S2x128x1 .f32) (x11 : Vec Ideal S2x128x1 .f32) (x12 : Vec Ideal S2x128x256 .f32) (x13 : Vec Ideal S2x256x1 .f32) (x14 : Vec Ideal S2x256x128 .f32) (x15 : Vec Ideal S2x128x1 .f32) (x16 : Vec Ideal S2x128x1 .f32) (x17 : Vec Ideal S2x128x1 .f32)
    (X : Fin 2 → Fin 1024 → Fin 8 → ℝ) (W : Fin 16 → Fin 128 → ℝ) (B : Fin 128 → ℝ) (E : Fin 512 → Fin 128 → ℝ) (Q : Fin 2 → Par) : Prop where
  h0 : ∀ i j k, x0 (ix3 i j k) = ((X i (step (patch (place k)) j) (chan (place k)) : ℝ) : EReal)
  h1 : ∀ j d, x1 (ix2 j d) = ((W j d : ℝ) : EReal)
  h2 : ∀ d, x2 (ix2 d 0) = ((B d : ℝ) : EReal)
  h3 : ∀ d k, x3 (ix2 d k) = ((E (place k) d : ℝ) : EReal)
  h4 : ∀ l d e, x4 (ix3 l d e) = (((Q l).Wq d e : ℝ) : EReal)
  h5 : ∀ l d e, x5 (ix3 l d e) = (((Q l).Wk d e : ℝ) : EReal)
  h6 : ∀ l d e, x6 (ix3 l d e) = (((Q l).Wv d e : ℝ) : EReal)
  h7 : ∀ l d e, x7 (ix3 l d e) = (((Q l).Wo d e : ℝ) : EReal)
  h8 : ∀ l d e, x8 (ix3 l d e) = (((Q l).rW d e : ℝ) : EReal)
  h9 : ∀ l d, x9 (ix3 l d 0) = (((Q l).rb d : ℝ) : EReal)
  h10 : ∀ l d, x10 (ix3 l d 0) = (((Q l).g1 d : ℝ) : EReal)
  h11 : ∀ l d, x11 (ix3 l d 0) = (((Q l).c1 d : ℝ) : EReal)
  h12 : ∀ l d e, x12 (ix3 l d e) = (((Q l).W1 d e : ℝ) : EReal)
  h13 : ∀ l d, x13 (ix3 l d 0) = (((Q l).b1 d : ℝ) : EReal)
  h14 : ∀ l d e, x14 (ix3 l d e) = (((Q l).W2 d e : ℝ) : EReal)
  h15 : ∀ l d, x15 (ix3 l d 0) = (((Q l).b2 d : ℝ) : EReal)
  h16 : ∀ l d, x16 (ix3 l d 0) = (((Q l).g2 d : ℝ) : EReal)
  h17 : ∀ l d, x17 (ix3 l d 0) = (((Q l).c2 d : ℝ) : EReal)

theorem kSq0_apply (w : Vec Ideal S2x128x128 .f32) (d : Fin 128) (e : Fin 128) : kSq (View.ld w r0_4) (ix2 d e) = w (ix3 0 d e) := by
  pointwise [kSq]
theorem kSqR0_apply (w : Vec Ideal S2x128x3 .f32) (d : Fin 128) (e : Fin 3) : kSqR (View.ld w r0_5) (ix2 d e) = w (ix3 0 d e) := by
  pointwise [kSqR]
theorem kSqB0_apply (w : Vec Ideal S2x3x1 .f32) (d : Fin 3) : kSqB (View.ld w r0_6) (ix2 d 0) = w (ix3 0 d 0) := by
  pointwise [kSqB]
theorem kSqC0_apply (w : Vec Ideal S2x128x1 .f32) (d : Fin 128) : kSqC (View.ld w r0_7) (ix2 d 0) = w (ix3 0 d 0) := by
  pointwise [kSqC]
theorem kSqU0_apply (w : Vec Ideal S2x128x256 .f32) (d : Fin 128) (e : Fin 256) : kSqU (View.ld w r0_8) (ix2 d e) = w (ix3 0 d e) := by
  pointwise [kSqU]
theorem kSqV0_apply (w : Vec Ideal S2x256x1 .f32) (d : Fin 256) : kSqV (View.ld w r0_9) (ix2 d 0) = w (ix3 0 d 0) := by
  pointwise [kSqV]
theorem kSqD0_apply (w : Vec Ideal S2x256x128 .f32) (d : Fin 256) (e : Fin 128) : kSqD (View.ld w r0_10) (ix2 d e) = w (ix3 0 d e) := by
  pointwise [kSqD]
theorem kSq1_apply (w : Vec Ideal S2x128x128 .f32) (d : Fin 128) (e : Fin 128) : kSq (View.ld w r0_11) (ix2 d e) = w (ix3 1 d e) := by
  pointwise [kSq]
theorem kSqR1_apply (w : Vec Ideal S2x128x3 .f32) (d : Fin 128) (e : Fin 3) : kSqR (View.ld w r0_12) (ix2 d e) = w (ix3 1 d e) := by
  pointwise [kSqR]
theorem kSqB1_apply (w : Vec Ideal S2x3x1 .f32) (d : Fin 3) : kSqB (View.ld w r0_13) (ix2 d 0) = w (ix3 1 d 0) := by
  pointwise [kSqB]
theorem kSqC1_apply (w : Vec Ideal S2x128x1 .f32) (d : Fin 128) : kSqC (View.ld w r0_14) (ix2 d 0) = w (ix3 1 d 0) := by
  pointwise [kSqC]
theorem kSqU1_apply (w : Vec Ideal S2x128x256 .f32) (d : Fin 128) (e : Fin 256) : kSqU (View.ld w r0_15) (ix2 d e) = w (ix3 1 d e) := by
  pointwise [kSqU]
theorem kSqV1_apply (w : Vec Ideal S2x256x1 .f32) (d : Fin 256) : kSqV (View.ld w r0_16) (ix2 d 0) = w (ix3 1 d 0) := by
  pointwise [kSqV]
theorem kSqD1_apply (w : Vec Ideal S2x256x128 .f32) (d : Fin 256) (e : Fin 128) : kSqD (View.ld w r0_17) (ix2 d e) = w (ix3 1 d e) := by
  pointwise [kSqD]

variable {x0 : Vec Ideal S2x16x512 .f32} {x1 : Vec Ideal S16x128 .f32} {x2 : Vec Ideal S128x1 .f32} {x3 : Vec Ideal S128x512 .f32} {x4 : Vec Ideal S2x128x128 .f32} {x5 : Vec Ideal S2x128x128 .f32} {x6 : Vec Ideal S2x128x128 .f32} {x7 : Vec Ideal S2x128x128 .f32} {x8 : Vec Ideal S2x128x3 .f32} {x9 : Vec Ideal S2x3x1 .f32} {x10 : Vec Ideal S2x128x1 .f32} {x11 : Vec Ideal S2x128x1 .f32} {x12 : Vec Ideal S2x128x256 .f32} {x13 : Vec Ideal S2x256x1 .f32} {x14 : Vec Ideal S2x256x128 .f32} {x15 : Vec Ideal S2x128x1 .f32} {x16 : Vec Ideal S2x128x1 .f32} {x17 : Vec Ideal S2x128x1 .f32} (x18 : Vec Ideal S64x128x96 .f32) (x19 : Vec Ideal S1x96 .f32)
  {X : Fin 2 → Fin 1024 → Fin 8 → ℝ} {W : Fin 16 → Fin 128 → ℝ} {B : Fin 128 → ℝ} {E : Fin 512 → Fin 128 → ℝ} {Q : Fin 2 → Par}

/-- Layer one on tokens with real features. -/
theorem layer_one (H : BlockAt x0 x1 x2 x3 x4 x5 x6 x7 x8 x9 x10 x11 x12 x13 x14 x15 x16 x17 X W B E Q) (y : Feat) (Y : Seq) (hy : ∀ d k, y (ix2 d k) = ((Y (place k) d : ℝ) : EReal)) (d : Fin 128) (k : Fin 512) :
    kLayer (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) y (kSq (View.ld x4 r0_4)) (kSq (View.ld x5 r0_4)) (kSq (View.ld x6 r0_4)) (kSq (View.ld x7 r0_4)) (kSqR (View.ld x8 r0_5)) (kSqB (View.ld x9 r0_6)) (kSqC (View.ld x10 r0_7)) (kSqC (View.ld x11 r0_7)) (kSqU (View.ld x12 r0_8)) (kSqV (View.ld x13 r0_9)) (kSqD (View.ld x14 r0_10)) (kSqC (View.ld x15 r0_7)) (kSqC (View.ld x16 r0_7)) (kSqC (View.ld x17 r0_7)) (ix2 d k) = ((layer (Q 0) Y (place k) d : ℝ) : EReal) :=
  kLayer_real place _ _ _ _ _ _ _ _ _ _ _ _ _ _ _ _ _ _ (Q 0) Y diag_plain patch_plain chan_plain hy (fun d e => (kSq0_apply x4 d e).trans (H.h4 0 d e)) (fun d e => (kSq0_apply x5 d e).trans (H.h5 0 d e)) (fun d e => (kSq0_apply x6 d e).trans (H.h6 0 d e)) (fun d e => (kSq0_apply x7 d e).trans (H.h7 0 d e)) (fun d e => (kSqR0_apply x8 d e).trans (H.h8 0 d e)) (fun d => (kSqB0_apply x9 d).trans (H.h9 0 d)) (fun d => (kSqC0_apply x10 d).trans (H.h10 0 d)) (fun d => (kSqC0_apply x11 d).trans (H.h11 0 d)) (fun d e => (kSqU0_apply x12 d e).trans (H.h12 0 d e)) (fun d => (kSqV0_apply x13 d).trans (H.h13 0 d)) (fun d e => (kSqD0_apply x14 d e).trans (H.h14 0 d e)) (fun d => (kSqC0_apply x15 d).trans (H.h15 0 d)) (fun d => (kSqC0_apply x16 d).trans (H.h16 0 d)) (fun d => (kSqC0_apply x17 d).trans (H.h17 0 d)) d k

/-- Layer two on tokens with real features. -/
theorem layer_two (H : BlockAt x0 x1 x2 x3 x4 x5 x6 x7 x8 x9 x10 x11 x12 x13 x14 x15 x16 x17 X W B E Q) (y : Feat) (Y : Seq) (hy : ∀ d k, y (ix2 d k) = ((Y (place k) d : ℝ) : EReal)) (d : Fin 128) (k : Fin 512) :
    kLayer (k0_pay260 x0 x1 x2 x3 x4 x5 x6 x7 x8 x9 x10 x11 x12 x13 x14 x15 x16 x17 x18 x19) (k0_pay261 x0 x1 x2 x3 x4 x5 x6 x7 x8 x9 x10 x11 x12 x13 x14 x15 x16 x17 x18 x19) (k0_pay262 x0 x1 x2 x3 x4 x5 x6 x7 x8 x9 x10 x11 x12 x13 x14 x15 x16 x17 x18 x19) y (kSq (View.ld x4 r0_11)) (kSq (View.ld x5 r0_11)) (kSq (View.ld x6 r0_11)) (kSq (View.ld x7 r0_11)) (kSqR (View.ld x8 r0_12)) (kSqB (View.ld x9 r0_13)) (kSqC (View.ld x10 r0_14)) (kSqC (View.ld x11 r0_14)) (kSqU (View.ld x12 r0_15)) (kSqV (View.ld x13 r0_16)) (kSqD (View.ld x14 r0_17)) (kSqC (View.ld x15 r0_14)) (kSqC (View.ld x16 r0_14)) (kSqC (View.ld x17 r0_14)) (ix2 d k) = ((layer (Q 1) Y (place k) d : ℝ) : EReal) :=
  kLayer_real place _ _ _ _ _ _ _ _ _ _ _ _ _ _ _ _ _ _ (Q 1) Y diag_plain patch_plain chan_plain hy (fun d e => (kSq1_apply x4 d e).trans (H.h4 1 d e)) (fun d e => (kSq1_apply x5 d e).trans (H.h5 1 d e)) (fun d e => (kSq1_apply x6 d e).trans (H.h6 1 d e)) (fun d e => (kSq1_apply x7 d e).trans (H.h7 1 d e)) (fun d e => (kSqR1_apply x8 d e).trans (H.h8 1 d e)) (fun d => (kSqB1_apply x9 d).trans (H.h9 1 d)) (fun d => (kSqC1_apply x10 d).trans (H.h10 1 d)) (fun d => (kSqC1_apply x11 d).trans (H.h11 1 d)) (fun d e => (kSqU1_apply x12 d e).trans (H.h12 1 d e)) (fun d => (kSqV1_apply x13 d).trans (H.h13 1 d)) (fun d e => (kSqD1_apply x14 d e).trans (H.h14 1 d e)) (fun d => (kSqC1_apply x15 d).trans (H.h15 1 d)) (fun d => (kSqC1_apply x16 d).trans (H.h16 1 d)) (fun d => (kSqC1_apply x17 d).trans (H.h17 1 d)) d k

/-- The tokens after both layers. -/
def tokens (Q : Fin 2 → Par) (W : Fin 16 → Fin 128 → ℝ) (B : Fin 128 → ℝ) (E : Fin 512 → Fin 128 → ℝ) (X : Fin 1024 → Fin 8 → ℝ) : Seq :=
  layer (Q 1) (layer (Q 0) (embed X W B E))

/-- The forecast of a channel from the tokens, with the head's weights left as they are. -/
def forecast (z : Seq) (X : Fin 1024 → Fin 8 → ℝ) (hb : Fin 96 → EReal) (hw : Fin 64 → Fin 128 → Fin 96 → EReal) (c : Fin 8) (p : Fin 96) : EReal :=
  (hb p + ∑ n : Fin 64, ∑ d : Fin 128, ((z (tok c n) d : ℝ) : EReal) * hw n d p) * ((dev (fun t => X t c) : ℝ) : EReal) + ((meanOf (fun t => X t c) : ℝ) : EReal)

theorem entry_fore (cs : FVec Ideal S8x512 .f32) (q : Vec Ideal S1x16x512 .f32) (V : Fin 1024 → Fin 8 → ℝ) (z : Seq) (y : Feat)
    (hcs : ∀ c t, cs (ix2 c t) = (((if t.val % 8 = c.val then 1 else 0 : ℝ)) : EReal))
    (hq : ∀ j k, q (ix3 0 j k) = ((V (step (patch (place k)) j) (chan (place k)) : ℝ) : EReal))
    (hy : ∀ d k, y (ix2 d k) = ((z (place k) d : ℝ) : EReal)) (o : Fin 1) (c : Fin 8) (p : Fin 96) :
    kFore (kMean cs q) (kDev cs q) y (View.ld x19 r0_18) x18 (ix3 o c p)
      = forecast z V (fun p => x19 (ix2 0 p)) (fun n d p => x18 (ix3 n d p)) c p := by
  rw [kFore_apply, kMean_real cs q V hcs hq, kDev_real cs q V hcs hq]
  unfold forecast
  have hl : (View.ld x19 r0_18 : Vec Ideal S1x96 .f32) (ix2 0 p) = x19 (ix2 0 p) := by
    pointwise
  rw [hl]
  simp only [hy, place_pair8]

theorem out_real (H : BlockAt x0 x1 x2 x3 x4 x5 x6 x7 x8 x9 x10 x11 x12 x13 x14 x15 x16 x17 X W B E Q) (i : Fin 2) (c : Fin 8) (p : Fin 96) :
    out0_20 x0 x1 x2 x3 x4 x5 x6 x7 x8 x9 x10 x11 x12 x13 x14 x15 x16 x17 x18 x19 (ix3 i c p)
      = forecast (tokens Q W B E (X i)) (X i) (fun p => x19 (ix2 0 p)) (fun n d p => x18 (ix3 n d p)) c p := by
  have p0 : ∀ j k, (View.ld x0 r0_0 : Vec Ideal S1x16x512 .f32) (ix3 0 j k) = ((X 0 (step (patch (place k)) j) (chan (place k)) : ℝ) : EReal) := fun j k => by
    rw [← H.h0]
    pointwise
  have p1 : ∀ j k, (View.ld x0 r0_84 : Vec Ideal S1x16x512 .f32) (ix3 0 j k) = ((X 1 (step (patch (place k)) j) (chan (place k)) : ℝ) : EReal) := fun j k => by
    rw [← H.h0]
    pointwise
  have w1 : ∀ j d, (View.ld x1 r0_1 : Vec Ideal S16x128 .f32) (ix2 j d) = ((W j d : ℝ) : EReal) := fun j d => by
    rw [← H.h1]
    pointwise
  have w2 : ∀ d, (View.ld x2 r0_2 : Vec Ideal S128x1 .f32) (ix2 d 0) = ((B d : ℝ) : EReal) := fun d => by
    rw [← H.h2]
    pointwise
  have w3 : ∀ d k, (View.ld x3 r0_3 : Vec Ideal S128x512 .f32) (ix2 d k) = ((E (place k) d : ℝ) : EReal) := fun d k => by
    rw [← H.h3]
    pointwise
  have a0 := kEmbed_real (k0_pay259 x0 x1 x2 x3 x4 x5 x6 x7 x8 x9 x10 x11 x12 x13 x14 x15 x16 x17 x18 x19) _ (X 0) csel_eq p0 _ _ _ W B E w1 w2 w3
  rw [← embed_first] at a0
  have b0 := layer_one x18 x19 H _ _ a0
  rw [← layer_first_one] at b0
  have c0 := layer_two x18 x19 H _ _ b0
  rw [← layer_first_two] at c0
  have a1 := kEmbed_real (k0_pay259 x0 x1 x2 x3 x4 x5 x6 x7 x8 x9 x10 x11 x12 x13 x14 x15 x16 x17 x18 x19) _ (X 1) csel_eq p1 _ _ _ W B E w1 w2 w3
  rw [← embed_second] at a1
  have b1 := layer_one x18 x19 H _ _ a1
  rw [← layer_second_one] at b1
  have c1 := layer_two x18 x19 H _ _ b1
  rw [← layer_second_two] at c1
  have e0 := entry_fore x18 x19 (k0_pay259 x0 x1 x2 x3 x4 x5 x6 x7 x8 x9 x10 x11 x12 x13 x14 x15 x16 x17 x18 x19) _ (X 0) _ _ csel_eq p0 c0
  have e1 := entry_fore x18 x19 (k0_pay259 x0 x1 x2 x3 x4 x5 x6 x7 x8 x9 x10 x11 x12 x13 x14 x15 x16 x17 x18 x19) _ (X 1) _ _ csel_eq p1 c1
  rw [out_fore]
  canon_tiles x h
  · have q0 : i.val = 1 + (x 0).val := h0
    have q1 : c.val = (x 1).val := h1
    have q2 : p.val = (x 2).val := h2
    have hx : x = ix3 0 c p := by blk_ext <;> omega
    have hi : i = 1 := by
      apply Fin.ext
      show i.val = 1
      omega
    rw [hx, e1, hi]
    rfl
  · have q0 : i.val = 0 + (x 0).val := by rw [Nat.zero_add]; exact h0
    have q1 : c.val = (x 1).val := h1
    have q2 : p.val = (x 2).val := h2
    have hx : x = ix3 0 c p := by blk_ext <;> omega
    have hi : i = 0 := by
      apply Fin.ext
      show i.val = 0
      omega
    rw [hx, e0, hi]
    rfl

end Patch
-- ==== Proof.Args.lean ====
module

public import proofs.«01_k».proof.Proof.KBlock

@[expose] public section

/-! # Arguments that hold real numbers -/

noncomputable section

namespace Patch

open Idealize Idealize.ShloMosaic Cert.KernelIdeal

/-- The input and the parameters hold these real numbers. -/
structure ArgsAt (a0 : FVec Ideal S8x1024x8 .f32) (a4 : FVec Ideal S16x128 .f32) (a5 : FVec Ideal S128 .f32)
    (a6 a7 a8 a9 : FVec Ideal S2x128x128 .f32) (a10 : FVec Ideal S2x128x3 .f32) (a11 : FVec Ideal S2x3 .f32)
    (a12 a13 : FVec Ideal S2x128 .f32) (a14 : FVec Ideal S2x128x256 .f32) (a15 : FVec Ideal S2x256 .f32)
    (a16 : FVec Ideal S2x256x128 .f32) (a17 a18 a19 : FVec Ideal S2x128 .f32)
    (X : Fin 8 → Fin 1024 → Fin 8 → ℝ) (W : Fin 16 → Fin 128 → ℝ) (B : Fin 128 → ℝ) (Q : Fin 2 → Par) : Prop where
  h0 : ∀ b t c, a0 (ix3 b t c) = ((X b t c : ℝ) : EReal)
  h4 : ∀ j d, a4 (ix2 j d) = ((W j d : ℝ) : EReal)
  h5 : ∀ d, a5 (ix1 d) = ((B d : ℝ) : EReal)
  h6 : ∀ l d e, a6 (ix3 l d e) = (((Q l).Wq d e : ℝ) : EReal)
  h7 : ∀ l d e, a7 (ix3 l d e) = (((Q l).Wk d e : ℝ) : EReal)
  h8 : ∀ l d e, a8 (ix3 l d e) = (((Q l).Wv d e : ℝ) : EReal)
  h9 : ∀ l d e, a9 (ix3 l d e) = (((Q l).Wo d e : ℝ) : EReal)
  h10 : ∀ l d e, a10 (ix3 l d e) = (((Q l).rW d e : ℝ) : EReal)
  h11 : ∀ l d, a11 (ix2 l d) = (((Q l).rb d : ℝ) : EReal)
  h12 : ∀ l d, a12 (ix2 l d) = (((Q l).g1 d : ℝ) : EReal)
  h13 : ∀ l d, a13 (ix2 l d) = (((Q l).c1 d : ℝ) : EReal)
  h14 : ∀ l d e, a14 (ix3 l d e) = (((Q l).W1 d e : ℝ) : EReal)
  h15 : ∀ l d, a15 (ix2 l d) = (((Q l).b1 d : ℝ) : EReal)
  h16 : ∀ l d e, a16 (ix3 l d e) = (((Q l).W2 d e : ℝ) : EReal)
  h17 : ∀ l d, a17 (ix2 l d) = (((Q l).b2 d : ℝ) : EReal)
  h18 : ∀ l d, a18 (ix2 l d) = (((Q l).g2 d : ℝ) : EReal)
  h19 : ∀ l d, a19 (ix2 l d) = (((Q l).c2 d : ℝ) : EReal)

/-- An array without infinities holds real numbers. -/
theorem exists_real {ι : Type} (f : ι → EReal) (h : ∀ i, f i ≠ ⊥ ∧ f i ≠ ⊤) : ∃ r : ι → ℝ, ∀ i, f i = ((r i : ℝ) : EReal) :=
  ⟨fun i => (f i).toReal, fun i => (EReal.coe_toReal (h i).2 (h i).1).symm⟩

/-- Arrays without infinities are such arguments. -/
theorem exists_args (a0 : FVec Ideal S8x1024x8 .f32) (a4 : FVec Ideal S16x128 .f32) (a5 : FVec Ideal S128 .f32)
    (a6 a7 a8 a9 : FVec Ideal S2x128x128 .f32) (a10 : FVec Ideal S2x128x3 .f32) (a11 : FVec Ideal S2x3 .f32)
    (a12 a13 : FVec Ideal S2x128 .f32) (a14 : FVec Ideal S2x128x256 .f32) (a15 : FVec Ideal S2x256 .f32)
    (a16 : FVec Ideal S2x256x128 .f32) (a17 a18 a19 : FVec Ideal S2x128 .f32)
    (f0 : ∃ r : S8x1024x8.Idx → ℝ, ∀ i, a0 i = ((r i : ℝ) : EReal)) (f4 : ∃ r : S16x128.Idx → ℝ, ∀ i, a4 i = ((r i : ℝ) : EReal))
    (f5 : ∃ r : S128.Idx → ℝ, ∀ i, a5 i = ((r i : ℝ) : EReal)) (f6 : ∃ r : S2x128x128.Idx → ℝ, ∀ i, a6 i = ((r i : ℝ) : EReal))
    (f7 : ∃ r : S2x128x128.Idx → ℝ, ∀ i, a7 i = ((r i : ℝ) : EReal)) (f8 : ∃ r : S2x128x128.Idx → ℝ, ∀ i, a8 i = ((r i : ℝ) : EReal))
    (f9 : ∃ r : S2x128x128.Idx → ℝ, ∀ i, a9 i = ((r i : ℝ) : EReal)) (f10 : ∃ r : S2x128x3.Idx → ℝ, ∀ i, a10 i = ((r i : ℝ) : EReal))
    (f11 : ∃ r : S2x3.Idx → ℝ, ∀ i, a11 i = ((r i : ℝ) : EReal)) (f12 : ∃ r : S2x128.Idx → ℝ, ∀ i, a12 i = ((r i : ℝ) : EReal))
    (f13 : ∃ r : S2x128.Idx → ℝ, ∀ i, a13 i = ((r i : ℝ) : EReal)) (f14 : ∃ r : S2x128x256.Idx → ℝ, ∀ i, a14 i = ((r i : ℝ) : EReal))
    (f15 : ∃ r : S2x256.Idx → ℝ, ∀ i, a15 i = ((r i : ℝ) : EReal)) (f16 : ∃ r : S2x256x128.Idx → ℝ, ∀ i, a16 i = ((r i : ℝ) : EReal))
    (f17 : ∃ r : S2x128.Idx → ℝ, ∀ i, a17 i = ((r i : ℝ) : EReal)) (f18 : ∃ r : S2x128.Idx → ℝ, ∀ i, a18 i = ((r i : ℝ) : EReal))
    (f19 : ∃ r : S2x128.Idx → ℝ, ∀ i, a19 i = ((r i : ℝ) : EReal)) :
    ∃ X W B Q, ArgsAt a0 a4 a5 a6 a7 a8 a9 a10 a11 a12 a13 a14 a15 a16 a17 a18 a19 X W B Q := by
  obtain ⟨r0, h0⟩ := f0
  obtain ⟨r4, h4⟩ := f4
  obtain ⟨r5, h5⟩ := f5
  obtain ⟨r6, h6⟩ := f6
  obtain ⟨r7, h7⟩ := f7
  obtain ⟨r8, h8⟩ := f8
  obtain ⟨r9, h9⟩ := f9
  obtain ⟨r10, h10⟩ := f10
  obtain ⟨r11, h11⟩ := f11
  obtain ⟨r12, h12⟩ := f12
  obtain ⟨r13, h13⟩ := f13
  obtain ⟨r14, h14⟩ := f14
  obtain ⟨r15, h15⟩ := f15
  obtain ⟨r16, h16⟩ := f16
  obtain ⟨r17, h17⟩ := f17
  obtain ⟨r18, h18⟩ := f18
  obtain ⟨r19, h19⟩ := f19
  exact ⟨fun b t c => r0 (ix3 b t c), fun j d => r4 (ix2 j d), fun d => r5 (ix1 d),
    fun l => {
      Wq := fun d e => r6 (ix3 l d e), Wk := fun d e => r7 (ix3 l d e), Wv := fun d e => r8 (ix3 l d e), Wo := fun d e => r9 (ix3 l d e)
      rW := fun d e => r10 (ix3 l d e), rb := fun d => r11 (ix2 l d), g1 := fun d => r12 (ix2 l d), c1 := fun d => r13 (ix2 l d)
      W1 := fun d e => r14 (ix3 l d e), b1 := fun d => r15 (ix2 l d), W2 := fun d e => r16 (ix3 l d e), b2 := fun d => r17 (ix2 l d)
      g2 := fun d => r18 (ix2 l d), c2 := fun d => r19 (ix2 l d) },
    { h0 := fun _ _ _ => h0 _, h4 := fun _ _ => h4 _, h5 := fun _ => h5 _, h6 := fun _ _ _ => h6 _, h7 := fun _ _ _ => h7 _
      h8 := fun _ _ _ => h8 _, h9 := fun _ _ _ => h9 _, h10 := fun _ _ _ => h10 _, h11 := fun _ _ => h11 _, h12 := fun _ _ => h12 _
      h13 := fun _ _ => h13 _, h14 := fun _ _ _ => h14 _, h15 := fun _ _ => h15 _, h16 := fun _ _ _ => h16 _, h17 := fun _ _ => h17 _
      h18 := fun _ _ => h18 _, h19 := fun _ _ => h19 _ }⟩

end Patch
-- ==== Proof.KEntry.lean ====
module

public import proofs.«01_k».proof.Proof.Args
public import proofs.«01_k».proof.Proof.Gen.KernelIdeal.Run

@[expose] public section

set_option maxRecDepth 16384

/-! # The arrays the kernel's region finds -/

noncomputable section

namespace Patch

open scoped BigOperators
open Idealize Idealize.ShloMosaic Idealize.ShloMosaic.TcCoe Cert.KernelIdeal Cert.KernelIdeal.Gen Idealize.ShloMosaic.StableHlo

variable (m : (ℓ : Loc nD τ sig) → Buf (Elt Ideal) ℓ) (c : Dev nD)

theorem V_v3 : V m c main_v3 = shapeCast _ (m ((c : Thread nD τ).loc main_arg5) : FVec Ideal S128 .f32) shapeCasts_S128_S128x1 := by
  show after (List.flatten [hostOps0]) (fun b => m (c, b)) (Proc.devRef .tc main_v3) = _
  simp only [hostOps0, List.flatten_cons, List.flatten_nil, List.append_nil, List.cons_append, List.nil_append]
  after_results
  rfl

theorem V_v4 : V m c main_v4 = shapeCast _ (m ((c : Thread nD τ).loc main_arg11) : FVec Ideal S2x3 .f32) shapeCasts_S2x3_S2x3x1 := by
  show after (List.flatten [hostOps0]) (fun b => m (c, b)) (Proc.devRef .tc main_v4) = _
  simp only [hostOps0, List.flatten_cons, List.flatten_nil, List.append_nil, List.cons_append, List.nil_append]
  after_results
  rfl

theorem V_v5 : V m c main_v5 = shapeCast _ (m ((c : Thread nD τ).loc main_arg12) : FVec Ideal S2x128 .f32) shapeCasts_S2x128_S2x128x1 := by
  show after (List.flatten [hostOps0]) (fun b => m (c, b)) (Proc.devRef .tc main_v5) = _
  simp only [hostOps0, List.flatten_cons, List.flatten_nil, List.append_nil, List.cons_append, List.nil_append]
  after_results
  rfl

theorem V_v6 : V m c main_v6 = shapeCast _ (m ((c : Thread nD τ).loc main_arg13) : FVec Ideal S2x128 .f32) shapeCasts_S2x128_S2x128x1 := by
  show after (List.flatten [hostOps0]) (fun b => m (c, b)) (Proc.devRef .tc main_v6) = _
  simp only [hostOps0, List.flatten_cons, List.flatten_nil, List.append_nil, List.cons_append, List.nil_append]
  after_results
  rfl

theorem V_v7 : V m c main_v7 = shapeCast _ (m ((c : Thread nD τ).loc main_arg15) : FVec Ideal S2x256 .f32) shapeCasts_S2x256_S2x256x1 := by
  show after (List.flatten [hostOps0]) (fun b => m (c, b)) (Proc.devRef .tc main_v7) = _
  simp only [hostOps0, List.flatten_cons, List.flatten_nil, List.append_nil, List.cons_append, List.nil_append]
  after_results
  rfl

theorem V_v8 : V m c main_v8 = shapeCast _ (m ((c : Thread nD τ).loc main_arg17) : FVec Ideal S2x128 .f32) shapeCasts_S2x128_S2x128x1 := by
  show after (List.flatten [hostOps0]) (fun b => m (c, b)) (Proc.devRef .tc main_v8) = _
  simp only [hostOps0, List.flatten_cons, List.flatten_nil, List.append_nil, List.cons_append, List.nil_append]
  after_results
  rfl

theorem V_v9 : V m c main_v9 = shapeCast _ (m ((c : Thread nD τ).loc main_arg18) : FVec Ideal S2x128 .f32) shapeCasts_S2x128_S2x128x1 := by
  show after (List.flatten [hostOps0]) (fun b => m (c, b)) (Proc.devRef .tc main_v9) = _
  simp only [hostOps0, List.flatten_cons, List.flatten_nil, List.append_nil, List.cons_append, List.nil_append]
  after_results
  rfl

theorem V_v10 : V m c main_v10 = shapeCast _ (m ((c : Thread nD τ).loc main_arg19) : FVec Ideal S2x128 .f32) shapeCasts_S2x128_S2x128x1 := by
  show after (List.flatten [hostOps0]) (fun b => m (c, b)) (Proc.devRef .tc main_v10) = _
  simp only [hostOps0, List.flatten_cons, List.flatten_nil, List.append_nil, List.cons_append, List.nil_append]
  after_results
  rfl

theorem V_v11 : V m c main_v11 = shapeCast _ (m ((c : Thread nD τ).loc main_arg20) : FVec Ideal S8192x96 .f32) shapeCasts_S8192x96_S64x128x96 := by
  show after (List.flatten [hostOps0]) (fun b => m (c, b)) (Proc.devRef .tc main_v11) = _
  simp only [hostOps0, List.flatten_cons, List.flatten_nil, List.append_nil, List.cons_append, List.nil_append]
  after_results
  rfl

theorem V_v12 : V m c main_v12 = shapeCast _ (m ((c : Thread nD τ).loc main_arg21) : FVec Ideal S96 .f32) shapeCasts_S96_S1x96 := by
  show after (List.flatten [hostOps0]) (fun b => m (c, b)) (Proc.devRef .tc main_v12) = _
  simp only [hostOps0, List.flatten_cons, List.flatten_nil, List.append_nil, List.cons_append, List.nil_append]
  after_results
  rfl

theorem V_v2 : V m c main_v2 = shapeCast _ (transpose S8x16x64x8 [0, 2, 1, 3] (shapeCast _ (m ((c : Thread nD τ).loc main_arg0) : FVec Ideal S8x1024x8 .f32) shapeCasts_S8x1024x8_S8x64x16x8) transposes_S8x64x16x8_S8x16x64x8_0_2_1_3) shapeCasts_S8x16x64x8_S8x16x512 := by
  show after (List.flatten [hostOps0]) (fun b => m (c, b)) (Proc.devRef .tc main_v2) = _
  simp only [hostOps0, List.flatten_cons, List.flatten_nil, List.append_nil, List.cons_append, List.nil_append]
  after_results
  rfl

theorem V_cst : V m c main_cst = fun i : S128x512.Idx => FloatOps.ofBits (F := Ideal) .f32 (lit0 (S128x512.rowMajor i)) := by
  show after (List.flatten [hostOps0]) (fun b => m (c, b)) (Proc.devRef .tc main_cst) = _
  simp only [hostOps0, List.flatten_cons, List.flatten_nil, List.append_nil, List.cons_append, List.nil_append]
  after_results
  rfl

end Patch
-- ==== Proof.KBlocks.lean ====
module

public import proofs.«01_k».proof.Proof.KEntry
public import Idealize.ShloMosaic.Lib.Pipeline.ValueKit

@[expose] public section

set_option maxRecDepth 16384

/-! # The blocks of the kernel's grid steps -/

noncomputable section

namespace Patch

open scoped BigOperators
open Idealize Idealize.ShloMosaic Idealize.ShloMosaic.TcCoe Cert.KernelIdeal Cert.KernelIdeal.Gen Idealize.ShloMosaic.StableHlo

variable (m : (ℓ : Loc nD τ sig) → Buf (Elt Ideal) ℓ) (c : Dev nD) (t : Fin cfg0.N)

theorem steps : grid0.N = 4 := by decide +kernel

theorem index0 : ∀ t : Fin grid0.N, win0_0.index t = ![t.val, 0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0, 0] := by decide +kernel
theorem index5 : ∀ t : Fin grid0.N, win0_5.index t = ![0, 0, 0] := by decide +kernel
theorem index6 : ∀ t : Fin grid0.N, win0_6.index t = ![0, 0, 0] := by decide +kernel
theorem index7 : ∀ t : Fin grid0.N, win0_7.index t = ![0, 0, 0] := by decide +kernel
theorem index8 : ∀ t : Fin grid0.N, win0_8.index t = ![0, 0, 0] := by decide +kernel
theorem index9 : ∀ t : Fin grid0.N, win0_9.index t = ![0, 0, 0] := by decide +kernel
theorem index10 : ∀ t : Fin grid0.N, win0_10.index t = ![0, 0, 0] := by decide +kernel
theorem index11 : ∀ t : Fin grid0.N, win0_11.index t = ![0, 0, 0] := by decide +kernel
theorem index12 : ∀ t : Fin grid0.N, win0_12.index t = ![0, 0, 0] := by decide +kernel
theorem index13 : ∀ t : Fin grid0.N, win0_13.index t = ![0, 0, 0] := by decide +kernel
theorem index14 : ∀ t : Fin grid0.N, win0_14.index t = ![0, 0, 0] := by decide +kernel
theorem index15 : ∀ t : Fin grid0.N, win0_15.index t = ![0, 0, 0] := by decide +kernel
theorem index16 : ∀ t : Fin grid0.N, win0_16.index t = ![0, 0, 0] := by decide +kernel
theorem index17 : ∀ t : Fin grid0.N, win0_17.index t = ![0, 0, 0] := by decide +kernel
theorem index18 : ∀ t : Fin grid0.N, win0_18.index t = ![0, 0, 0] := by decide +kernel
theorem index19 : ∀ t : Fin grid0.N, win0_19.index t = ![0, 0] := by decide +kernel
theorem index20 : ∀ t : Fin grid0.N, win0_20.index t = ![t.val, 0, 0] := by decide +kernel

/-- The batch entry a step's block holds at place `i`. -/
def entry (t : Fin cfg0.N) (i : Fin 2) : Fin 8 := ⟨2 * t.val + i.val, by have h : t.val < 4 := lt_of_lt_of_eq t.isLt steps; omega⟩

theorem block1 (d : Fin 16) (e : Fin 128) : iblk m c 1 t (ix2 d e) = (m ((c : Thread nD τ).loc main_arg4) : FVec Ideal S16x128 .f32) (ix2 d e) := by
  blk_ext [iblk, V, index1 t]

theorem block4 (l : Fin 2) (d : Fin 128) (e : Fin 128) : iblk m c 4 t (ix3 l d e) = (m ((c : Thread nD τ).loc main_arg6) : FVec Ideal S2x128x128 .f32) (ix3 l d e) := by
  blk_ext [iblk, V, index4 t]

theorem block5 (l : Fin 2) (d : Fin 128) (e : Fin 128) : iblk m c 5 t (ix3 l d e) = (m ((c : Thread nD τ).loc main_arg7) : FVec Ideal S2x128x128 .f32) (ix3 l d e) := by
  blk_ext [iblk, V, index5 t]

theorem block6 (l : Fin 2) (d : Fin 128) (e : Fin 128) : iblk m c 6 t (ix3 l d e) = (m ((c : Thread nD τ).loc main_arg8) : FVec Ideal S2x128x128 .f32) (ix3 l d e) := by
  blk_ext [iblk, V, index6 t]

theorem block7 (l : Fin 2) (d : Fin 128) (e : Fin 128) : iblk m c 7 t (ix3 l d e) = (m ((c : Thread nD τ).loc main_arg9) : FVec Ideal S2x128x128 .f32) (ix3 l d e) := by
  blk_ext [iblk, V, index7 t]

theorem block8 (l : Fin 2) (d : Fin 128) (e : Fin 3) : iblk m c 8 t (ix3 l d e) = (m ((c : Thread nD τ).loc main_arg10) : FVec Ideal S2x128x3 .f32) (ix3 l d e) := by
  blk_ext [iblk, V, index8 t]

theorem block12 (l : Fin 2) (d : Fin 128) (e : Fin 256) : iblk m c 12 t (ix3 l d e) = (m ((c : Thread nD τ).loc main_arg14) : FVec Ideal S2x128x256 .f32) (ix3 l d e) := by
  blk_ext [iblk, V, index12 t]

theorem block14 (l : Fin 2) (d : Fin 256) (e : Fin 128) : iblk m c 14 t (ix3 l d e) = (m ((c : Thread nD τ).loc main_arg16) : FVec Ideal S2x256x128 .f32) (ix3 l d e) := by
  blk_ext [iblk, V, index14 t]

theorem block9 (l : Fin 2) (d : Fin 3) : iblk m c 9 t (ix3 l d 0) = (m ((c : Thread nD τ).loc main_arg11) : FVec Ideal S2x3 .f32) (ix2 l d) := by
  show V m c main_v4 (((cfg0.win 9).blk t).view.emb (ix3 l d 0)) = _
  rw [V_v4]
  blk_simp
  pointwise
  blk_ext [index9 t]

theorem block10 (l : Fin 2) (d : Fin 128) : iblk m c 10 t (ix3 l d 0) = (m ((c : Thread nD τ).loc main_arg12) : FVec Ideal S2x128 .f32) (ix2 l d) := by
  show V m c main_v5 (((cfg0.win 10).blk t).view.emb (ix3 l d 0)) = _
  rw [V_v5]
  blk_simp
  pointwise
  blk_ext [index10 t]

theorem block11 (l : Fin 2) (d : Fin 128) : iblk m c 11 t (ix3 l d 0) = (m ((c : Thread nD τ).loc main_arg13) : FVec Ideal S2x128 .f32) (ix2 l d) := by
  show V m c main_v6 (((cfg0.win 11).blk t).view.emb (ix3 l d 0)) = _
  rw [V_v6]
  blk_simp
  pointwise
  blk_ext [index11 t]

theorem block13 (l : Fin 2) (d : Fin 256) : iblk m c 13 t (ix3 l d 0) = (m ((c : Thread nD τ).loc main_arg15) : FVec Ideal S2x256 .f32) (ix2 l d) := by
  show V m c main_v7 (((cfg0.win 13).blk t).view.emb (ix3 l d 0)) = _
  rw [V_v7]
  blk_simp
  pointwise
  blk_ext [index13 t]

theorem block15 (l : Fin 2) (d : Fin 128) : iblk m c 15 t (ix3 l d 0) = (m ((c : Thread nD τ).loc main_arg17) : FVec Ideal S2x128 .f32) (ix2 l d) := by
  show V m c main_v8 (((cfg0.win 15).blk t).view.emb (ix3 l d 0)) = _
  rw [V_v8]
  blk_simp
  pointwise
  blk_ext [index15 t]

theorem block16 (l : Fin 2) (d : Fin 128) : iblk m c 16 t (ix3 l d 0) = (m ((c : Thread nD τ).loc main_arg18) : FVec Ideal S2x128 .f32) (ix2 l d) := by
  show V m c main_v9 (((cfg0.win 16).blk t).view.emb (ix3 l d 0)) = _
  rw [V_v9]
  blk_simp
  pointwise
  blk_ext [index16 t]

theorem block17 (l : Fin 2) (d : Fin 128) : iblk m c 17 t (ix3 l d 0) = (m ((c : Thread nD τ).loc main_arg19) : FVec Ideal S2x128 .f32) (ix2 l d) := by
  show V m c main_v10 (((cfg0.win 17).blk t).view.emb (ix3 l d 0)) = _
  rw [V_v10]
  blk_simp
  pointwise
  blk_ext [index17 t]

theorem block2 (d : Fin 128) : iblk m c 2 t (ix2 d 0) = (m ((c : Thread nD τ).loc main_arg5) : FVec Ideal S128 .f32) (ix1 d) := by
  show V m c main_v3 (((cfg0.win 2).blk t).view.emb (ix2 d 0)) = _
  rw [V_v3]
  blk_simp
  pointwise
  blk_ext [index2 t]

theorem block19 (p : Fin 96) : iblk m c 19 t (ix2 0 p) = (m ((c : Thread nD τ).loc main_arg21) : FVec Ideal S96 .f32) (ix1 p) := by
  show V m c main_v12 (((cfg0.win 19).blk t).view.emb (ix2 0 p)) = _
  rw [V_v12]
  blk_simp
  pointwise
  blk_ext [index19 t]

theorem rows_at (a : FVec Ideal S8192x96 .f32) (n : Fin 64) (d : Fin 128) (p : Fin 96) :
    shapeCast S64x128x96 a shapeCasts_S8192x96_S64x128x96 (ix3 n d p) = a (ix2 ⟨n.val * 128 + d.val, by omega⟩ p) := by
  pointwise

theorem patches_at (a : FVec Ideal S8x1024x8 .f32) (b : Fin 8) (j : Fin 16) (k : Fin 512) :
    shapeCast S8x16x512 (transpose S8x16x64x8 [0, 2, 1, 3] (shapeCast S8x64x16x8 a shapeCasts_S8x1024x8_S8x64x16x8) transposes_S8x64x16x8_S8x16x64x8_0_2_1_3) shapeCasts_S8x16x64x8_S8x16x512 (ix3 b j k)
      = a (ix3 b (step (patch (place k)) j) (chan (place k))) := by
  pointwise
  refine congrArg a ?_
  congr 1 <;> (apply Fin.ext; simp only [step, patch, chan, place, Equiv.coe_fn_mk]; omega)

theorem emb18 (n : Fin 64) (d : Fin 128) (p : Fin 96) : ((cfg0.win 18).blk t).view.emb (ix3 n d p) = (ix3 n d p : S64x128x96.Idx) := by
  blk_ext [index18 t]

theorem emb0 (i : Fin 2) (j : Fin 16) (k : Fin 512) : ((cfg0.win 0).blk t).view.emb (ix3 i j k) = (ix3 (entry t i) j k : S8x16x512.Idx) := by
  blk_ext [index0 t, entry]

theorem emb3 (d : Fin 128) (k : Fin 512) : ((cfg0.win 3).blk t).view.emb (ix2 d k) = (ix2 d k : S128x512.Idx) := by
  blk_ext [index3 t]

theorem block18 (n : Fin 64) (d : Fin 128) (p : Fin 96) : iblk m c 18 t (ix3 n d p) = (m ((c : Thread nD τ).loc main_arg20) : FVec Ideal S8192x96 .f32) (ix2 ⟨n.val * 128 + d.val, by omega⟩ p) := by
  have h : V m c main_v11 (((cfg0.win 18).blk t).view.emb (ix3 n d p)) = _ := congrArg (V m c main_v11) (emb18 t n d p)
  exact h.trans ((congrFun (V_v11 m c) _).trans (rows_at _ n d p))

theorem block0 (i : Fin 2) (j : Fin 16) (k : Fin 512) : iblk m c 0 t (ix3 i j k)
    = (m ((c : Thread nD τ).loc main_arg0) : FVec Ideal S8x1024x8 .f32) (ix3 (entry t i) (step (patch (place k)) j) (chan (place k))) := by
  have h : V m c main_v2 (((cfg0.win 0).blk t).view.emb (ix3 i j k)) = _ := congrArg (V m c main_v2) (emb0 t i j k)
  exact h.trans ((congrFun (V_v2 m c) _).trans (patches_at _ _ j k))

/-- The position table, in the order of the kernel's tokens. -/
def kTable : FVec Ideal S128x512 .f32 := fun i => FloatOps.ofBits .f32 (lit0 (S128x512.rowMajor i))

theorem block3 (d : Fin 128) (k : Fin 512) : iblk m c 3 t (ix2 d k) = kTable (ix2 d k) := by
  have h : V m c main_cst (((cfg0.win 3).blk t).view.emb (ix2 d k)) = _ := congrArg (V m c main_cst) (emb3 t d k)
  exact h.trans (congrFun (V_cst m c) _)

end Patch
-- ==== Proof.RStage.lean ====
module

public import proofs.«01_k».proof.Proof.Gen.ReferenceIdeal.Run
public import proofs.«01_k».proof.Proof.Reals

@[expose] public section

set_option maxRecDepth 16384

/-! # The reference's stages, named -/

noncomputable section

namespace Patch.Ref

open Idealize Idealize.ShloMosaic Cert.ReferenceIdeal Cert.ReferenceIdeal.Gen Cert.ReferenceIdeal.Value

abbrev A128 := FVec Ideal S8x512x128 .f32
abbrev A256 := FVec Ideal S8x512x256 .f32
abbrev A3 := FVec Ideal S8x512x3 .f32
abbrev A1 := FVec Ideal S8x512x1 .f32
abbrev H3 := FVec Ideal S8x512x3x3 .f32
abbrev H16 := FVec Ideal S8x8x512x16 .f32
abbrev Sc := FVec Ideal S8x8x512x512 .f32

/-! ## Small pieces -/

def zero0 : FVec Ideal S_ .f32 := constant S_ .f32 0x00000000#32

/-- Features against a matrix. -/
def rApp (x : A128) (w : FVec Ideal S128x128 .f32) : A128 :=
  Host.dotGeneral dot_S8x512x128_S128x128_S8x512x128_2_0_01_1_n_n none x w

/-- The features split into heads. -/
def rSplit (x : A128) : H16 :=
  transpose S8x8x512x16 [0, 2, 1, 3] (shapeCast _ x shapeCasts_S8x512x128_S8x512x8x16) transposes_S8x512x8x16_S8x8x512x16_0_2_1_3

/-- The mean over the features. -/
def rMean (y : A128) : A1 :=
  Host.divf (broadcastInDim S8x512x1 ![0, 1] bcast_S8x512_S8x512x1_0_1 (Host.reduceAdd y (constant S_ .f32 0x00000000#32) reducesTo_S8x512x128_S8x512_d2 h_S_)) (broadcastInDim S8x512x1 ![] bcast_S_S8x512x1 (constant S_ .f32 0x43000000#32))

def rCenter (y : A128) (m : A1) : A128 := subf y (broadcastInDim S8x512x128 ![0, 1, 2] bcast_S8x512x1_S8x512x128_0_1_2 m)

def rDev (y : A128) : A1 :=
  Host.sqrt (addf (rMean (mulf y y)) (broadcastInDim S8x512x1 ![] bcast_S_S8x512x1 (constant S_ .f32 0x3727C5AC#32)))

def rVec (g : FVec Ideal S128 .f32) : A128 :=
  broadcastInDim S8x512x128 ![0, 1, 2] bcast_S1x1x128_S8x512x128_0_1_2 (broadcastInDim S1x1x128 ![2] bcast_S128_S1x1x128_2 g)

/-- Layer normalisation. -/
def rNorm (y : A128) (g b : FVec Ideal S128 .f32) : A128 :=
  addf (mulf (Host.divf (rCenter y (rMean y)) (broadcastInDim S8x512x128 ![0, 1, 2] bcast_S8x512x1_S8x512x128_0_1_2 (rDev (rCenter y (rMean y))))) (rVec g)) (rVec b)

/-! ## The router -/

def rLogits (x : A128) (w : FVec Ideal S128x3 .f32) (b : FVec Ideal S3 .f32) : A3 :=
  addf (Host.dotGeneral dot_S8x512x128_S128x3_S8x512x3_2_0_01_1_n_n none x w) (broadcastInDim S8x512x3 ![0, 1, 2] bcast_S1x1x3_S8x512x3_0_1_2 (broadcastInDim S1x1x3 ![2] bcast_S3_S1x1x3_2 b))

def rExp3 (l : A3) : A3 :=
  Host.exp (subf l (broadcastInDim S8x512x3 ![0, 1, 2] bcast_S8x512x1_S8x512x3_0_1_2 (broadcastInDim S8x512x1 ![0, 1] bcast_S8x512_S8x512x1_0_1 (maximumf (broadcastInDim S8x512 ![] bcast_S_S8x512 (constant S_ .f32 0xFF800000#32)) (Host.reduce FloatOps.maximumf l (constant S_ .f32 0xFF800000#32) reducesTo_S8x512x3_S8x512_d2 h_S_)))))

def rSum3 (e : A3) : A1 :=
  broadcastInDim S8x512x1 ![0, 1] bcast_S8x512_S8x512x1_0_1 (Host.reduceAdd e (constant S_ .f32 0x00000000#32) reducesTo_S8x512x3_S8x512_d2 h_S_)

def rSoft3 (e : A3) : A3 := Host.divf e (broadcastInDim S8x512x3 ![0, 1, 2] bcast_S8x512x1_S8x512x3_0_1_2 (rSum3 e))

/-- The experts' numbers in decreasing order of probability. -/
def rOrder (p : A3) : IVec S8x512x3 32 := (Host.sort2 S8x512x3 2 comparator_f32_i32_d2 (Host.negf p) (iotaInDim S8x512x3 32 2)).2

/-- One where the expert at a rank is a given one. -/
def rHot (o : IVec S8x512x3 32) : H3 :=
  uitofp .f32 (cmpi .eq (broadcastInDim S8x512x3x3 ![0, 1, 2, 3] bcast_S8x512x3x1_S8x512x3x3_0_1_2_3 (broadcastInDim S8x512x3x1 ![0, 1, 2] bcast_S8x512x3_S8x512x3x1_0_1_2 o)) (broadcastInDim S8x512x3x3 ![0, 1, 2, 3] bcast_S1x1x1x3_S8x512x3x3_0_1_2_3 (broadcastInDim S1x1x1x3 ![3] bcast_S3_S1x1x1x3_3 (iotaInDim S3 32 0))))

/-- A row given to every rank. -/
def rRows (p : A3) : H3 :=
  broadcastInDim S8x512x3x3 ![0, 1, 2, 3] bcast_S8x512x1x3_S8x512x3x3_0_1_2_3 (broadcastInDim S8x512x1x3 ![0, 1, 3] bcast_S8x512x3_S8x512x1x3_0_1_3 p)

def rLast (h : H3) : A3 := Host.reduceAdd h (constant S_ .f32 0x00000000#32) reducesTo_S8x512x3x3_S8x512x3_d3 h_S_

def rTri : H3 :=
  broadcastInDim S8x512x3x3 ![0, 1, 2, 3] bcast_S1x1x3x3_S8x512x3x3_0_1_2_3 (broadcastInDim S1x1x3x3 ![2, 3] bcast_S3x3_S1x1x3x3_2_3 (uitofp .f32 (cmpi .slt (iotaInDim S3x3 32 1) (iotaInDim S3x3 32 0))))

/-- One at the ranks before which less than half the mass lies. -/
def rBelow (s : A3) : A3 := uitofp .f32 (cmpf .olt s (broadcastInDim S8x512x3 ![] bcast_S_S8x512x3 (constant S_ .f32 0x3F000000#32)))

/-- Ranks back to experts. -/
def rBack (h : H3) (k : A3) : A3 :=
  Host.reduceAdd (mulf h (broadcastInDim S8x512x3x3 ![0, 1, 2, 3] bcast_S8x512x3x1_S8x512x3x3_0_1_2_3 (broadcastInDim S8x512x3x1 ![0, 1, 2] bcast_S8x512x3_S8x512x3x1_0_1_2 k))) (constant S_ .f32 0x00000000#32) reducesTo_S8x512x3x3_S8x512x3_d2 h_S_

def rKept (p : A3) (h : H3) : A3 := mulf p (rBack h (rBelow (rLast (mulf (rRows (rLast (mulf h (rRows p)))) rTri))))

def rWgt (k : A3) : A3 :=
  Host.divf k (broadcastInDim S8x512x3 ![0, 1, 2] bcast_S8x512x1_S8x512x3_0_1_2 (addf (rSum3 k) (broadcastInDim S8x512x1 ![] bcast_S_S8x512x1 (constant S_ .f32 0x3089705F#32))))

def rEdge (w : A3) (masks : FVec Ideal S512x3x512 .f32) (eye : FVec Ideal S512x512 .f32) : FVec Ideal S8x512x512 .f32 :=
  addf (transpose S8x512x512 [1, 0, 2] (Host.dotGeneral dot_S8x512x3_S512x3x512_S512x8x512_2_1_0_2_1_0 none w masks) transposes_S512x8x512_S8x512x512_1_0_2) (broadcastInDim S8x512x512 ![0, 1, 2] bcast_S1x512x512_S8x512x512_0_1_2 (broadcastInDim S1x512x512 ![1, 2] bcast_S512x512_S1x512x512_1_2 eye))

/-! ## Attention -/

def rScore (q k : H16) : Sc :=
  Host.divf (Host.dotGeneral dot_S8x8x512x16_S8x8x512x16_S8x8x512x512_3_3_2_2_01_01 none q k) (broadcastInDim S8x8x512x512 ![] bcast_S_S8x8x512x512 (constant S_ .f32 0x40800000#32))

def rMask (a : FVec Ideal S8x512x512 .f32) (s : Sc) : Sc :=
  select (broadcastInDim S8x8x512x512 ![0, 1, 2, 3] bcast_S8x1x512x512_S8x8x512x512_0_1_2_3 (cmpf .ogt (broadcastInDim S8x1x512x512 ![0, 2, 3] bcast_S8x512x512_S8x1x512x512_0_2_3 a) (broadcastInDim S8x1x512x512 ![] bcast_S_S8x1x512x512 (constant S_ .f32 0x00000000#32)))) s (broadcastInDim S8x8x512x512 ![] bcast_S_S8x8x512x512 (id (constant S_ .f32 0xCE6E6B28#32)))

def rSpread (r : FVec Ideal S8x8x512 .f32) : FVec Ideal S8x8x512x1 .f32 := broadcastInDim S8x8x512x1 ![0, 1, 2] bcast_S8x8x512_S8x8x512x1_0_1_2 r
def rFill (r : FVec Ideal S8x8x512x1 .f32) : Sc := broadcastInDim S8x8x512x512 ![0, 1, 2, 3] bcast_S8x8x512x1_S8x8x512x512_0_1_2_3 r
def rSumK (t : Sc) : FVec Ideal S8x8x512 .f32 := Host.reduceAdd t (constant S_ .f32 0x00000000#32) reducesTo_S8x8x512x512_S8x8x512_d3 h_S_
def rTopK (t : Sc) : FVec Ideal S8x8x512 .f32 := Host.reduce FloatOps.maximumf t (constant S_ .f32 0xFF800000#32) reducesTo_S8x8x512x512_S8x8x512_d3 h_S_

def rExp4 (c : Sc) : Sc :=
  Host.exp (subf c (rFill (rSpread (maximumf (broadcastInDim S8x8x512 ![] bcast_S_S8x8x512 (constant S_ .f32 0xFF800000#32)) (rTopK c)))))

def rWeigh (e : Sc) (a : FVec Ideal S8x512x512 .f32) : Sc :=
  mulf (Host.divf e (rFill (rSpread (rSumK e)))) (broadcastInDim S8x8x512x512 ![0, 1, 2, 3] bcast_S8x1x512x512_S8x8x512x512_0_1_2_3 (broadcastInDim S8x1x512x512 ![0, 2, 3] bcast_S8x512x512_S8x1x512x512_0_2_3 a))

def rGuard (t : Sc) : Sc :=
  Host.divf t (rFill (addf (rSpread (rSumK t)) (mulf (broadcastInDim S8x8x512x1 ![] bcast_S_S8x8x512x1 (constant S_ .f32 0x3089705F#32)) (rSpread (rTopK t)))))

def rMix (t : Sc) (v : H16) : H16 := Host.dotGeneral dot_S8x8x512x512_S8x8x512x16_S8x8x512x16_3_2_2_3_01_01 none t v

def rJoin (o : H16) : A128 :=
  shapeCast _ (transpose S8x512x8x16 [0, 2, 1, 3] o transposes_S8x8x512x16_S8x512x8x16_0_2_1_3) shapeCasts_S8x512x8x16_S8x512x128

/-! ## The feed-forward block -/

def rPre (y : A128) (w1 : FVec Ideal S128x256 .f32) (b1 : FVec Ideal S256 .f32) : A256 :=
  addf (Host.dotGeneral dot_S8x512x128_S128x256_S8x512x256_2_0_01_1_n_n none y w1) (broadcastInDim S8x512x256 ![0, 1, 2] bcast_S1x1x256_S8x512x256_0_1_2 (broadcastInDim S1x1x256 ![2] bcast_S256_S1x1x256_2 b1))

def rGate (u : A256) : A256 :=
  mulf u (mulf (broadcastInDim S8x512x256 ![] bcast_S_S8x512x256 (constant S_ .f32 0x3F000000#32)) (addf (broadcastInDim S8x512x256 ![] bcast_S_S8x512x256 (constant S_ .f32 0x3F800000#32)) (Host.tanh (mulf (broadcastInDim S8x512x256 ![] bcast_S_S8x512x256 (constant S_ .f32 0x3F4C422A#32)) (addf u (mulf (broadcastInDim S8x512x256 ![] bcast_S_S8x512x256 (constant S_ .f32 0x3D372713#32)) (mulf (mulf u u) u)))))))

def rFfn (y : A128) (g : A256) (w2 : FVec Ideal S256x128 .f32) (b2 : FVec Ideal S128 .f32) : A128 :=
  addf y (addf (Host.dotGeneral dot_S8x512x256_S256x128_S8x512x128_2_0_01_1_n_n none g w2) (rVec b2))

/-! ## A layer -/

def rEdges (x : A128) (w : FVec Ideal S128x3 .f32) (b : FVec Ideal S3 .f32) (masks : FVec Ideal S512x3x512 .f32) (eye : FVec Ideal S512x512 .f32) : FVec Ideal S8x512x512 .f32 :=
  rEdge (rWgt (rKept (rSoft3 (rExp3 (rLogits x w b))) (rHot (rOrder (rSoft3 (rExp3 (rLogits x w b))))))) masks eye

def rHeads (a : FVec Ideal S8x512x512 .f32) (q k v : H16) : H16 := rMix (rGuard (rWeigh (rExp4 (rMask a (rScore q k))) a)) v

def rMid0 (x : A128) (a : FVec Ideal S8x512x512 .f32) (wq wk wv wo : FVec Ideal S128x128 .f32) : A128 :=
  addf x (rApp (rJoin (rHeads a (rSplit (rApp x wq)) (rSplit (rApp x wk)) (rSplit (rApp x wv)))) wo)

def rLayer (masks : FVec Ideal S512x3x512 .f32) (eye : FVec Ideal S512x512 .f32) (x : A128) (wq wk wv wo : FVec Ideal S128x128 .f32)
    (w : FVec Ideal S128x3 .f32) (b : FVec Ideal S3 .f32) (g1 c1 : FVec Ideal S128 .f32) (w1 : FVec Ideal S128x256 .f32)
    (b1 : FVec Ideal S256 .f32) (w2 : FVec Ideal S256x128 .f32) (b2 g2 c2 : FVec Ideal S128 .f32) : A128 :=
  let y := rNorm (rMid0 x (rEdges x w b masks eye) wq wk wv wo) g1 c1
  rNorm (rFfn y (rGate (rPre y w1 b1)) w2 b2) g2 c2

/-! ## Statistics, embedding and forecast -/

def rMeanX (x : FVec Ideal S8x1024x8 .f32) : FVec Ideal S8x1x8 .f32 :=
  Host.divf (broadcastInDim S8x1x8 ![0, 2] bcast_S8x8_S8x1x8_0_2 (Host.reduceAdd x (constant S_ .f32 0x00000000#32) reducesTo_S8x1024x8_S8x8_d1 h_S_)) (broadcastInDim S8x1x8 ![] bcast_S_S8x1x8 (constant S_ .f32 0x44800000#32))

def rCenterX (x : FVec Ideal S8x1024x8 .f32) : FVec Ideal S8x1024x8 .f32 :=
  subf x (broadcastInDim S8x1024x8 ![0, 1, 2] bcast_S8x1x8_S8x1024x8_0_1_2 (rMeanX x))

def rDevX (x : FVec Ideal S8x1024x8 .f32) : FVec Ideal S8x1x8 .f32 :=
  Host.sqrt (addf (rMeanX (mulf (rCenterX x) (rCenterX x))) (broadcastInDim S8x1x8 ![] bcast_S_S8x1x8 (constant S_ .f32 0x3727C5AC#32)))

def rPatches (x : FVec Ideal S8x1024x8 .f32) : FVec Ideal S8x512x16 .f32 :=
  shapeCast _ (shapeCast _ (transpose S8x8x1024 [0, 2, 1] x transposes_S8x1024x8_S8x8x1024_0_2_1) shapeCasts_S8x8x1024_S8x8192) shapeCasts_S8x8192_S8x512x16

def rEmbed (x : FVec Ideal S8x1024x8 .f32) (w : FVec Ideal S16x128 .f32) (b : FVec Ideal S128 .f32) (pe : FVec Ideal S512x128 .f32) : A128 :=
  addf (addf (Host.dotGeneral dot_S8x512x16_S16x128_S8x512x128_2_0_01_1_n_n none (rPatches (Host.divf (rCenterX x) (broadcastInDim S8x1024x8 ![0, 1, 2] bcast_S8x1x8_S8x1024x8_0_1_2 (rDevX x)))) w) (rVec b)) (broadcastInDim S8x512x128 ![0, 1, 2] bcast_S1x512x128_S8x512x128_0_1_2 (broadcastInDim S1x512x128 ![1, 2] bcast_S512x128_S1x512x128_1_2 pe))

def rFore (z : A128) (hw : FVec Ideal S8192x96 .f32) (hb : FVec Ideal S96 .f32) (mean dev : FVec Ideal S8x1x8 .f32) : FVec Ideal S8x96x8 .f32 :=
  addf (mulf (transpose S8x96x8 [0, 2, 1] (addf (Host.dotGeneral dot_S8x8x8192_S8192x96_S8x8x96_2_0_01_1_n_n none (shapeCast _ (shapeCast _ z shapeCasts_S8x512x128_S8x8x64x128) shapeCasts_S8x8x64x128_S8x8x8192) hw) (broadcastInDim S8x8x96 ![0, 1, 2] bcast_S1x1x96_S8x8x96_0_1_2 (broadcastInDim S1x1x96 ![2] bcast_S96_S1x1x96_2 hb))) transposes_S8x8x96_S8x96x8_0_2_1) (broadcastInDim S8x96x8 ![0, 1, 2] bcast_S8x1x8_S8x96x8_0_1_2 dev)) (broadcastInDim S8x96x8 ![0, 1, 2] bcast_S8x1x8_S8x96x8_0_1_2 mean)

/-! ## Slices of the weights -/

def rSq0 (w : FVec Ideal S2x128x128 .f32) : FVec Ideal S128x128 .f32 := shapeCast _ (extractStridedSlice S1x128x128 ![0, 0, 0] w slices_S2x128x128_S1x128x128_0_0_0) shapeCasts_S1x128x128_S128x128
def rSq1 (w : FVec Ideal S2x128x128 .f32) : FVec Ideal S128x128 .f32 := shapeCast _ (extractStridedSlice S1x128x128 ![1, 0, 0] w slices_S2x128x128_S1x128x128_1_0_0) shapeCasts_S1x128x128_S128x128
def rSqR0 (w : FVec Ideal S2x128x3 .f32) : FVec Ideal S128x3 .f32 := shapeCast _ (extractStridedSlice S1x128x3 ![0, 0, 0] w slices_S2x128x3_S1x128x3_0_0_0) shapeCasts_S1x128x3_S128x3
def rSqR1 (w : FVec Ideal S2x128x3 .f32) : FVec Ideal S128x3 .f32 := shapeCast _ (extractStridedSlice S1x128x3 ![1, 0, 0] w slices_S2x128x3_S1x128x3_1_0_0) shapeCasts_S1x128x3_S128x3
def rSqB0 (w : FVec Ideal S2x3 .f32) : FVec Ideal S3 .f32 := shapeCast _ (extractStridedSlice S1x3 ![0, 0] w slices_S2x3_S1x3_0_0) shapeCasts_S1x3_S3
def rSqB1 (w : FVec Ideal S2x3 .f32) : FVec Ideal S3 .f32 := shapeCast _ (extractStridedSlice S1x3 ![1, 0] w slices_S2x3_S1x3_1_0) shapeCasts_S1x3_S3
def rSqC0 (w : FVec Ideal S2x128 .f32) : FVec Ideal S128 .f32 := shapeCast _ (extractStridedSlice S1x128 ![0, 0] w slices_S2x128_S1x128_0_0) shapeCasts_S1x128_S128
def rSqC1 (w : FVec Ideal S2x128 .f32) : FVec Ideal S128 .f32 := shapeCast _ (extractStridedSlice S1x128 ![1, 0] w slices_S2x128_S1x128_1_0) shapeCasts_S1x128_S128
def rSqU0 (w : FVec Ideal S2x128x256 .f32) : FVec Ideal S128x256 .f32 := shapeCast _ (extractStridedSlice S1x128x256 ![0, 0, 0] w slices_S2x128x256_S1x128x256_0_0_0) shapeCasts_S1x128x256_S128x256
def rSqU1 (w : FVec Ideal S2x128x256 .f32) : FVec Ideal S128x256 .f32 := shapeCast _ (extractStridedSlice S1x128x256 ![1, 0, 0] w slices_S2x128x256_S1x128x256_1_0_0) shapeCasts_S1x128x256_S128x256
def rSqV0 (w : FVec Ideal S2x256 .f32) : FVec Ideal S256 .f32 := shapeCast _ (extractStridedSlice S1x256 ![0, 0] w slices_S2x256_S1x256_0_0) shapeCasts_S1x256_S256
def rSqV1 (w : FVec Ideal S2x256 .f32) : FVec Ideal S256 .f32 := shapeCast _ (extractStridedSlice S1x256 ![1, 0] w slices_S2x256_S1x256_1_0) shapeCasts_S1x256_S256
def rSqD0 (w : FVec Ideal S2x256x128 .f32) : FVec Ideal S256x128 .f32 := shapeCast _ (extractStridedSlice S1x256x128 ![0, 0, 0] w slices_S2x256x128_S1x256x128_0_0_0) shapeCasts_S1x256x128_S256x128
def rSqD1 (w : FVec Ideal S2x256x128 .f32) : FVec Ideal S256x128 .f32 := shapeCast _ (extractStridedSlice S1x256x128 ![1, 0, 0] w slices_S2x256x128_S1x256x128_1_0_0) shapeCasts_S1x256x128_S256x128

end Patch.Ref
-- ==== Proof.RTie.lean ====
module

public import proofs.«01_k».proof.Proof.RStage

@[expose] public section

set_option maxRecDepth 16384

/-! # The reference's value as its stages -/

noncomputable section

namespace Patch.Ref

open Idealize Idealize.ShloMosaic Idealize.ShloMosaic.StableHlo Cert.ReferenceIdeal Cert.ReferenceIdeal.Gen Cert.ReferenceIdeal.Value

variable (V : Valuation τ sig (Elt Ideal))

theorem t65 : res_main_v65 V = rLogits (res_main_v57 V) (rSqR0 (V (Proc.devRef .tc main_arg10))) (rSqB0 (V (Proc.devRef .tc main_arg11))) := rfl
theorem t72 : res_main_v72 V = rExp3 (res_main_v65 V) := rfl
theorem t76 : res_main_v76 V = rSoft3 (res_main_v72 V) := rfl
theorem t85 : res_main_v85 V = rHot (rOrder (res_main_v76 V)) := rfl
theorem t107 : res_main_v107 V = rKept (res_main_v76 V) (res_main_v85 V) := rfl
theorem t118 : res_main_v118 V = rEdge (rWgt (res_main_v107 V)) (res_main_v27 V) (res_main_v19 V) := rfl
theorem t140 : res_main_v140 V = rMask (res_main_v118 V) (rScore (rSplit (rApp (res_main_v57 V) (rSq0 (V (Proc.devRef .tc main_arg6))))) (rSplit (rApp (res_main_v57 V) (rSq0 (V (Proc.devRef .tc main_arg7)))))) := rfl
theorem t147 : res_main_v147 V = rExp4 (res_main_v140 V) := rfl
theorem t154 : res_main_v154 V = rWeigh (res_main_v147 V) (res_main_v118 V) := rfl
theorem t170 : res_main_v170 V = addf (res_main_v57 V) (rApp (rJoin (rMix (rGuard (res_main_v154 V)) (rSplit (rApp (res_main_v57 V) (rSq0 (V (Proc.devRef .tc main_arg8))))))) (rSq0 (V (Proc.devRef .tc main_arg9)))) := rfl
theorem t178 : res_main_v178 V = rMean (res_main_v170 V) := rfl
theorem t200 : res_main_v200 V = rNorm (res_main_v170 V) (rSqC0 (V (Proc.devRef .tc main_arg12))) (rSqC0 (V (Proc.devRef .tc main_arg13))) := rfl
theorem t208 : res_main_v208 V = rPre (res_main_v200 V) (rSqU0 (V (Proc.devRef .tc main_arg14))) (rSqV0 (V (Proc.devRef .tc main_arg15))) := rfl
theorem t230 : res_main_v230 V = rFfn (res_main_v200 V) (rGate (res_main_v208 V)) (rSqD0 (V (Proc.devRef .tc main_arg16))) (rSqC0 (V (Proc.devRef .tc main_arg17))) := rfl
theorem t238 : res_main_v238 V = rMean (res_main_v230 V) := rfl
theorem t260 : res_main_v260 V = rNorm (res_main_v230 V) (rSqC0 (V (Proc.devRef .tc main_arg18))) (rSqC0 (V (Proc.devRef .tc main_arg19))) := rfl

theorem t268 : res_main_v268 V = rLogits (res_main_v260 V) (rSqR1 (V (Proc.devRef .tc main_arg10))) (rSqB1 (V (Proc.devRef .tc main_arg11))) := rfl
theorem t275 : res_main_v275 V = rExp3 (res_main_v268 V) := rfl
theorem t279 : res_main_v279 V = rSoft3 (res_main_v275 V) := rfl
theorem t288 : res_main_v288 V = rHot (rOrder (res_main_v279 V)) := rfl
theorem t310 : res_main_v310 V = rKept (res_main_v279 V) (res_main_v288 V) := rfl
theorem t321 : res_main_v321 V = rEdge (rWgt (res_main_v310 V)) (res_main_v27 V) (res_main_v19 V) := rfl
theorem t343 : res_main_v343 V = rMask (res_main_v321 V) (rScore (rSplit (rApp (res_main_v260 V) (rSq1 (V (Proc.devRef .tc main_arg6))))) (rSplit (rApp (res_main_v260 V) (rSq1 (V (Proc.devRef .tc main_arg7)))))) := rfl
theorem t350 : res_main_v350 V = rExp4 (res_main_v343 V) := rfl
theorem t357 : res_main_v357 V = rWeigh (res_main_v350 V) (res_main_v321 V) := rfl
theorem t373 : res_main_v373 V = addf (res_main_v260 V) (rApp (rJoin (rMix (rGuard (res_main_v357 V)) (rSplit (rApp (res_main_v260 V) (rSq1 (V (Proc.devRef .tc main_arg8))))))) (rSq1 (V (Proc.devRef .tc main_arg9)))) := rfl
theorem t381 : res_main_v381 V = rMean (res_main_v373 V) := rfl
theorem t403 : res_main_v403 V = rNorm (res_main_v373 V) (rSqC1 (V (Proc.devRef .tc main_arg12))) (rSqC1 (V (Proc.devRef .tc main_arg13))) := rfl
theorem t411 : res_main_v411 V = rPre (res_main_v403 V) (rSqU1 (V (Proc.devRef .tc main_arg14))) (rSqV1 (V (Proc.devRef .tc main_arg15))) := rfl
theorem t433 : res_main_v433 V = rFfn (res_main_v403 V) (rGate (res_main_v411 V)) (rSqD1 (V (Proc.devRef .tc main_arg16))) (rSqC1 (V (Proc.devRef .tc main_arg17))) := rfl
theorem t441 : res_main_v441 V = rMean (res_main_v433 V) := rfl

theorem t31 : res_main_v31 V = rMeanX (V (Proc.devRef .tc main_arg0)) := rfl
theorem t43 : res_main_v43 V = rDevX (V (Proc.devRef .tc main_arg0)) := rfl
theorem t57 : res_main_v57 V = rEmbed (V (Proc.devRef .tc main_arg0)) (V (Proc.devRef .tc main_arg4)) (V (Proc.devRef .tc main_arg5)) (fun i => FloatOps.ofBits .f32 (lit0 (S512x128.rowMajor i))) := rfl

end Patch.Ref
-- ==== Proof.RNormR.lean ====
module

public import proofs.«01_k».proof.Proof.RStage

@[expose] public section

set_option maxRecDepth 16384

/-! # The reference's stages at real numbers: products, normalisation, feed-forward -/

noncomputable section

namespace Patch.Ref

open scoped BigOperators
open Idealize Idealize.ShloMosaic Cert.ReferenceIdeal Cert.ReferenceIdeal.Gen

/-- Features of every batch entry. -/
abbrev All := Fin 8 → Fin 512 → Fin 128 → ℝ

variable (x : A128) (f : All) (hx : ∀ b q d, x (ix3 b q d) = ((f b q d : ℝ) : EReal))

include hx

theorem rApp_real (w : FVec Ideal S128x128 .f32) (W : Fin 128 → Fin 128 → ℝ)
    (hw : ∀ d e, w (ix2 d e) = ((W d e : ℝ) : EReal)) (b : Fin 8) (q : Fin 512) (e : Fin 128) :
    rApp x w (ix3 b q e) = ((app W (f b q) e : ℝ) : EReal) := by
  pointwise [rApp]
  simp only [hx, hw, ← EReal.coe_mul, coe_sum]
  rfl

theorem rSplit_real (b h : Fin 8) (q : Fin 512) (j : Fin 16) :
    rSplit x (ix4 b h q j) = ((f b q (hd h j) : ℝ) : EReal) := by
  pointwise [rSplit]
  refine Eq.trans (congrArg x ?_) (hx b q (hd h j))
  congr 1 <;> (apply Fin.ext; simp only [hd]; omega)

theorem rMean_real (b : Fin 8) (q : Fin 512) (o : Fin 1) :
    rMean x (ix3 b q o) = ((meanOf (f b q) : ℝ) : EReal) := by
  pointwise [rMean]
  simp only [hx, coe_sum, bits_128, zero_add]
  rw [div_real _ _ (by norm_num)]
  simp [meanOf]

theorem rCenter_real (b : Fin 8) (q : Fin 512) (d : Fin 128) :
    rCenter x (rMean x) (ix3 b q d) = ((f b q d - meanOf (f b q) : ℝ) : EReal) := by
  have h := rMean_real x f hx
  generalize rMean x = m at h ⊢
  pointwise [rCenter]
  rw [h, hx, EReal.coe_sub]

theorem rNorm_real (g c : FVec Ideal S128 .f32) (G C : Fin 128 → ℝ) (hg : ∀ d, g (ix1 d) = ((G d : ℝ) : EReal))
    (hc : ∀ d, c (ix1 d) = ((C d : ℝ) : EReal)) (b : Fin 8) (q : Fin 512) (d : Fin 128) :
    rNorm x g c (ix3 b q d) = ((lnorm G C (f b q) d : ℝ) : EReal) := by
  have h := rCenter_real x f hx
  have hs : ∀ b q d, mulf (rCenter x (rMean x)) (rCenter x (rMean x)) (ix3 b q d)
      = (((f b q d - meanOf (f b q)) * (f b q d - meanOf (f b q)) : ℝ) : EReal) := fun b q d => by
    rw [EReal.coe_mul, ← h]; rfl
  have ha := rMean_real _ (fun b q d => (f b q d - meanOf (f b q)) * (f b q d - meanOf (f b q))) hs
  unfold rNorm rDev
  generalize rMean (mulf (rCenter x (rMean x)) (rCenter x (rMean x))) = m at ha ⊢
  generalize rCenter x (rMean x) = y at h ⊢
  pointwise [rVec]
  have hv : ∀ b q, meanOf (fun d => (f b q d - meanOf (f b q)) * (f b q d - meanOf (f b q))) = varOf (f b q) := fun _ _ => rfl
  simp only [ha, h, hg, hc, bits_e5, ← EReal.coe_add, hv, sqrt_real _ (varOf_e5_pos _).le]
  have hd : ∀ b q, Real.sqrt (varOf (f b q) + e5) = dev (f b q) := fun _ _ => rfl
  simp only [hd, div_real _ _ (dev_pos _).ne', ← EReal.coe_mul, ← EReal.coe_add]
  rfl

theorem rPre_real (w : FVec Ideal S128x256 .f32) (c : FVec Ideal S256 .f32) (W : Fin 128 → Fin 256 → ℝ) (C : Fin 256 → ℝ)
    (hw : ∀ d e, w (ix2 d e) = ((W d e : ℝ) : EReal)) (hc : ∀ e, c (ix1 e) = ((C e : ℝ) : EReal)) (b : Fin 8)
    (q : Fin 512) (e : Fin 256) : rPre x w c (ix3 b q e) = ((app W (f b q) e + C e : ℝ) : EReal) := by
  pointwise [rPre]
  simp only [hx, hw, hc, ← EReal.coe_mul, coe_sum, ← EReal.coe_add]
  rfl

omit hx in
theorem rGate_real (u : A256) (f : Fin 8 → Fin 512 → Fin 256 → ℝ) (hu : ∀ b q e, u (ix3 b q e) = ((f b q e : ℝ) : EReal))
    (b : Fin 8) (q : Fin 512) (e : Fin 256) : rGate u (ix3 b q e) = ((gelu (f b q e) : ℝ) : EReal) := by
  pointwise [rGate]
  simp only [hu, bits_half, bits_g0, bits_g1, one_real, ← EReal.coe_mul, ← EReal.coe_add, tanh_real]
  unfold gelu
  rw [mul_assoc (f b q e) (f b q e) (f b q e)]

theorem rFfn_real (g : A256) (k : Fin 8 → Fin 512 → Fin 256 → ℝ) (hk : ∀ b q e, g (ix3 b q e) = ((k b q e : ℝ) : EReal))
    (w : FVec Ideal S256x128 .f32) (c : FVec Ideal S128 .f32) (W : Fin 256 → Fin 128 → ℝ) (C : Fin 128 → ℝ)
    (hw : ∀ d e, w (ix2 d e) = ((W d e : ℝ) : EReal)) (hc : ∀ e, c (ix1 e) = ((C e : ℝ) : EReal)) (b : Fin 8)
    (q : Fin 512) (d : Fin 128) : rFfn x g w c (ix3 b q d) = ((f b q d + (app W (k b q) d + C d) : ℝ) : EReal) := by
  pointwise [rFfn, rVec]
  simp only [hx, hk, hw, hc, ← EReal.coe_mul, coe_sum, ← EReal.coe_add]
  rfl

omit hx in
theorem rJoin_real (o : H16) (k : Fin 8 → Fin 8 → Fin 512 → Fin 16 → ℝ) (ho : ∀ b h q j, o (ix4 b h q j) = ((k b h q j : ℝ) : EReal))
    (b : Fin 8) (q : Fin 512) (e : Fin 128) :
    rJoin o (ix3 b q e) = ((k b ⟨e.val / 16, by omega⟩ q ⟨e.val % 16, by omega⟩ : ℝ) : EReal) := by
  pointwise [rJoin]
  refine Eq.trans (congrArg o ?_) (ho _ _ _ _)
  congr 1 <;> (apply Fin.ext; simp only []; omega)

end Patch.Ref
-- ==== Proof.RMaskR.lean ====
module

public import proofs.«01_k».proof.Proof.RTie
public import proofs.«01_k».proof.Proof.RNormR
public import proofs.«01_k».proof.Proof.KSel

@[expose] public section

set_option maxRecDepth 16384

/-! # The reference's three adjacency masks -/

noncomputable section

namespace Patch.Ref

open scoped BigOperators
open Idealize Idealize.ShloMosaic Idealize.ShloMosaic.StableHlo Cert.ReferenceIdeal Cert.ReferenceIdeal.Gen Cert.ReferenceIdeal.Value

variable (V : Valuation τ sig (Elt Ideal))

omit V in
theorem word_ne (a b : ℕ) (ha : a < 2 ^ 32) (hb : b < 2 ^ 32) :
    IntOp.cmpi .ne (BitVec.ofNat 32 a) (BitVec.ofNat 32 b) = BitVec.ofBool (decide (a ≠ b)) := by
  have h := word_eq a b ha hb
  change BitVec.ofBool (BitVec.ofNat 32 a == BitVec.ofNat 32 b) = _ at h
  change BitVec.ofBool (!(BitVec.ofNat 32 a == BitVec.ofNat 32 b)) = _
  have e : (BitVec.ofNat 32 a == BitVec.ofNat 32 b) = decide (a = b) := by
    cases h1 : (BitVec.ofNat 32 a == BitVec.ofNat 32 b) <;> cases h2 : decide (a = b) <;> rw [h1, h2] at h <;> first | rfl | exact absurd h (by decide)
  rw [e, decide_not]

omit V in
theorem and_flag (p q : Bool) : IntOp.andi (BitVec.ofBool p) (BitVec.ofBool q) = BitVec.ofBool (p && q) := by
  cases p <;> cases q <;> rfl

omit V in
/-- A flag as a number. -/
theorem flag_real (p : Bool) : FloatOps.uitofp (F := Ideal) FTy.f32 (BitVec.ofBool p) = ((if p then 1 else 0 : ℝ) : EReal) := by
  cases p
  · show ((((BitVec.ofBool false).toNat : ℝ)) : EReal) = _
    simp
  · show ((((BitVec.ofBool true).toNat : ℝ)) : EReal) = _
    simp

omit V in
theorem rem64_eq : ∀ t : Fin 512, IntOp.remsi ArithUnit.host (BitVec.ofNat 32 t.val) 64#32 = BitVec.ofNat 32 (t.val % 64) := by decide +kernel

omit V in
theorem quo64_eq : ∀ t : Fin 512, IntOp.divsi ArithUnit.host (BitVec.ofNat 32 t.val) 64#32 = BitVec.ofNat 32 (t.val / 64) := by decide +kernel

theorem v9_real (q k : Fin 512) :
    res_main_v9 V (ix2 q k) = ((if patch q = patch k ∧ q ≠ k then 1 else 0 : ℝ) : EReal) := by
  pointwise [res_main_v9, res_main_v0, res_main_v1]
  rw [rem64_eq, rem64_eq, word_eq _ _ (by omega) (by omega), word_ne _ _ (by omega) (by omega), and_flag, flag_real]
  congr 2
  simp only [Bool.and_eq_true, decide_eq_true_eq, patch, chan, Fin.ext_iff, ne_eq, eq_iff_iff]
  omega

theorem v17_real (q k : Fin 512) :
    res_main_v17 V (ix2 q k) = ((if chan q = chan k ∧ q ≠ k then 1 else 0 : ℝ) : EReal) := by
  pointwise [res_main_v17, res_main_v0, res_main_v1]
  rw [quo64_eq, quo64_eq, word_eq _ _ (by omega) (by omega), word_ne _ _ (by omega) (by omega), and_flag, flag_real]
  congr 2
  simp only [Bool.and_eq_true, decide_eq_true_eq, patch, chan, Fin.ext_iff, ne_eq, eq_iff_iff]
  omega

theorem v19_real (q k : Fin 512) :
    res_main_v19 V (ix2 q k) = ((if q = k then 1 else 0 : ℝ) : EReal) := by
  pointwise [res_main_v19, res_main_v0, res_main_v1]
  rw [word_eq _ _ (by omega) (by omega), flag_real]
  congr 2
  simp only [Bool.and_eq_true, decide_eq_true_eq, patch, chan, Fin.ext_iff, ne_eq, eq_iff_iff]
  omega

theorem v27_at (q k : Fin 512) (e : Fin 3) :
    res_main_v27 V (ix3 q e k) = if e = 0 then res_main_v9 V (ix2 q k) else if e = 1 then res_main_v17 V (ix2 q k) else
      ((1 : EReal) - res_main_v9 V (ix2 q k) - res_main_v17 V (ix2 q k) - res_main_v19 V (ix2 q k) : EReal) := by
  unfold res_main_v27
  pointwise
  match e with
  | 0 => rfl
  | 1 => rfl
  | 2 => rfl

theorem rEdge_real (w : A3) (masks : FVec Ideal S512x3x512 .f32) (eye : FVec Ideal S512x512 .f32) (W : Fin 8 → Fin 512 → Fin 3 → ℝ)
    (M : Fin 512 → Fin 3 → Fin 512 → ℝ) (I : Fin 512 → Fin 512 → ℝ) (hw : ∀ b q e, w (ix3 b q e) = ((W b q e : ℝ) : EReal))
    (hm : ∀ q e k, masks (ix3 q e k) = ((M q e k : ℝ) : EReal)) (hi : ∀ q k, eye (ix2 q k) = ((I q k : ℝ) : EReal))
    (b : Fin 8) (q k : Fin 512) :
    rEdge w masks eye (ix3 b q k) = ((W b q 0 * M q 0 k + W b q 1 * M q 1 k + W b q 2 * M q 2 k + I q k : ℝ) : EReal) := by
  pointwise [rEdge]
  simp only [hw, hm, hi, ← EReal.coe_mul, coe_sum, ← EReal.coe_add, Fin.sum_univ_three]

/-- The edge weights of real mixing weights. -/
theorem edge_real (w : A3) (W : Fin 8 → Fin 512 → Fin 3 → ℝ) (hw : ∀ b q e, w (ix3 b q e) = ((W b q e : ℝ) : EReal))
    (b : Fin 8) (q k : Fin 512) :
    rEdge w (res_main_v27 V) (res_main_v19 V) (ix3 b q k) = ((edge (W b q) q k : ℝ) : EReal) := by
  rw [rEdge_real w _ _ W (fun q e k => if e = 0 then (if patch q = patch k ∧ q ≠ k then 1 else 0)
    else if e = 1 then (if chan q = chan k ∧ q ≠ k then 1 else 0)
    else 1 - (if patch q = patch k ∧ q ≠ k then 1 else 0) - (if chan q = chan k ∧ q ≠ k then 1 else 0) - (if q = k then 1 else 0))
    (fun q k => if q = k then 1 else 0) hw (fun q e k => ?_) (v19_real V) b q k]
  · congr 1
    have hboth : patch q = patch k → chan q = chan k → q = k := fun h1 h2 => by
      simp only [patch, chan, Fin.ext_iff] at h1 h2 ⊢
      omega
    unfold edge
    by_cases h : q = k
    · subst h; simp
    · by_cases h1 : patch q = patch k
      · have h2 : chan q ≠ chan k := fun e => h (hboth h1 e)
        simp [h, h1, h2]
      · by_cases h2 : chan q = chan k <;> simp [h, h1, h2]
  · rw [v27_at, v9_real, v17_real, v19_real]
    split_ifs <;> first | rfl | simp only [one_real, ← EReal.coe_sub]

end Patch.Ref
-- ==== Proof.RSortR.lean ====
module

public import proofs.«01_k».proof.Proof.RMaskR
public import Idealize.ShloMosaic.Lib.SortFacts

@[expose] public section

set_option maxRecDepth 16384

/-! # The reference's sort of the three experts -/

noncomputable section

namespace Patch.Ref

open scoped BigOperators
open Idealize Idealize.ShloMosaic Cert.ReferenceIdeal Cert.ReferenceIdeal.Gen

theorem comparator_real (x y : ℝ) (i j : BitVec 32) :
    (comparator_f32_i32_d2 (F := Ideal) ((x : EReal), i) ((y : EReal), j) == 1#1) = decide (x < y) := by
  unfold comparator_f32_i32_d2
  pointwise
  simp only [ne_eq, not_true_eq_false, if_false]
  have e : ∀ z : EReal, (if z = 0 then (0 : EReal) else z) = z := fun z => by split_ifs with h <;> simp [h]
  rw [e, e]
  change (BitVec.ofBool (decide ((x : EReal) < (y : EReal))) == 1#1) = _
  have hxy : decide ((x : EReal) < (y : EReal)) = decide (x < y) := by simp only [EReal.coe_lt_coe_iff]
  rw [hxy]
  cases decide (x < y) <;> rfl

/-- A relation on three positions, from its six entries. -/
def rel (a b c d e f : Bool) (i j : Fin 3) : Bool :=
  match i, j with
  | 0, 1 => a | 0, 2 => b | 1, 0 => c | 1, 2 => d | 2, 0 => e | 2, 1 => f
  | _, _ => false

theorem rel_sorted : ∀ a b c d e f : Bool,
    (∀ i j, rel a b c d e f i j = true → rel a b c d e f j i = false) →
    (∀ i j k, rel a b c d e f i j = false → rel a b c d e f j k = false → rel a b c d e f i k = false) →
    ∀ r s, decide (r < s) = ((rel a b c d e f (sortedFrom (rel a b c d e f) r) (sortedFrom (rel a b c d e f) s))
      || (!(rel a b c d e f (sortedFrom (rel a b c d e f) r) (sortedFrom (rel a b c d e f) s)) && !(rel a b c d e f (sortedFrom (rel a b c d e f) s) (sortedFrom (rel a b c d e f) r)) && decide (sortedFrom (rel a b c d e f) r < sortedFrom (rel a b c d e f) s))) := by
  decide +kernel

/-- The expert at a rank. -/
def ranked (p : Fin 3 → ℝ) : Fin 3 → Fin 3 := sortedFrom fun i j => decide (p j < p i)

theorem ranked_ahead (p : Fin 3 → ℝ) (r s : Fin 3) : ahead p (ranked p r) (ranked p s) ↔ r < s := by
  have hR : (fun i j => decide (p j < p i)) = rel (decide (p 1 < p 0)) (decide (p 2 < p 0)) (decide (p 0 < p 1))
      (decide (p 2 < p 1)) (decide (p 0 < p 2)) (decide (p 1 < p 2)) := by
    funext i j
    match i, j with
    | 0, 1 => rfl | 0, 2 => rfl | 1, 0 => rfl | 1, 2 => rfl | 2, 0 => rfl | 2, 1 => rfl
    | 0, 0 => simp [rel] | 1, 1 => simp [rel] | 2, 2 => simp [rel]
  have h := rel_sorted (decide (p 1 < p 0)) (decide (p 2 < p 0)) (decide (p 0 < p 1))
      (decide (p 2 < p 1)) (decide (p 0 < p 2)) (decide (p 1 < p 2))
  rw [← hR] at h
  have h' := h (fun i j e => by simp only [decide_eq_true_eq, decide_eq_false_iff_not, not_lt] at e ⊢; exact e.le)
    (fun i j k e e' => by simp only [decide_eq_false_iff_not, not_lt] at e e' ⊢; exact e.trans e') r s
  have hr : sortedFrom (fun i j => decide (p j < p i)) = ranked p := rfl
  rw [hr] at h'
  rw [← decide_eq_true_iff (p := r < s), h']
  simp only [Bool.or_eq_true, Bool.and_eq_true, Bool.not_eq_true', decide_eq_true_eq, decide_eq_false_iff_not, not_lt]
  unfold ahead
  constructor
  · rintro (e | ⟨e, l⟩)
    · exact Or.inl e
    · exact Or.inr ⟨⟨e.le, e.ge⟩, l⟩
  · rintro (e | ⟨⟨e, e'⟩, l⟩)
    · exact Or.inl e
    · exact Or.inr ⟨le_antisymm e e', l⟩

/-- The ranking as a permutation. -/
def rankPerm (p : Fin 3 → ℝ) : Fin 3 ≃ Fin 3 :=
  Equiv.ofBijective (ranked p) ⟨sortedFrom_injective _, sortedFrom_surjective _⟩

theorem rankPerm_apply (p : Fin 3 → ℝ) (r : Fin 3) : rankPerm p r = ranked p r := rfl

theorem mass_ranked (p : Fin 3 → ℝ) (r : Fin 3) :
    ∑ s, p (ranked p s) * (if s < r then 1 else 0) = mass p (ranked p r) := by
  classical
  unfold mass
  conv_rhs => rw [← Equiv.sum_comp (rankPerm p)]
  refine Finset.sum_congr rfl fun s _ => ?_
  rw [rankPerm_apply]
  by_cases h : s < r
  · rw [if_pos h, if_pos ((ranked_ahead p s r).mpr h), mul_one]
  · rw [if_neg h, if_neg fun e => h ((ranked_ahead p s r).mp e), mul_zero]

theorem back_ranked (p f : Fin 3 → ℝ) (e : Fin 3) :
    ∑ r, (if ranked p r = e then 1 else 0) * f (ranked p r) = f e := by
  have h := Equiv.sum_comp (rankPerm p) fun x => (if x = e then 1 else 0) * f x
  refine Eq.trans ?_ (h.trans ?_)
  · rfl
  · simp

theorem rOrder_real (p : A3) (P : Fin 8 → Fin 512 → Fin 3 → ℝ) (hp : ∀ b q e, p (ix3 b q e) = ((P b q e : ℝ) : EReal))
    (b : Fin 8) (q : Fin 512) (r : Fin 3) : rOrder p (ix3 b q r) = BitVec.ofNat 32 (ranked (P b q) r).val := by
  have ha : ∀ (k : Fin 3), Shape.Idx.along (s := S8x512x3) (ix3 b q r) (2 : Fin 3) k = ix3 b q k := fun k => by
    funext a
    match a with
    | 0 => rfl
    | 1 => rfl
    | 2 => rfl
  have hn : ∀ k : Fin 3, Host.negf p (ix3 b q k) = ((-(P b q k) : ℝ) : EReal) := fun k => by
    pointwise
    rw [hp, EReal.coe_neg]
  unfold rOrder Host.sort2
  rw [dif_pos (by decide)]
  have hk : (fun k k' : Fin 3 => comparator_f32_i32_d2 (F := Ideal)
        (Host.negf p (Shape.Idx.along (s := S8x512x3) (ix3 b q r) (2 : Fin 3) k), iotaInDim S8x512x3 32 2 (Shape.Idx.along (s := S8x512x3) (ix3 b q r) (2 : Fin 3) k))
        (Host.negf p (Shape.Idx.along (s := S8x512x3) (ix3 b q r) (2 : Fin 3) k'), iotaInDim S8x512x3 32 2 (Shape.Idx.along (s := S8x512x3) (ix3 b q r) (2 : Fin 3) k')) == 1#1)
      = fun i j => decide (P b q j < P b q i) := by
    funext k k'
    rw [ha, ha, hn, hn, comparator_real]
    congr 1
    exact propext neg_lt_neg_iff
  exact congrArg (fun R => BitVec.ofNat 32 (sortedFrom (n := 3) R r).val) hk

end Patch.Ref
-- ==== Proof.RRouteR.lean ====
module

public import proofs.«01_k».proof.Proof.RSortR

@[expose] public section

set_option maxRecDepth 16384

/-! # The reference's router at real numbers -/

noncomputable section

namespace Patch.Ref

open scoped BigOperators
open Idealize Idealize.ShloMosaic Cert.ReferenceIdeal Cert.ReferenceIdeal.Gen

/-- Three numbers for every batch entry and token. -/
abbrev All3 := Fin 8 → Fin 512 → Fin 3 → ℝ

theorem rLogits_real (x : A128) (f : All) (hx : ∀ b q d, x (ix3 b q d) = ((f b q d : ℝ) : EReal)) (w : FVec Ideal S128x3 .f32)
    (c : FVec Ideal S3 .f32) (W : Fin 128 → Fin 3 → ℝ) (C : Fin 3 → ℝ) (hw : ∀ d e, w (ix2 d e) = ((W d e : ℝ) : EReal))
    (hc : ∀ e, c (ix1 e) = ((C e : ℝ) : EReal)) (b : Fin 8) (q : Fin 512) (e : Fin 3) :
    rLogits x w c (ix3 b q e) = ((app W (f b q) e + C e : ℝ) : EReal) := by
  pointwise [rLogits]
  simp only [hx, hw, hc, ← EReal.coe_mul, coe_sum, ← EReal.coe_add]
  rfl

/-- The largest logit of a row. -/
def rTop3 (l : A3) : FVec Ideal S8x512 .f32 := Host.reduce FloatOps.maximumf l (constant S_ .f32 0xFF800000#32) reducesTo_S8x512x3_S8x512_d2 h_S_

theorem rTop3_real (l : A3) (L : All3) (hl : ∀ b q e, l (ix3 b q e) = ((L b q e : ℝ) : EReal)) (b : Fin 8) (q : Fin 512) :
    rTop3 l (ix2 b q) = ((top (n := 2) (L b q) : ℝ) : EReal) := by
  pointwise [rTop3]
  simp only [hl, bits_bot]
  exact fold_max_real (n := 2) (L b q)

theorem exp3_at (l : A3) (m : FVec Ideal S8x512 .f32) (b : Fin 8) (q : Fin 512) (e : Fin 3) :
    Host.exp (subf l (broadcastInDim S8x512x3 ![0, 1, 2] bcast_S8x512x1_S8x512x3_0_1_2 (broadcastInDim S8x512x1 ![0, 1] bcast_S8x512_S8x512x1_0_1 (maximumf (broadcastInDim S8x512 ![] bcast_S_S8x512 (constant S_ .f32 0xFF800000#32)) m)))) (ix3 b q e)
      = Ideal.exp (l (ix3 b q e) - m (ix2 b q)) := by
  pointwise
  rw [bits_bot, max_eq_right bot_le]

theorem rExp3_real (l : A3) (L : All3) (hl : ∀ b q e, l (ix3 b q e) = ((L b q e : ℝ) : EReal)) (b : Fin 8) (q : Fin 512) (e : Fin 3) :
    rExp3 l (ix3 b q e) = ((Real.exp (L b q e - top (n := 2) (L b q)) : ℝ) : EReal) := by
  refine (exp3_at l (rTop3 l) b q e).trans ?_
  rw [rTop3_real l L hl, hl, ← EReal.coe_sub, exp_real]

theorem rSum3_real (x : A3) (X : All3) (hx : ∀ b q e, x (ix3 b q e) = ((X b q e : ℝ) : EReal)) (b : Fin 8) (q : Fin 512) (o : Fin 1) :
    rSum3 x (ix3 b q o) = ((∑ e, X b q e : ℝ) : EReal) := by
  pointwise [rSum3]
  simp only [hx, coe_sum, zero_add]

theorem soft3_at (x : A3) (m : A1) (b : Fin 8) (q : Fin 512) (e : Fin 3) :
    Host.divf x (broadcastInDim S8x512x3 ![0, 1, 2] bcast_S8x512x1_S8x512x3_0_1_2 m) (ix3 b q e) = Ideal.div (x (ix3 b q e)) (m (ix3 b q 0)) := by
  pointwise

theorem rSoft3_real (l : A3) (L : All3) (hl : ∀ b q e, l (ix3 b q e) = ((L b q e : ℝ) : EReal)) (b : Fin 8) (q : Fin 512) (e : Fin 3) :
    rSoft3 (rExp3 l) (ix3 b q e) = ((prob (L b q) e : ℝ) : EReal) := by
  unfold rSoft3
  rw [soft3_at, rSum3_real _ _ (rExp3_real l L hl), rExp3_real l L hl, div_real, prob_shift]
  exact (Finset.sum_pos (fun _ _ => Real.exp_pos _) ⟨0, Finset.mem_univ _⟩).ne'

theorem rHot_real (o : IVec S8x512x3 32) (O : Fin 8 → Fin 512 → Fin 3 → Fin 3) (ho : ∀ b q r, o (ix3 b q r) = BitVec.ofNat 32 (O b q r).val)
    (b : Fin 8) (q : Fin 512) (r e : Fin 3) : rHot o (ix4 b q r e) = ((if O b q r = e then 1 else 0 : ℝ) : EReal) := by
  pointwise [rHot]
  rw [ho, word_eq _ _ (by omega) (by omega), flag_real]
  congr 2
  simp only [decide_eq_true_eq, Fin.ext_iff, eq_iff_iff]

theorem rTri_real (b : Fin 8) (q : Fin 512) (r s : Fin 3) : rTri (ix4 b q r s) = ((if s < r then 1 else 0 : ℝ) : EReal) := by
  pointwise [rTri]
  have h : ∀ r s : Fin 3, IntOp.cmpi .slt (BitVec.ofNat 32 s.val) (BitVec.ofNat 32 r.val) = BitVec.ofBool (decide (s < r)) := by decide
  rw [h, flag_real]
  simp only [decide_eq_true_eq]

open Classical in
theorem rBelow_real (s : A3) (S : All3) (hs : ∀ b q e, s (ix3 b q e) = ((S b q e : ℝ) : EReal)) (b : Fin 8) (q : Fin 512) (e : Fin 3) :
    rBelow s (ix3 b q e) = ((if S b q e < 1 / 2 then 1 else 0 : ℝ) : EReal) := by
  pointwise [rBelow]
  rw [hs, bits_half, flag_real]
  congr 2
  simp only [decide_eq_true_eq, EReal.coe_lt_coe_iff]

/-- Numbers of every batch entry, token, rank and expert. -/
abbrev All33 := Fin 8 → Fin 512 → Fin 3 → Fin 3 → ℝ

theorem rLast_real (h : H3) (H : All33) (hh : ∀ b q r e, h (ix4 b q r e) = ((H b q r e : ℝ) : EReal)) (b : Fin 8) (q : Fin 512) (r : Fin 3) :
    rLast h (ix3 b q r) = ((∑ e, H b q r e : ℝ) : EReal) := by
  pointwise [rLast]
  simp only [hh, coe_sum, zero_add]

theorem rRows_at (p : A3) (b : Fin 8) (q : Fin 512) (r e : Fin 3) : rRows p (ix4 b q r e) = p (ix3 b q e) := by
  pointwise [rRows]

theorem rBack_real (h : H3) (k : A3) (H : All33) (K : All3) (hh : ∀ b q r e, h (ix4 b q r e) = ((H b q r e : ℝ) : EReal))
    (hk : ∀ b q r, k (ix3 b q r) = ((K b q r : ℝ) : EReal)) (b : Fin 8) (q : Fin 512) (e : Fin 3) :
    rBack h k (ix3 b q e) = ((∑ r, H b q r e * K b q r : ℝ) : EReal) := by
  pointwise [rBack]
  simp only [hh, hk, ← EReal.coe_mul, coe_sum, zero_add]

theorem rKept_real (p : A3) (P : All3) (hp : ∀ b q e, p (ix3 b q e) = ((P b q e : ℝ) : EReal)) (b : Fin 8) (q : Fin 512) (e : Fin 3) :
    rKept p (rHot (rOrder p)) (ix3 b q e) = ((P b q e * keep (P b q) e : ℝ) : EReal) := by
  classical
  have hh := rHot_real (rOrder p) (fun b q => ranked (P b q)) (rOrder_real p P hp)
  unfold rKept
  generalize rHot (rOrder p) = h at hh ⊢
  have h1 : ∀ b q r, rLast (mulf h (rRows p)) (ix3 b q r) = ((P b q (ranked (P b q) r) : ℝ) : EReal) := fun b q r => by
    rw [rLast_real _ (fun b q r e => (if ranked (P b q) r = e then 1 else 0) * P b q e) fun b q r e => by
      rw [mulf_apply, rRows_at, hh, hp]; exact (EReal.coe_mul _ _).symm]
    simp
  have h2 : ∀ b q r, rLast (mulf (rRows (rLast (mulf h (rRows p)))) rTri) (ix3 b q r) = ((mass (P b q) (ranked (P b q) r) : ℝ) : EReal) := fun b q r => by
    rw [rLast_real _ (fun b q r s => P b q (ranked (P b q) s) * if s < r then 1 else 0) fun b q r e => by
      rw [mulf_apply, rRows_at, rTri_real, h1]; exact (EReal.coe_mul _ _).symm]
    rw [mass_ranked]
  have h3 := rBelow_real _ _ h2
  have h4 := rBack_real h _ _ _ hh h3 b q e
  rw [mulf_apply, h4, hp]
  refine (EReal.coe_mul _ _).symm.trans ?_
  congr 2
  exact (back_ranked (P b q) (keep (P b q)) e)

theorem rWgt_at (k : A3) (m : A1) (b : Fin 8) (q : Fin 512) (e : Fin 3) :
    Host.divf k (broadcastInDim S8x512x3 ![0, 1, 2] bcast_S8x512x1_S8x512x3_0_1_2 (addf m (broadcastInDim S8x512x1 ![] bcast_S_S8x512x1 (constant S_ .f32 0x3089705F#32)))) (ix3 b q e)
      = Ideal.div (k (ix3 b q e)) (m (ix3 b q 0) + ((e9 : ℝ) : EReal)) := by
  pointwise
  rw [bits_e9]

theorem rWgt_real (k : A3) (P : All3) (hP : ∀ b q e, 0 < P b q e)
    (hk : ∀ b q e, k (ix3 b q e) = ((P b q e * keep (P b q) e : ℝ) : EReal)) (b : Fin 8) (q : Fin 512) (e : Fin 3) :
    rWgt k (ix3 b q e) = ((wgt (P b q) e : ℝ) : EReal) := by
  unfold rWgt
  rw [rWgt_at, rSum3_real k _ hk, hk, ← EReal.coe_add, div_real _ _ (wden_pos _ (hP b q)).ne']
  rfl

end Patch.Ref
-- ==== Proof.RAttnR.lean ====
module

public import proofs.«01_k».proof.Proof.RNormR

@[expose] public section

set_option maxRecDepth 16384

/-! # The reference's attention at real numbers -/

noncomputable section

namespace Patch.Ref

open scoped BigOperators
open Idealize Idealize.ShloMosaic Cert.ReferenceIdeal Cert.ReferenceIdeal.Gen

/-- Numbers of every batch entry, head and pair of tokens. -/
abbrev AllSc := Fin 8 → Fin 8 → Fin 512 → Fin 512 → ℝ

theorem rScore_real (q k : H16) (Q K : Fin 8 → Fin 8 → Fin 512 → Fin 16 → ℝ)
    (hq : ∀ b h t j, q (ix4 b h t j) = ((Q b h t j : ℝ) : EReal)) (hk : ∀ b h t j, k (ix4 b h t j) = ((K b h t j : ℝ) : EReal))
    (b h : Fin 8) (s t : Fin 512) :
    rScore q k (ix4 b h s t) = (((∑ j, Q b h s j * K b h t j) / 4 : ℝ) : EReal) := by
  pointwise [rScore]
  simp only [hq, hk, ← EReal.coe_mul, coe_sum, bits_four]
  rw [div_real _ _ (by norm_num)]

open Classical in
theorem rMask_real (a : FVec Ideal S8x512x512 .f32) (s : Sc) (A : Fin 8 → Fin 512 → Fin 512 → ℝ) (S : AllSc)
    (ha : ∀ b q k, a (ix3 b q k) = ((A b q k : ℝ) : EReal)) (hs : ∀ b h q k, s (ix4 b h q k) = ((S b h q k : ℝ) : EReal))
    (b h : Fin 8) (q k : Fin 512) :
    rMask a s (ix4 b h q k) = ((if 0 < A b q k then S b h q k else -1000000000 : ℝ) : EReal) := by
  pointwise [rMask]
  simp only [ha, hs, EReal.coe_pos]
  split_ifs
  · rfl
  · exact bits_far

theorem rTopK_real (t : Sc) (T : AllSc) (ht : ∀ b h q k, t (ix4 b h q k) = ((T b h q k : ℝ) : EReal)) (b h : Fin 8) (q : Fin 512) :
    rTopK t (ix3 b h q) = ((top (n := 511) (T b h q) : ℝ) : EReal) := by
  pointwise [rTopK]
  simp only [ht, bits_bot]
  exact fold_max_real (n := 511) (T b h q)

theorem rSumK_real (t : Sc) (T : AllSc) (ht : ∀ b h q k, t (ix4 b h q k) = ((T b h q k : ℝ) : EReal)) (b h : Fin 8) (q : Fin 512) :
    rSumK t (ix3 b h q) = ((∑ k, T b h q k : ℝ) : EReal) := by
  pointwise [rSumK]
  simp only [ht, coe_sum, zero_add]

theorem floor_at (m : FVec Ideal S8x8x512 .f32) (b h : Fin 8) (q : Fin 512) :
    (maximumf (broadcastInDim S8x8x512 ![] bcast_S_S8x8x512 (constant S_ .f32 0xFF800000#32)) m : FVec Ideal S8x8x512 .f32) (ix3 b h q) = m (ix3 b h q) := by
  pointwise
  rw [bits_bot, max_eq_right bot_le]

theorem exp_at (m : FVec Ideal S8x8x512 .f32) (c : Sc) (b h : Fin 8) (q k : Fin 512) :
    Host.exp (subf c (rFill (rSpread m))) (ix4 b h q k) = Ideal.exp (c (ix4 b h q k) - m (ix3 b h q)) := by
  pointwise [rFill, rSpread]

theorem rExp4_real (c : Sc) (C : AllSc) (hc : ∀ b h q k, c (ix4 b h q k) = ((C b h q k : ℝ) : EReal)) (b h : Fin 8) (q k : Fin 512) :
    rExp4 c (ix4 b h q k) = ((Real.exp (C b h q k - top (n := 511) (C b h q)) : ℝ) : EReal) := by
  unfold rExp4
  rw [exp_at, floor_at, rTopK_real c C hc, hc, ← EReal.coe_sub, exp_real]

theorem rWeigh_real (e : Sc) (a : FVec Ideal S8x512x512 .f32) (E : AllSc) (A : Fin 8 → Fin 512 → Fin 512 → ℝ)
    (he : ∀ b h q k, e (ix4 b h q k) = ((E b h q k : ℝ) : EReal)) (ha : ∀ b q k, a (ix3 b q k) = ((A b q k : ℝ) : EReal))
    (hp : ∀ b h q, 0 < ∑ k, E b h q k) (b h : Fin 8) (q k : Fin 512) :
    rWeigh e a (ix4 b h q k) = ((E b h q k / (∑ j, E b h q j) * A b q k : ℝ) : EReal) := by
  have hm := rSumK_real e E he
  unfold rWeigh
  generalize rSumK e = m at hm ⊢
  pointwise [rFill, rSpread]
  rw [hm, he, ha, div_real _ _ (hp _ _ _).ne', ← EReal.coe_mul]

theorem guard_at (t : Sc) (m n : FVec Ideal S8x8x512 .f32) (b h : Fin 8) (q k : Fin 512) :
    Host.divf t (rFill (addf (rSpread m) (mulf (broadcastInDim S8x8x512x1 ![] bcast_S_S8x8x512x1 (constant S_ .f32 0x3089705F#32)) (rSpread n)))) (ix4 b h q k)
      = Ideal.div (t (ix4 b h q k)) (m (ix3 b h q) + ((e9 : ℝ) : EReal) * n (ix3 b h q)) := by
  pointwise [rFill, rSpread]
  rw [bits_e9]

theorem rGuard_real (t : Sc) (T : AllSc) (ht : ∀ b h q k, t (ix4 b h q k) = ((T b h q k : ℝ) : EReal))
    (hp : ∀ b h q, 0 < (∑ j, T b h q j) + e9 * top (n := 511) (T b h q)) (b h : Fin 8) (q k : Fin 512) :
    rGuard t (ix4 b h q k) = ((T b h q k / ((∑ j, T b h q j) + e9 * top (n := 511) (T b h q)) : ℝ) : EReal) := by
  unfold rGuard
  rw [guard_at, ht, rSumK_real t T ht, rTopK_real t T ht, ← EReal.coe_mul, ← EReal.coe_add, div_real _ _ (hp _ _ _).ne']

theorem rMix_real (t : Sc) (v : H16) (T : AllSc) (V : Fin 8 → Fin 8 → Fin 512 → Fin 16 → ℝ)
    (ht : ∀ b h q k, t (ix4 b h q k) = ((T b h q k : ℝ) : EReal)) (hv : ∀ b h t j, v (ix4 b h t j) = ((V b h t j : ℝ) : EReal))
    (b h : Fin 8) (q : Fin 512) (j : Fin 16) :
    rMix t v (ix4 b h q j) = ((∑ k, T b h q k * V b h k j : ℝ) : EReal) := by
  pointwise [rMix]
  simp only [ht, hv, ← EReal.coe_mul, coe_sum]

open Classical in
/-- One head's outputs, by the definition of attention. -/
theorem rHeads_real (a : FVec Ideal S8x512x512 .f32) (q k v : H16) (A : Fin 8 → Fin 512 → Fin 512 → ℝ)
    (Q K V : Fin 8 → Fin 8 → Fin 512 → Fin 16 → ℝ) (ha : ∀ b q k, a (ix3 b q k) = ((A b q k : ℝ) : EReal))
    (hq : ∀ b h t j, q (ix4 b h t j) = ((Q b h t j : ℝ) : EReal)) (hk : ∀ b h t j, k (ix4 b h t j) = ((K b h t j : ℝ) : EReal))
    (hv : ∀ b h t j, v (ix4 b h t j) = ((V b h t j : ℝ) : EReal)) (hA : ∀ b q k, 0 ≤ A b q k) (h1 : ∀ b q, A b q q = 1)
    (b h : Fin 8) (t : Fin 512) (j : Fin 16) :
    rHeads a q k v (ix4 b h t j)
      = ((attn (A b t) (fun s => (∑ j, Q b h t j * K b h s j) / 4) (fun s => V b h s j) : ℝ) : EReal) := by
  have hs := rScore_real q k Q K hq hk
  have hc := rMask_real a (rScore q k) A _ ha hs
  have he := rExp4_real _ _ hc
  have hw := rWeigh_real _ a _ A he ha fun _ _ _ => Finset.sum_pos (fun _ _ => Real.exp_pos _) ⟨0, Finset.mem_univ _⟩
  have hf : ∀ b h t k, _ := fun b h t k => softmax_edge (A b t) (fun s => (∑ j, Q b h t j * K b h s j) / 4) (hA b t) (-1000000000)
    (top (n := 511) fun k => if 0 < A b t k then (∑ j, Q b h t j * K b h k j) / 4 else -1000000000)
    (fun k => if 0 < A b t k then (∑ j, Q b h t j * K b h k j) / 4 else -1000000000) (fun _ => rfl) k
  have hg := rGuard_real _ _ hw fun b h t => by
    refine attn_den_pos _ (fun k => ?_) t ?_
    · exact mul_nonneg (div_nonneg (Real.exp_pos _).le (Finset.sum_nonneg fun _ _ => (Real.exp_pos _).le)) (hA _ _ _)
    · rw [h1, mul_one]
      exact div_pos (Real.exp_pos _) (Finset.sum_pos (fun _ _ => Real.exp_pos _) ⟨0, Finset.mem_univ _⟩)
  have hm := rMix_real _ v _ V hg hv b h t j
  unfold rHeads
  rw [hm]
  exact congrArg _ (attn_softmax (A b t) (fun s => (∑ j, Q b h t j * K b h s j) / 4) (fun s => V b h s j) _ _ _ (hf b h t))

end Patch.Ref
-- ==== Proof.RLayerR.lean ====
module

public import proofs.«01_k».proof.Proof.RRouteR
public import proofs.«01_k».proof.Proof.RAttnR

@[expose] public section

set_option maxRecDepth 16384

/-! # One layer of the reference at real numbers -/

noncomputable section

namespace Patch.Ref

open scoped BigOperators
open Idealize Idealize.ShloMosaic Idealize.ShloMosaic.StableHlo Cert.ReferenceIdeal Cert.ReferenceIdeal.Gen Cert.ReferenceIdeal.Value

variable (V : Valuation τ sig (Elt Ideal))

/-- The edge weights of real features. -/
theorem rEdges_real (x : A128) (f : All) (hx : ∀ b q d, x (ix3 b q d) = ((f b q d : ℝ) : EReal)) (w : FVec Ideal S128x3 .f32)
    (c : FVec Ideal S3 .f32) (P : Par) (hw : ∀ d e, w (ix2 d e) = ((P.rW d e : ℝ) : EReal))
    (hc : ∀ e, c (ix1 e) = ((P.rb e : ℝ) : EReal)) (b : Fin 8) (q k : Fin 512) :
    rEdges x w c (res_main_v27 V) (res_main_v19 V) (ix3 b q k) = ((edges P (f b) q k : ℝ) : EReal) := by
  have hl := rLogits_real x f hx w c P.rW P.rb hw hc
  have hp := rSoft3_real _ _ hl
  have hk := rKept_real _ _ hp
  have hg := rWgt_real _ _ (fun _ _ _ => prob_pos _ _) hk
  exact edge_real V _ _ hg b q k

/-- One layer of real features. -/
theorem rLayer_real (x : A128) (f : All) (hx : ∀ b q d, x (ix3 b q d) = ((f b q d : ℝ) : EReal))
    (wq wk wv wo : FVec Ideal S128x128 .f32) (w : FVec Ideal S128x3 .f32) (c : FVec Ideal S3 .f32) (g1 c1 : FVec Ideal S128 .f32)
    (w1 : FVec Ideal S128x256 .f32) (b1 : FVec Ideal S256 .f32) (w2 : FVec Ideal S256x128 .f32) (b2 g2 c2 : FVec Ideal S128 .f32) (P : Par)
    (hq : ∀ d e, wq (ix2 d e) = ((P.Wq d e : ℝ) : EReal)) (hk : ∀ d e, wk (ix2 d e) = ((P.Wk d e : ℝ) : EReal))
    (hv : ∀ d e, wv (ix2 d e) = ((P.Wv d e : ℝ) : EReal)) (ho : ∀ d e, wo (ix2 d e) = ((P.Wo d e : ℝ) : EReal))
    (hw : ∀ d e, w (ix2 d e) = ((P.rW d e : ℝ) : EReal)) (hc : ∀ e, c (ix1 e) = ((P.rb e : ℝ) : EReal))
    (hg1 : ∀ d, g1 (ix1 d) = ((P.g1 d : ℝ) : EReal)) (hc1 : ∀ d, c1 (ix1 d) = ((P.c1 d : ℝ) : EReal))
    (hw1 : ∀ d e, w1 (ix2 d e) = ((P.W1 d e : ℝ) : EReal)) (hb1 : ∀ e, b1 (ix1 e) = ((P.b1 e : ℝ) : EReal))
    (hw2 : ∀ e d, w2 (ix2 e d) = ((P.W2 e d : ℝ) : EReal)) (hb2 : ∀ d, b2 (ix1 d) = ((P.b2 d : ℝ) : EReal))
    (hg2 : ∀ d, g2 (ix1 d) = ((P.g2 d : ℝ) : EReal)) (hc2 : ∀ d, c2 (ix1 d) = ((P.c2 d : ℝ) : EReal))
    (b : Fin 8) (q : Fin 512) (d : Fin 128) :
    rLayer (res_main_v27 V) (res_main_v19 V) x wq wk wv wo w c g1 c1 w1 b1 w2 b2 g2 c2 (ix3 b q d) = ((layer P (f b) q d : ℝ) : EReal) := by
  have ha := rEdges_real V x f hx w c P hw hc
  have hQ := rSplit_real _ _ (rApp_real x f hx wq P.Wq hq)
  have hK := rSplit_real _ _ (rApp_real x f hx wk P.Wk hk)
  have hV := rSplit_real _ _ (rApp_real x f hx wv P.Wv hv)
  have hh := rHeads_real _ _ _ _ _ _ _ _ ha hQ hK hV (fun b => edges_nonneg P (f b)) (fun b => edges_self P (f b))
  have hj := rJoin_real _ _ hh
  have hm : ∀ b q d, rMid0 x (rEdges x w c (res_main_v27 V) (res_main_v19 V)) wq wk wv wo (ix3 b q d) = ((mid0 P (f b) q d : ℝ) : EReal) := fun b q d => by
    unfold rMid0
    rw [addf_apply, rApp_real _ _ hj wo P.Wo ho, hx]
    exact (EReal.coe_add _ _).symm
  have h1 := rNorm_real _ _ hm g1 c1 P.g1 P.c1 hg1 hc1
  have hp := rPre_real _ _ h1 w1 b1 P.W1 P.b1 hw1 hb1
  have hg := rGate_real _ _ hp
  have hf := rFfn_real _ _ h1 _ _ hg w2 b2 P.W2 P.b2 hw2 hb2
  exact rNorm_real _ _ hf g2 c2 P.g2 P.c2 hg2 hc2 b q d

end Patch.Ref
-- ==== Proof.RForeR.lean ====
module

public import proofs.«01_k».proof.Proof.RNormR

@[expose] public section

set_option maxRecDepth 16384

/-! # The reference's statistics, embedding and forecast -/

noncomputable section

namespace Patch.Ref

open scoped BigOperators
open Idealize Idealize.ShloMosaic Cert.ReferenceIdeal Cert.ReferenceIdeal.Gen

variable (x : FVec Ideal S8x1024x8 .f32) (X : Fin 8 → Fin 1024 → Fin 8 → ℝ)
  (hx : ∀ b t c, x (ix3 b t c) = ((X b t c : ℝ) : EReal))

include hx

theorem rMeanX_real (b : Fin 8) (o : Fin 1) (c : Fin 8) :
    rMeanX x (ix3 b o c) = ((meanOf (fun t => X b t c) : ℝ) : EReal) := by
  pointwise [rMeanX]
  simp only [hx, coe_sum, bits_1024, zero_add]
  rw [div_real _ _ (by norm_num)]
  simp [meanOf]

theorem rCenterX_real (b : Fin 8) (t : Fin 1024) (c : Fin 8) :
    rCenterX x (ix3 b t c) = ((X b t c - meanOf (fun t => X b t c) : ℝ) : EReal) := by
  have h := rMeanX_real x X hx
  unfold rCenterX
  generalize rMeanX x = m at h ⊢
  pointwise
  rw [h, hx, EReal.coe_sub]

theorem rDevX_real (b : Fin 8) (o : Fin 1) (c : Fin 8) :
    rDevX x (ix3 b o c) = ((dev (fun t => X b t c) : ℝ) : EReal) := by
  have h := rCenterX_real x X hx
  have ha := rMeanX_real (mulf (rCenterX x) (rCenterX x)) (fun b t c => (X b t c - meanOf (fun t => X b t c)) * (X b t c - meanOf (fun t => X b t c)))
    (fun b t c => by rw [EReal.coe_mul, ← h]; rfl)
  unfold rDevX
  generalize rMeanX (mulf (rCenterX x) (rCenterX x)) = m at ha ⊢
  pointwise
  rw [ha, bits_e5, ← EReal.coe_add]
  exact sqrt_real _ (varOf_e5_pos _).le

omit hx in
theorem rPatches_at (y : FVec Ideal S8x1024x8 .f32) (b : Fin 8) (k : Fin 512) (p : Fin 16) :
    rPatches y (ix3 b k p) = y (ix3 b (step (patch k) p) (chan k)) := by
  pointwise [rPatches]
  refine congrArg y ?_
  congr 1 <;> (apply Fin.ext; simp only [step, patch, chan]; omega)

theorem rEmbed_real (w : FVec Ideal S16x128 .f32) (c : FVec Ideal S128 .f32) (pe : FVec Ideal S512x128 .f32)
    (W : Fin 16 → Fin 128 → ℝ) (B : Fin 128 → ℝ) (E : Fin 512 → Fin 128 → ℝ)
    (hw : ∀ j d, w (ix2 j d) = ((W j d : ℝ) : EReal)) (hb : ∀ d, c (ix1 d) = ((B d : ℝ) : EReal))
    (he : ∀ k d, pe (ix2 k d) = ((E k d : ℝ) : EReal)) (b : Fin 8) (k : Fin 512) (d : Fin 128) :
    rEmbed x w c pe (ix3 b k d) = ((embed (X b) W B E k d : ℝ) : EReal) := by
  have hm := rCenterX_real x X hx
  have hd := rDevX_real x X hx
  have hq : ∀ b t c, Host.divf (rCenterX x) (broadcastInDim S8x1024x8 ![0, 1, 2] bcast_S8x1x8_S8x1024x8_0_1_2 (rDevX x)) (ix3 b t c)
      = (((X b t c - meanOf (fun t => X b t c)) / dev (fun t => X b t c) : ℝ) : EReal) := fun b t c => by
    generalize rCenterX x = y at hm ⊢
    generalize rDevX x = s at hd ⊢
    pointwise
    rw [hm, hd, div_real _ _ (dev_pos _).ne']
  unfold rEmbed
  generalize Host.divf (rCenterX x) (broadcastInDim S8x1024x8 ![0, 1, 2] bcast_S8x1x8_S8x1024x8_0_1_2 (rDevX x)) = y at hq ⊢
  have hp : ∀ b k p, rPatches y (ix3 b k p) = _ := fun b k p => (rPatches_at y b k p).trans (hq _ _ _)
  generalize rPatches y = u at hp ⊢
  pointwise [rVec]
  simp only [hp, hw, hb, he, ← EReal.coe_mul, coe_sum, ← EReal.coe_add]
  rfl

/-- The flattened features by patch number and feature. -/
def pair128 : Fin 64 × Fin 128 ≃ Fin 8192 where
  toFun x := ⟨x.1.val * 128 + x.2.val, by omega⟩
  invFun k := (⟨k.val / 128, by omega⟩, ⟨k.val % 128, by omega⟩)
  left_inv x := by apply Prod.ext <;> apply Fin.ext <;> simp only [] <;> omega
  right_inv k := by apply Fin.ext; simp only []; omega

omit hx in
theorem rFore_at (z : A128) (hw : FVec Ideal S8192x96 .f32) (hb : FVec Ideal S96 .f32) (mean dev : FVec Ideal S8x1x8 .f32)
    (b : Fin 8) (p : Fin 96) (c : Fin 8) :
    rFore z hw hb mean dev (ix3 b p c)
      = (hb (ix1 p) + ∑ n : Fin 64, ∑ d : Fin 128, z (ix3 b (tok c n) d) * hw (ix2 (pair128 (n, d)) p)) * dev (ix3 b 0 c) + mean (ix3 b 0 c) := by
  pointwise [rFore]
  rw [add_comm (hb _)]
  congr 3
  rw [← Equiv.sum_comp pair128, Fintype.sum_prod_type]
  refine Finset.sum_congr rfl fun n _ => Finset.sum_congr rfl fun d _ => ?_
  congr 2
  congr 1 <;> (apply Fin.ext; simp only [pair128, tok, Equiv.coe_fn_mk]; omega)

end Patch.Ref
-- ==== Proof.RRun.lean ====
module

public import proofs.«01_k».proof.Proof.RLayerR
public import proofs.«01_k».proof.Proof.RForeR
public import proofs.«01_k».proof.Proof.Args

@[expose] public section

set_option maxRecDepth 16384

/-! # The reference's result at real inputs -/

noncomputable section

namespace Patch.Ref

open scoped BigOperators
open Idealize Idealize.ShloMosaic Idealize.ShloMosaic.StableHlo Cert.ReferenceIdeal Cert.ReferenceIdeal.Gen Cert.ReferenceIdeal.Value

theorem rSq0_at (w : FVec Ideal S2x128x128 .f32) (d : Fin 128) (e : Fin 128) : rSq0 w (ix2 d e) = w (ix3 0 d e) := by pointwise [rSq0]
theorem rSq1_at (w : FVec Ideal S2x128x128 .f32) (d : Fin 128) (e : Fin 128) : rSq1 w (ix2 d e) = w (ix3 1 d e) := by pointwise [rSq1]
theorem rSqR0_at (w : FVec Ideal S2x128x3 .f32) (d : Fin 128) (e : Fin 3) : rSqR0 w (ix2 d e) = w (ix3 0 d e) := by pointwise [rSqR0]
theorem rSqR1_at (w : FVec Ideal S2x128x3 .f32) (d : Fin 128) (e : Fin 3) : rSqR1 w (ix2 d e) = w (ix3 1 d e) := by pointwise [rSqR1]
theorem rSqB0_at (w : FVec Ideal S2x3 .f32) (d : Fin 3) : rSqB0 w (ix1 d) = w (ix2 0 d) := by pointwise [rSqB0]
theorem rSqB1_at (w : FVec Ideal S2x3 .f32) (d : Fin 3) : rSqB1 w (ix1 d) = w (ix2 1 d) := by pointwise [rSqB1]
theorem rSqC0_at (w : FVec Ideal S2x128 .f32) (d : Fin 128) : rSqC0 w (ix1 d) = w (ix2 0 d) := by pointwise [rSqC0]
theorem rSqC1_at (w : FVec Ideal S2x128 .f32) (d : Fin 128) : rSqC1 w (ix1 d) = w (ix2 1 d) := by pointwise [rSqC1]
theorem rSqU0_at (w : FVec Ideal S2x128x256 .f32) (d : Fin 128) (e : Fin 256) : rSqU0 w (ix2 d e) = w (ix3 0 d e) := by pointwise [rSqU0]
theorem rSqU1_at (w : FVec Ideal S2x128x256 .f32) (d : Fin 128) (e : Fin 256) : rSqU1 w (ix2 d e) = w (ix3 1 d e) := by pointwise [rSqU1]
theorem rSqV0_at (w : FVec Ideal S2x256 .f32) (d : Fin 256) : rSqV0 w (ix1 d) = w (ix2 0 d) := by pointwise [rSqV0]
theorem rSqV1_at (w : FVec Ideal S2x256 .f32) (d : Fin 256) : rSqV1 w (ix1 d) = w (ix2 1 d) := by pointwise [rSqV1]
theorem rSqD0_at (w : FVec Ideal S2x256x128 .f32) (d : Fin 256) (e : Fin 128) : rSqD0 w (ix2 d e) = w (ix3 0 d e) := by pointwise [rSqD0]
theorem rSqD1_at (w : FVec Ideal S2x256x128 .f32) (d : Fin 256) (e : Fin 128) : rSqD1 w (ix2 d e) = w (ix3 1 d e) := by pointwise [rSqD1]

/-- The position table the program holds. -/
def rTable : FVec Ideal S512x128 .f32 := fun i => FloatOps.ofBits .f32 (lit0 (S512x128.rowMajor i))

/-- The features after the first layer, of a valuation of the arguments. -/
def rOne (V : Valuation τ sig (Elt Ideal)) : A128 :=
  rLayer (res_main_v27 V) (res_main_v19 V) (rEmbed (V (Proc.devRef .tc main_arg0)) (V (Proc.devRef .tc main_arg4)) (V (Proc.devRef .tc main_arg5)) rTable)
    (rSq0 (V (Proc.devRef .tc main_arg6))) (rSq0 (V (Proc.devRef .tc main_arg7))) (rSq0 (V (Proc.devRef .tc main_arg8))) (rSq0 (V (Proc.devRef .tc main_arg9))) (rSqR0 (V (Proc.devRef .tc main_arg10))) (rSqB0 (V (Proc.devRef .tc main_arg11))) (rSqC0 (V (Proc.devRef .tc main_arg12))) (rSqC0 (V (Proc.devRef .tc main_arg13))) (rSqU0 (V (Proc.devRef .tc main_arg14))) (rSqV0 (V (Proc.devRef .tc main_arg15))) (rSqD0 (V (Proc.devRef .tc main_arg16))) (rSqC0 (V (Proc.devRef .tc main_arg17))) (rSqC0 (V (Proc.devRef .tc main_arg18))) (rSqC0 (V (Proc.devRef .tc main_arg19)))

/-- The features after the second layer. -/
def rTwo (V : Valuation τ sig (Elt Ideal)) : A128 :=
  rLayer (res_main_v27 V) (res_main_v19 V) (rOne V)
    (rSq1 (V (Proc.devRef .tc main_arg6))) (rSq1 (V (Proc.devRef .tc main_arg7))) (rSq1 (V (Proc.devRef .tc main_arg8))) (rSq1 (V (Proc.devRef .tc main_arg9))) (rSqR1 (V (Proc.devRef .tc main_arg10))) (rSqB1 (V (Proc.devRef .tc main_arg11))) (rSqC1 (V (Proc.devRef .tc main_arg12))) (rSqC1 (V (Proc.devRef .tc main_arg13))) (rSqU1 (V (Proc.devRef .tc main_arg14))) (rSqV1 (V (Proc.devRef .tc main_arg15))) (rSqD1 (V (Proc.devRef .tc main_arg16))) (rSqC1 (V (Proc.devRef .tc main_arg17))) (rSqC1 (V (Proc.devRef .tc main_arg18))) (rSqC1 (V (Proc.devRef .tc main_arg19)))

theorem one_eq (V : Valuation τ sig (Elt Ideal)) : res_main_v260 V = rOne V := rfl

/-- The result, of a valuation of the arguments. -/
def rOut (V : Valuation τ sig (Elt Ideal)) : FVec Ideal S8x96x8 .f32 :=
  rFore (rTwo V) (V (Proc.devRef .tc main_arg20)) (V (Proc.devRef .tc main_arg21)) (rMeanX (V (Proc.devRef .tc main_arg0))) (rDevX (V (Proc.devRef .tc main_arg0)))

theorem two_eq (V : Valuation τ sig (Elt Ideal)) : rNorm (res_main_v433 V) (rSqC1 (V (Proc.devRef .tc main_arg18))) (rSqC1 (V (Proc.devRef .tc main_arg19))) = rTwo V := rfl

/-- The forecast the reference computes of real inputs. -/
theorem rOut_real (V : Valuation τ sig (Elt Ideal)) (X : Fin 8 → Fin 1024 → Fin 8 → ℝ) (W : Fin 16 → Fin 128 → ℝ) (B : Fin 128 → ℝ)
    (E : Fin 512 → Fin 128 → ℝ) (Q : Fin 2 → Par)
    (H : ArgsAt (V (Proc.devRef .tc main_arg0)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) X W B Q)
    (hE : ∀ k d, rTable (ix2 k d) = ((E k d : ℝ) : EReal)) (b : Fin 8) (p : Fin 96) (c : Fin 8) :
    rOut V (ix3 b p c) = forecast (tokens Q W B E (X b)) (X b) (fun p => (V (Proc.devRef .tc main_arg21) : FVec Ideal S96 .f32) (ix1 p))
      (fun n d p => (V (Proc.devRef .tc main_arg20) : FVec Ideal S8192x96 .f32) (ix2 (pair128 (n, d)) p)) c p := by
  have h0 := rEmbed_real _ X H.h0 _ _ rTable W B E H.h4 H.h5 hE
  have h1 : ∀ b q d, rOne V (ix3 b q d) = _ := rLayer_real V _ _ h0 _ _ _ _ _ _ _ _ _ _ _ _ _ _ (Q 0)
    (fun d e => (rSq0_at _ d e).trans (H.h6 0 d e)) (fun d e => (rSq0_at _ d e).trans (H.h7 0 d e)) (fun d e => (rSq0_at _ d e).trans (H.h8 0 d e)) (fun d e => (rSq0_at _ d e).trans (H.h9 0 d e)) (fun d e => (rSqR0_at _ d e).trans (H.h10 0 d e)) (fun d => (rSqB0_at _ d).trans (H.h11 0 d)) (fun d => (rSqC0_at _ d).trans (H.h12 0 d)) (fun d => (rSqC0_at _ d).trans (H.h13 0 d)) (fun d e => (rSqU0_at _ d e).trans (H.h14 0 d e)) (fun d => (rSqV0_at _ d).trans (H.h15 0 d)) (fun d e => (rSqD0_at _ d e).trans (H.h16 0 d e)) (fun d => (rSqC0_at _ d).trans (H.h17 0 d)) (fun d => (rSqC0_at _ d).trans (H.h18 0 d)) (fun d => (rSqC0_at _ d).trans (H.h19 0 d))
  have h2 : ∀ b q d, rTwo V (ix3 b q d) = _ := rLayer_real V _ _ h1 _ _ _ _ _ _ _ _ _ _ _ _ _ _ (Q 1)
    (fun d e => (rSq1_at _ d e).trans (H.h6 1 d e)) (fun d e => (rSq1_at _ d e).trans (H.h7 1 d e)) (fun d e => (rSq1_at _ d e).trans (H.h8 1 d e)) (fun d e => (rSq1_at _ d e).trans (H.h9 1 d e)) (fun d e => (rSqR1_at _ d e).trans (H.h10 1 d e)) (fun d => (rSqB1_at _ d).trans (H.h11 1 d)) (fun d => (rSqC1_at _ d).trans (H.h12 1 d)) (fun d => (rSqC1_at _ d).trans (H.h13 1 d)) (fun d e => (rSqU1_at _ d e).trans (H.h14 1 d e)) (fun d => (rSqV1_at _ d).trans (H.h15 1 d)) (fun d e => (rSqD1_at _ d e).trans (H.h16 1 d e)) (fun d => (rSqC1_at _ d).trans (H.h17 1 d)) (fun d => (rSqC1_at _ d).trans (H.h18 1 d)) (fun d => (rSqC1_at _ d).trans (H.h19 1 d))
  unfold rOut
  rw [rFore_at, rMeanX_real _ X H.h0, rDevX_real _ X H.h0]
  simp only [h2]
  rfl

end Patch.Ref
-- ==== Proof.Tables.lean ====
module

public import proofs.«01_k».proof.Proof.TableH
public import proofs.«01_k».proof.Proof.KBlocks
public import proofs.«01_k».proof.Proof.RRun

@[expose] public section

/-! # One position table for both programs -/

noncomputable section

namespace Patch

open Idealize Idealize.ShloMosaic

/-- The programs' tables agree at every token, and are finite. -/
theorem table (k : Fin 512) (d : Fin 128) : TableAt k.val d.val := by
  have h : ∀ a, (∀ k : Fin 64, ∀ d : Fin 128, TableAt (a + k.val) d.val) → a ≤ k.val → k.val < a + 64 → TableAt k.val d.val := fun a h h0 h1 => by
    have := h ⟨k.val - a, by omega⟩ d
    rwa [show a + (k.val - a) = k.val by omega] at this
  rcases (show k.val < 64 ∨ (64 ≤ k.val ∧ k.val < 128) ∨ (128 ≤ k.val ∧ k.val < 192) ∨ (192 ≤ k.val ∧ k.val < 256) ∨ (256 ≤ k.val ∧ k.val < 320)
      ∨ (320 ≤ k.val ∧ k.val < 384) ∨ (384 ≤ k.val ∧ k.val < 448) ∨ 448 ≤ k.val by omega) with c | c | c | c | c | c | c | c
  · exact h _ tableA (by omega) (by omega)
  · exact h _ tableB (by omega) (by omega)
  · exact h _ tableC (by omega) (by omega)
  · exact h _ tableD (by omega) (by omega)
  · exact h _ tableE (by omega) (by omega)
  · exact h _ tableF (by omega) (by omega)
  · exact h _ tableG (by omega) (by omega)
  · exact h _ tableH (by omega) (by omega)

theorem kTable_at (d : Fin 128) (k : Fin 512) : kTable (ix2 d k) = Ideal.ofBits .f32 (Cert.KernelIdeal.lit0t (d.val * 512 + k.val)) :=
  congrArg (fun n => Ideal.ofBits .f32 (Cert.KernelIdeal.lit0t n)) (Shape.rowMajor_val_two (d := ![128, 512]) (ix2 d k))

theorem rTable_at (q : Fin 512) (d : Fin 128) : Ref.rTable (ix2 q d) = Ideal.ofBits .f32 (Cert.ReferenceIdeal.lit0t (q.val * 128 + d.val)) :=
  congrArg (fun n => Ideal.ofBits .f32 (Cert.ReferenceIdeal.lit0t n)) (Shape.rowMajor_val_two (d := ![512, 128]) (ix2 q d))

/-- The real table both hold. -/
theorem exists_table : ∃ E : Fin 512 → Fin 128 → ℝ, (∀ d k, kTable (ix2 d k) = ((E (place k) d : ℝ) : EReal))
    ∧ ∀ q d, Ref.rTable (ix2 q d) = ((E q d : ℝ) : EReal) := by
  have h : ∀ k d, ∃ r : ℝ, Ref.rTable (ix2 (place k) d) = ((r : ℝ) : EReal) ∧ kTable (ix2 d k) = ((r : ℝ) : EReal) := fun k d => by
    obtain ⟨r, hr⟩ := word_real _ (table k d).2
    exact ⟨r, (rTable_at (place k) d).trans ((congrArg (Ideal.ofBits .f32) (table k d).1.symm).trans hr), (kTable_at d k).trans hr⟩
  choose r hr hk using h
  refine ⟨fun q d => r (place.symm q) d, fun d k => by
    show _ = ((r (place.symm (place k)) d : ℝ) : EReal)
    rw [hk, Equiv.symm_apply_apply], fun q d => ?_⟩
  have := hr (place.symm q) d
  rwa [Equiv.apply_symm_apply] at this

end Patch
-- ==== Proof.KArray.lean ====
module

public import proofs.«01_k».proof.Proof.KBlocks

@[expose] public section

set_option maxRecDepth 16384

/-! # The kernel's result at real inputs -/

noncomputable section

namespace Patch

open scoped BigOperators
open Idealize Idealize.ShloMosaic Idealize.ShloMosaic.TcCoe Cert.KernelIdeal Cert.KernelIdeal.Gen Cert.KernelIdeal.Value

variable (m : (ℓ : Loc nD τ sig) → Buf (Elt Ideal) ℓ) (c : Dev nD)
  (X : Fin 8 → Fin 1024 → Fin 8 → ℝ) (W : Fin 16 → Fin 128 → ℝ) (B : Fin 128 → ℝ) (E : Fin 512 → Fin 128 → ℝ) (Q : Fin 2 → Par)
  (H : ArgsAt (m ((c : Thread nD τ).loc main_arg0)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) X W B Q)
  (hE : ∀ d k, kTable (ix2 d k) = ((E (place k) d : ℝ) : EReal))
include H hE

/-- A step's blocks hold the real inputs of its two batch entries. -/
theorem blockAt (t : Fin cfg0.N) : BlockAt (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (iblk m c 14 t) (iblk m c 15 t) (iblk m c 16 t) (iblk m c 17 t) (fun i => X (entry t i)) W B E Q where
  h0 i j k := (block0 m c t i j k).trans (H.h0 _ _ _)
  h1 j d := (block1 m c t j d).trans (H.h4 j d)
  h2 d := (block2 m c t d).trans (H.h5 d)
  h3 d k := (block3 m c t d k).trans (hE d k)
  h4 l d e := (block4 m c t l d e).trans (H.h6 l d e)
  h5 l d e := (block5 m c t l d e).trans (H.h7 l d e)
  h6 l d e := (block6 m c t l d e).trans (H.h8 l d e)
  h7 l d e := (block7 m c t l d e).trans (H.h9 l d e)
  h8 l d e := (block8 m c t l d e).trans (H.h10 l d e)
  h9 l d := (block9 m c t l d).trans (H.h11 l d)
  h10 l d := (block10 m c t l d).trans (H.h12 l d)
  h11 l d := (block11 m c t l d).trans (H.h13 l d)
  h12 l d e := (block12 m c t l d e).trans (H.h14 l d e)
  h13 l d := (block13 m c t l d).trans (H.h15 l d)
  h14 l d e := (block14 m c t l d e).trans (H.h16 l d e)
  h15 l d := (block15 m c t l d).trans (H.h17 l d)
  h16 l d := (block16 m c t l d).trans (H.h18 l d)
  h17 l d := (block17 m c t l d).trans (H.h19 l d)

omit H hE in
/-- The forecast of each batch entry, channel and time. -/
def kArray : FVec Ideal S8x8x96 .f32 := fun i =>
  forecast (tokens Q W B E (X (i 0))) (X (i 0)) (fun p => (m ((c : Thread nD τ).loc main_arg21) : FVec Ideal S96 .f32) (ix1 p))
    (fun n d p => (m ((c : Thread nD τ).loc main_arg20) : FVec Ideal S8192x96 .f32) (ix2 ⟨n.val * 128 + d.val, by omega⟩ p)) (i 1) (i 2)

omit H hE in
theorem emb20 (t : Fin cfg0.N) (i : Fin 2) (k : Fin 8) (p : Fin 96) : ((cfg0.win 20).blk t).view.emb (ix3 i k p) = (ix3 (entry t i) k p : S8x8x96.Idx) := by
  blk_ext [index20 t, entry]

/-- A step writes the forecasts of its two batch entries. -/
theorem step_out (t : Fin cfg0.N) (i : Fin 2) (k : Fin 8) (p : Fin 96) :
    out0_20 (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t) (ix3 i k p)
      = kArray m c X W B E Q (ix3 (entry t i) k p) := by
  refine (out_real _ _ (blockAt m c X W B E Q H hE t) i k p).trans ?_
  refine congrArg₂ (fun hb hw => forecast (tokens Q W B E (X (entry t i))) (X (entry t i)) hb hw k p) ?_ ?_
  · exact funext fun p => block19 m c t p
  · exact funext fun n => funext fun d => funext fun p => block18 m c t n d p

/-- The region leaves the forecasts. -/
theorem region_out : reg_main_v13 m c = kArray m c X W B E Q := by
  unfold reg_main_v13
  refine (dats m 0 c).arrAt_eq_of_covers 20 _ (by decide +kernel) fun t hf y => ?_
  blk_simp
  rw [after0_20]
  rw [eq_ix3 (n0 := 2) (n1 := 8) (n2 := 96) y]
  exact (step_out m c X W B E Q H hE t _ _ _).trans (congrArg (kArray m c X W B E Q) (emb20 t _ _ _)).symm

/-- The kernel's result. -/
theorem result_out (b : Fin 8) (p : Fin 96) (k : Fin 8) :
    (transpose S8x96x8 [0, 2, 1] (reg_main_v13 m c : FVec Ideal S8x8x96 .f32) transposes_S8x8x96_S8x96x8_0_2_1) (ix3 b p k)
      = forecast (tokens Q W B E (X b)) (X b) (fun p => (m ((c : Thread nD τ).loc main_arg21) : FVec Ideal S96 .f32) (ix1 p))
        (fun n d p => (m ((c : Thread nD τ).loc main_arg20) : FVec Ideal S8192x96 .f32) (ix2 ⟨n.val * 128 + d.val, by omega⟩ p)) k p := by
  rw [region_out m c X W B E Q H hE]
  pointwise
  rfl

end Patch
-- ==== Proof.Finite.lean ====
module

public import proofs.«01_k».proof.Proof.Args
public import proofs.«01_k».proof.Pre_finite

@[expose] public section

set_option maxRecDepth 16384

/-! # The precondition gives real inputs -/

noncomputable section

namespace Patch

open Idealize Idealize.ShloMosaic Cert.Pre_finite

theorem finite_facts : Cert.Pre_finite.Facts where
  bcast_S_S8x1024x8 := by decide
  bcast_S_S16x128 := by decide
  bcast_S_S128 := by decide
  bcast_S_S2x128x128 := by decide
  bcast_S_S2x128x3 := by decide
  bcast_S_S2x3 := by decide
  bcast_S_S2x128 := by decide
  bcast_S_S2x128x256 := by decide
  bcast_S_S2x256 := by decide
  bcast_S_S2x256x128 := by decide

/-- A number whose magnitude is below infinity is real. -/
theorem real_of_below (x : EReal) (h : Ideal.cmp .olt (max x (-x)) ⊤ = 1#1) : x ≠ ⊥ ∧ x ≠ ⊤ := by
  constructor <;> rintro rfl <;> simp [Ideal.cmp] at h

/-- An array whose magnitudes are all below infinity holds real numbers. -/
theorem real_of_less {s : Shape} (x : FVec Ideal s .f32) (hb : S_.BroadcastsInDim s (![] : Fin 0 → Fin s.rank))
    (h : cmpf .olt (Host.absf x) (broadcastInDim s ![] hb (constant S_ .f32 0x7F800000#32)) = fun _ => 1#1) :
    ∃ r : s.Idx → ℝ, ∀ i, x i = ((r i : ℝ) : EReal) := by
  refine exists_real x fun i => ?_
  have hi := congrFun h i
  have hc : Ideal.cmp .olt (FloatOps.hostAbsf (F := Ideal) (φ := .f32) (x i)) (Ideal.ofBits .f32 0x7F800000#32) = 1#1 := hi
  rw [bits_top] at hc
  exact real_of_below (x i) hc

/-- Where the precondition is all ones, the input and the parameters hold real numbers. -/
theorem args_of_finite [Cert.Pre_finite.Facts] (a0 : FVec Ideal S8x1024x8 .f32)
    (a1 : FVec Ideal S8x1024x4 .f32)
    (a2 : FVec Ideal S8x96x8 .f32)
    (a3 : FVec Ideal S8x96x4 .f32)
    (a4 : FVec Ideal S16x128 .f32)
    (a5 : FVec Ideal S128 .f32)
    (a6 : FVec Ideal S2x128x128 .f32)
    (a7 : FVec Ideal S2x128x128 .f32)
    (a8 : FVec Ideal S2x128x128 .f32)
    (a9 : FVec Ideal S2x128x128 .f32)
    (a10 : FVec Ideal S2x128x3 .f32)
    (a11 : FVec Ideal S2x3 .f32)
    (a12 : FVec Ideal S2x128 .f32)
    (a13 : FVec Ideal S2x128 .f32)
    (a14 : FVec Ideal S2x128x256 .f32)
    (a15 : FVec Ideal S2x256 .f32)
    (a16 : FVec Ideal S2x256x128 .f32)
    (a17 : FVec Ideal S2x128 .f32)
    (a18 : FVec Ideal S2x128 .f32)
    (a19 : FVec Ideal S2x128 .f32)
    (a20 : FVec Ideal S8192x96 .f32)
    (a21 : FVec Ideal S96 .f32)
    (h : (Cert.Pre_finite.fn (F := Ideal) a0 a1 a2 a3 a4 a5 a6 a7 a8 a9 a10 a11 a12 a13 a14 a15 a16 a17 a18 a19 a20 a21).1 = (fun _ => 1#1)
      ∧ (Cert.Pre_finite.fn (F := Ideal) a0 a1 a2 a3 a4 a5 a6 a7 a8 a9 a10 a11 a12 a13 a14 a15 a16 a17 a18 a19 a20 a21).2.1 = (fun _ => 1#1)
      ∧ (Cert.Pre_finite.fn (F := Ideal) a0 a1 a2 a3 a4 a5 a6 a7 a8 a9 a10 a11 a12 a13 a14 a15 a16 a17 a18 a19 a20 a21).2.2.1 = (fun _ => 1#1)
      ∧ (Cert.Pre_finite.fn (F := Ideal) a0 a1 a2 a3 a4 a5 a6 a7 a8 a9 a10 a11 a12 a13 a14 a15 a16 a17 a18 a19 a20 a21).2.2.2.1 = (fun _ => 1#1)
      ∧ (Cert.Pre_finite.fn (F := Ideal) a0 a1 a2 a3 a4 a5 a6 a7 a8 a9 a10 a11 a12 a13 a14 a15 a16 a17 a18 a19 a20 a21).2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.2.2.2.2.2.2.1 = (fun _ => 1#1)
      ∧ (Cert.Pre_finite.fn (F := Ideal) a0 a1 a2 a3 a4 a5 a6 a7 a8 a9 a10 a11 a12 a13 a14 a15 a16 a17 a18 a19 a20 a21).2.2.2.2.2.2.2.2.2.2.2.2.2.2.2.2 = (fun _ => 1#1)) :
    ∃ X W B Q, ArgsAt a0 a4 a5 a6 a7 a8 a9 a10 a11 a12 a13 a14 a15 a16 a17 a18 a19 X W B Q :=
  exists_args _ _ _ _ _ _ _ _ _ _ _ _ _ _ _ _ _
    (real_of_less a0 _ h.1)
    (real_of_less a4 _ h.2.1)
    (real_of_less a5 _ h.2.2.1)
    (real_of_less a6 _ h.2.2.2.1)
    (real_of_less a7 _ h.2.2.2.2.1)
    (real_of_less a8 _ h.2.2.2.2.2.1)
    (real_of_less a9 _ h.2.2.2.2.2.2.1)
    (real_of_less a10 _ h.2.2.2.2.2.2.2.1)
    (real_of_less a11 _ h.2.2.2.2.2.2.2.2.1)
    (real_of_less a12 _ h.2.2.2.2.2.2.2.2.2.1)
    (real_of_less a13 _ h.2.2.2.2.2.2.2.2.2.2.1)
    (real_of_less a14 _ h.2.2.2.2.2.2.2.2.2.2.2.1)
    (real_of_less a15 _ h.2.2.2.2.2.2.2.2.2.2.2.2.1)
    (real_of_less a16 _ h.2.2.2.2.2.2.2.2.2.2.2.2.2.1)
    (real_of_less a17 _ h.2.2.2.2.2.2.2.2.2.2.2.2.2.2.1)
    (real_of_less a18 _ h.2.2.2.2.2.2.2.2.2.2.2.2.2.2.2.1)
    (real_of_less a19 _ h.2.2.2.2.2.2.2.2.2.2.2.2.2.2.2.2)

end Patch
-- ==== Proof.Equal.lean ====
module

public import proofs.«01_k».proof.Defs
public import proofs.«01_k».proof.Proof.Tables
public import proofs.«01_k».proof.Proof.KArray
public import proofs.«01_k».proof.Proof.Finite
public import Idealize.ShloMosaic.Lib.StableHlo.RunHlo
public import Idealize.ShloMosaic.Lib.Quiescent

@[expose] public section

set_option maxRecDepth 16384

/-! # The kernel's result is the reference's -/

noncomputable section

namespace Patch

open Idealize Idealize.ShloMosaic Idealize.ShloMosaic.TcCoe Idealize.ShloMosaic.StableHlo

/-- Real arguments stay so along equations. -/
theorem ArgsAt.along {X : Fin 8 → Fin 1024 → Fin 8 → ℝ} {W : Fin 16 → Fin 128 → ℝ} {B : Fin 128 → ℝ} {Q : Fin 2 → Par}
    {a0 z0 : FVec Ideal Cert.KernelIdeal.S8x1024x8 .f32}
    {a4 z4 : FVec Ideal Cert.KernelIdeal.S16x128 .f32}
    {a5 z5 : FVec Ideal Cert.KernelIdeal.S128 .f32}
    {a6 z6 : FVec Ideal Cert.KernelIdeal.S2x128x128 .f32}
    {a7 z7 : FVec Ideal Cert.KernelIdeal.S2x128x128 .f32}
    {a8 z8 : FVec Ideal Cert.KernelIdeal.S2x128x128 .f32}
    {a9 z9 : FVec Ideal Cert.KernelIdeal.S2x128x128 .f32}
    {a10 z10 : FVec Ideal Cert.KernelIdeal.S2x128x3 .f32}
    {a11 z11 : FVec Ideal Cert.KernelIdeal.S2x3 .f32}
    {a12 z12 : FVec Ideal Cert.KernelIdeal.S2x128 .f32}
    {a13 z13 : FVec Ideal Cert.KernelIdeal.S2x128 .f32}
    {a14 z14 : FVec Ideal Cert.KernelIdeal.S2x128x256 .f32}
    {a15 z15 : FVec Ideal Cert.KernelIdeal.S2x256 .f32}
    {a16 z16 : FVec Ideal Cert.KernelIdeal.S2x256x128 .f32}
    {a17 z17 : FVec Ideal Cert.KernelIdeal.S2x128 .f32}
    {a18 z18 : FVec Ideal Cert.KernelIdeal.S2x128 .f32}
    {a19 z19 : FVec Ideal Cert.KernelIdeal.S2x128 .f32}
    (H : ArgsAt a0 a4 a5 a6 a7 a8 a9 a10 a11 a12 a13 a14 a15 a16 a17 a18 a19 X W B Q)
    (e0 : z0 = a0) (e4 : z4 = a4) (e5 : z5 = a5) (e6 : z6 = a6) (e7 : z7 = a7) (e8 : z8 = a8) (e9 : z9 = a9) (e10 : z10 = a10) (e11 : z11 = a11) (e12 : z12 = a12) (e13 : z13 = a13) (e14 : z14 = a14) (e15 : z15 = a15) (e16 : z16 = a16) (e17 : z17 = a17) (e18 : z18 = a18) (e19 : z19 = a19) :
    ArgsAt z0 z4 z5 z6 z7 z8 z9 z10 z11 z12 z13 z14 z15 z16 z17 z18 z19 X W B Q := by
  subst e0 e4 e5 e6 e7 e8 e9 e10 e11 e12 e13 e14 e15 e16 e17 e18 e19
  exact H

/-- The two results are one array, where the arguments agree and are finite. -/
theorem results_eq [Cert.Pre_finite.Facts] (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_finite m)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (e19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (e20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (e21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Ref.rOut (launchContents m' c) = transpose Cert.KernelIdeal.S8x96x8 [0, 2, 1] (Cert.KernelIdeal.Value.reg_main_v13 m c : FVec Ideal Cert.KernelIdeal.S8x8x96 .f32)
      Cert.KernelIdeal.Facts₀.transposes_S8x8x96_S8x96x8_0_2_1 := by
  obtain ⟨X, W, B, Q, H⟩ := args_of_finite (h := hpre c)
  obtain ⟨E, hk, hr⟩ := exists_table
  have H' := H.along e0 e4 e5 e6 e7 e8 e9 e10 e11 e12 e13 e14 e15 e16 e17 e18 e19
  refine funext fun i => ?_
  rw [eq_ix3 (n0 := 8) (n1 := 96) (n2 := 8) i]
  refine (Ref.rOut_real (launchContents m' c) X W B E Q H' hr _ _ _).trans (Eq.trans ?_ (result_out m c X W B E Q H hk _ _ _).symm)
  refine congrArg₂ (fun (hb : FVec Ideal Cert.KernelIdeal.S96 .f32) (hw : FVec Ideal Cert.KernelIdeal.S8192x96 .f32) =>
    forecast (tokens Q W B E (X (i 0))) (X (i 0)) (fun p => hb (ix1 p)) (fun n d p => hw (ix2 ⟨n.val * 128 + d.val, by omega⟩ p)) (i 2) (i 1)) e21 e20

/-- From finite inputs the kernel and the reference end with the same result. -/
theorem algebraic [Cert.Pre_finite.Facts] : Cert.algebraic_KernelIdeal_ReferenceIdeal_pre_finite := by
  intro m g m' g' hpre hagree
  refine ⟨fun c => transpose Cert.KernelIdeal.S8x96x8 [0, 2, 1] (Cert.KernelIdeal.Value.reg_main_v13 m c : FVec Ideal Cert.KernelIdeal.S8x8x96 .f32)
      Cert.KernelIdeal.Facts₀.transposes_S8x8x96_S8x96x8_0_2_1, Cert.KernelIdeal.Value.run m g,
    θ_run_mono (Cert.ReferenceIdeal.Value.run m' g') fun r h c => ⟨(h c).1.trans ?_, (h c).2⟩⟩
  obtain ⟨e0, e1, e2, e3, e4, e5, e6, e7, e8, e9, e10, e11, e12, e13, e14, e15, e16, e17, e18, e19, e20, e21⟩ := hagree c
  exact results_eq m m' hpre c e0 e4 e5 e6 e7 e8 e9 e10 e11 e12 e13 e14 e15 e16 e17 e18 e19 e20 e21

/-- The reference ends with its arguments unchanged and no semaphore raised. -/
theorem reference_frame : Cert.quiescent_ReferenceIdeal := fun m g _ =>
  θ_run_mono (Cert.ReferenceIdeal.Value.run m g) fun r h => ⟨fun c => (h c).2, sem_eq_zero_of_no_sems (by decide) r.2⟩

theorem reference_frame_finite [Cert.Pre_finite.Facts] : Cert.quiescent_ReferenceIdeal_pre_finite := fun m g _ =>
  θ_run_mono (Cert.ReferenceIdeal.Value.run m g) fun r h => ⟨fun c => (h c).2, sem_eq_zero_of_no_sems (by decide) r.2⟩

end Patch
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Run
public import proofs.«01_k».proof.Proof.Equal
public import Idealize.ShloMosaic.Adequacy
public import Idealize.ShloMosaic.Init

@[expose] public section

noncomputable section

namespace Cert.Proof

open Idealize.ShloMosaic Idealize.SL.Sem

/-- The programs end with their arguments unchanged and their counters at zero, and from finite inputs the kernel's
    result is the reference's. -/
theorem claim : Cert.Claim :=
  ⟨Cert.Kernel.Gen.facts, Cert.KernelIdeal.Gen.facts, Cert.ReferenceIdeal.Gen.facts, Patch.finite_facts,
    fun m ρ _ => Cert.Kernel.Gen.frame m ρ, fun m ρ _ => Cert.KernelIdeal.Gen.frame m ρ, fun m ρ _ => Cert.KernelIdeal.Gen.frame m ρ,
    Patch.reference_frame, @Patch.reference_frame_finite Patch.finite_facts, trivial, @Patch.algebraic Patch.finite_facts⟩

end Cert.Proof

end
